-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.block ⟨2, ![4096, 128]⟩ ⟨2, ![4096, 4096]⟩ 1 32 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = Layout.block ⟨2, ![128, 2048]⟩ ⟨2, ![4096, 2048]⟩ 0 32 c (m' (((0 : Dev Cert.ReferenceIdeal.nD).tc : Thread Cert.ReferenceIdeal.nD Cert.ReferenceIdeal.τ).loc Cert.ReferenceIdeal.main_arg1))
      ∧ m ((c.tc : Thread Cert.KernelIdeal.nD Cert.KernelIdeal.τ).loc Cert.KernelIdeal.main_arg2) = m' (((0 : Dev Cert.ReferenceIdeal.nD).tc : Thread Cert.ReferenceIdeal.nD Cert.ReferenceIdeal.τ).loc Cert.ReferenceIdeal.main_arg2)
      ∧ m ((c.tc : Thread Cert.KernelIdeal.nD Cert.KernelIdeal.τ).loc Cert.KernelIdeal.main_arg3) = m' (((0 : Dev Cert.ReferenceIdeal.nD).tc : Thread Cert.ReferenceIdeal.nD Cert.ReferenceIdeal.τ).loc Cert.ReferenceIdeal.main_arg3)) →
    ∃ (v0 : Buf (Elt Ideal) (((0 : Dev Cert.ReferenceIdeal.nD).tc : Thread Cert.ReferenceIdeal.nD Cert.ReferenceIdeal.τ).loc Cert.ReferenceIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.block ⟨2, ![128, 2048]⟩ ⟨2, ![4096, 2048]⟩ 0 32 c v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v0) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)
          ∧ r.2.mem (((0 : Dev Cert.ReferenceIdeal.nD).tc : Thread Cert.ReferenceIdeal.nD Cert.ReferenceIdeal.τ).loc Cert.ReferenceIdeal.main_arg2) = m' (((0 : Dev Cert.ReferenceIdeal.nD).tc : Thread Cert.ReferenceIdeal.nD Cert.ReferenceIdeal.τ).loc Cert.ReferenceIdeal.main_arg2)
          ∧ r.2.mem (((0 : Dev Cert.ReferenceIdeal.nD).tc : Thread Cert.ReferenceIdeal.nD Cert.ReferenceIdeal.τ).loc Cert.ReferenceIdeal.main_arg3) = m' (((0 : Dev Cert.ReferenceIdeal.nD).tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S4096x128 : Shape := ⟨2, ![4096, 128]⟩
abbrev S128x2048 : Shape := ⟨2, ![128, 2048]⟩
abbrev S1 : Shape := ⟨1, ![1]⟩
abbrev S4x4x128x1024 : Shape := ⟨4, ![4, 4, 128, 1024]⟩
abbrev S4x128x1024 : Shape := ⟨3, ![4, 128, 1024]⟩
abbrev S4 : Shape := ⟨1, ![4]⟩
abbrev S_ : Shape := ⟨0, ![]⟩
abbrev S128x128 : Shape := ⟨2, ![128, 128]⟩
abbrev S128x1024 : Shape := ⟨2, ![128, 1024]⟩
abbrev S1x1x128x1024 : Shape := ⟨4, ![1, 1, 128, 1024]⟩
abbrev S1x4x128x1024 : Shape := ⟨4, ![1, 4, 128, 1024]⟩
abbrev S1x128x1024 : Shape := ⟨3, ![1, 128, 1024]⟩

abbrev nBuf : Space → Nat
  | .hbm => 5
  | .vmem => 9
  | .smem => 2
  | _ => 0

abbrev bufTy : (tb : Table) → Fin (tcTables nBuf tb) → BufTy
  | .hbm, ⟨0, _⟩ => ⟨S4096x128, .fp8e4m3⟩
  | .hbm, ⟨1, _⟩ => ⟨S128x2048, .fp8e5m2⟩
  | .hbm, ⟨2, _⟩ => ⟨S1, .f32⟩
  | .hbm, ⟨3, _⟩ => ⟨S1, .f32⟩
  | .hbm, ⟨4, _⟩ => ⟨S128x2048, .f32⟩
  | .local _ .vmem, ⟨0, _⟩ => ⟨S4096x128, .fp8e4m3⟩
  | .local _ .vmem, ⟨1, _⟩ => ⟨S128x2048, .fp8e5m2⟩
  | .local _ .vmem, ⟨2, _⟩ => ⟨S128x2048, .f32⟩
  | .local _ .vmem, ⟨3, _⟩ => ⟨S4x4x128x1024, .bf16⟩
  | .local _ .vmem, ⟨4, _⟩ => ⟨S4x4x128x1024, .bf16⟩
  | .local _ .vmem, ⟨5, _⟩ => ⟨S4x128x1024, .f32⟩
  | .local _ .vmem, ⟨6, _⟩ => ⟨S4x128x1024, .f32⟩
  | .local _ .vmem, ⟨7, _⟩ => ⟨S4x128x1024, .bf16⟩
  | .local _ .vmem, ⟨8, _⟩ => ⟨S4x128x1024, .bf16⟩
  | .local _ .smem, ⟨0, _⟩ => ⟨S1, .f32⟩
  | .local _ .smem, ⟨1, _⟩ => ⟨S1, .f32⟩
  | _, _ => ⟨S4096x128, .fp8e4m3⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .smem, ⟨0, _⟩ => true
  | .smem, ⟨1, _⟩ => true
  | _, _ => false

abbrev semScoped : Fin 3 → Bool
  | ⟨0, _⟩ => true
  | ⟨1, _⟩ => true
  | ⟨2, _⟩ => false
  | _ => false

abbrev dmaSemScoped : Fin 37 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | _ => false

abbrev sig : RefSig :=
  (ofTc nBuf bufTy 3 37 bufScoped semScoped dmaSemScoped tileCredit tileCredit_eq_zero tileCredit_pos).withBarriers [(0, 2)]

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v1 : Ref sig .tc := ⟨.hbm, 4, rfl⟩
abbrev cc0_stg0_0 : Ref sig .tc := ⟨.vmem, 0, rfl⟩
abbrev cc0_stg1_0 : Ref sig .tc := ⟨.vmem, 1, rfl⟩
abbrev cc0_stg4_0 : Ref sig .tc := ⟨.vmem, 2, rfl⟩
abbrev cc0_scratch0 : Ref sig .tc := ⟨.vmem, 3, rfl⟩
abbrev cc0_scratch1 : Ref sig .tc := ⟨.vmem, 4, rfl⟩
abbrev cc0_scratch2 : Ref sig .tc := ⟨.vmem, 5, rfl⟩
abbrev cc0_scratch3 : Ref sig .tc := ⟨.vmem, 6, rfl⟩
abbrev cc0_scratch4 : Ref sig .tc := ⟨.vmem, 7, rfl⟩
abbrev cc0_scratch5 : Ref sig .tc := ⟨.vmem, 8, rfl⟩
abbrev cc0_stg2_0 : Ref sig .tc := ⟨.smem, 0, rfl⟩
abbrev cc0_stg3_0 : Ref sig .tc := ⟨.smem, 1, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev barrier0 : Sem sig := 2

abbrev nD : Nat := 32
abbrev τ : Topo := Topo.v7x

variable {F : FTy → Type} [FloatOps F]

abbrev grid0 : Pipeline.Grid := .none

def k0_dev1 (d0 : Dev nD) : Nat :=
  let c0_i32 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_0 : BitVec 32 := 8#32
  let v4 : BitVec 32 := Scalar.divsi v2 c8_i32_0
  let c8_i32_4 : BitVec 32 := 8#32
  let v9 : BitVec 32 := Scalar.muli v4 c8_i32_4
  let c8_i32 : BitVec 32 := 8#32
  let v3 : BitVec 32 := Scalar.remsi v2 c8_i32
  let c8_i32_5 : BitVec 32 := 8#32
  let v10 : BitVec 32 := Scalar.addi v3 c8_i32_5
  let c1_i32_6 : BitVec 32 := 1#32
  let v11 : BitVec 32 := Scalar.subi v10 c1_i32_6
  let c8_i32_7 : BitVec 32 := 8#32
  let v12 : BitVec 32 := Scalar.remsi v11 c8_i32_7
  let v13 : BitVec 32 := Scalar.addi v9 v12
  let c1_i32_15 : BitVec 32 := 1#32
  let v24 : BitVec 32 := Scalar.muli v13 c1_i32_15
  let v25 : BitVec 32 := Scalar.addi c0_i32 v24
  v25.toNat
def k0_dev2 (d0 : Dev nD) : Nat :=
  let c0_i32_18 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_0 : BitVec 32 := 8#32
  let v4 : BitVec 32 := Scalar.divsi v2 c8_i32_0
  let c8_i32_1 : BitVec 32 := 8#32
  let v5 : BitVec 32 := Scalar.muli v4 c8_i32_1
  let c8_i32 : BitVec 32 := 8#32
  let v3 : BitVec 32 := Scalar.remsi v2 c8_i32
  let c1_i32_2 : BitVec 32 := 1#32
  let v6 : BitVec 32 := Scalar.addi v3 c1_i32_2
  let c8_i32_3 : BitVec 32 := 8#32
  let v7 : BitVec 32 := Scalar.remsi v6 c8_i32_3
  let v8 : BitVec 32 := Scalar.addi v5 v7
  let c1_i32_17 : BitVec 32 := 1#32
  let v26 : BitVec 32 := Scalar.muli v8 c1_i32_17
  let v27 : BitVec 32 := Scalar.addi c0_i32_18 v26
  v27.toNat
def k0_dev3 (d0 : Dev nD) : Nat :=
  let c0_i32_21 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_0 : BitVec 32 := 8#32
  let v4 : BitVec 32 := Scalar.divsi v2 c8_i32_0
  let c1_i32_8 : BitVec 32 := 1#32
  let v14 : BitVec 32 := Scalar.addi v4 c1_i32_8
  let c4_i32 : BitVec 32 := 4#32
  let v15 : BitVec 32 := Scalar.remsi v14 c4_i32
  let c8_i32_9 : BitVec 32 := 8#32
  let v16 : BitVec 32 := Scalar.muli v15 c8_i32_9
  let c8_i32 : BitVec 32 := 8#32
  let v3 : BitVec 32 := Scalar.remsi v2 c8_i32
  let v17 : BitVec 32 := Scalar.addi v16 v3
  let c1_i32_20 : BitVec 32 := 1#32
  let v28 : BitVec 32 := Scalar.muli v17 c1_i32_20
  let v29 : BitVec 32 := Scalar.addi c0_i32_21 v28
  v29.toNat
def k0_dev4 (d0 : Dev nD) : Nat :=
  let c0_i32_24 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_0 : BitVec 32 := 8#32
  let v4 : BitVec 32 := Scalar.divsi v2 c8_i32_0
  let c4_i32_10 : BitVec 32 := 4#32
  let v18 : BitVec 32 := Scalar.addi v4 c4_i32_10
  let c1_i32_11 : BitVec 32 := 1#32
  let v19 : BitVec 32 := Scalar.subi v18 c1_i32_11
  let c4_i32_12 : BitVec 32 := 4#32
  let v20 : BitVec 32 := Scalar.remsi v19 c4_i32_12
  let c8_i32_13 : BitVec 32 := 8#32
  let v21 : BitVec 32 := Scalar.muli v20 c8_i32_13
  let c8_i32 : BitVec 32 := 8#32
  let v3 : BitVec 32 := Scalar.remsi v2 c8_i32
  let v22 : BitVec 32 := Scalar.addi v21 v3
  let c1_i32_23 : BitVec 32 := 1#32
  let v30 : BitVec 32 := Scalar.muli v22 c1_i32_23
  let v31 : BitVec 32 := Scalar.addi c0_i32_24 v30
  v31.toNat
def k0_off1 (d0 : Dev nD) (c0_i32_30 : BitVec 32) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32 : BitVec 32 := 8#32
  let v3 : BitVec 32 := Scalar.remsi v2 c8_i32
  let c8_i32_27 : BitVec 32 := 8#32
  let v35 : BitVec 32 := Scalar.addi v3 c8_i32_27
  let c1_i32_28 : BitVec 32 := 1#32
  let v36 : BitVec 32 := Scalar.subi v35 c1_i32_28
  let c8_i32_29 : BitVec 32 := 8#32
  let v37 : BitVec 32 := Scalar.remsi v36 c8_i32_29
  let v38 : BitVec 32 := Scalar.addi v37 c0_i32_30
  let c128_i32 : BitVec 32 := 128#32
  let v39 : BitVec 32 := Scalar.muli v38 c128_i32
  let v40 : Index := Scalar.indexCast v39
  let c0_31 : Index := 0#32
  ![v40.toNat, 0]
def k0_off2 (d0 : Dev nD) (c1_i32_55 : BitVec 32) (c0_i32_57 : BitVec 32) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32 : BitVec 32 := 8#32
  let v3 : BitVec 32 := Scalar.remsi v2 c8_i32
  let v86 : BitVec 32 := Scalar.addi v3 c1_i32_55
  let c8_i32_56 : BitVec 32 := 8#32
  let v87 : BitVec 32 := Scalar.remsi v86 c8_i32_56
  let v88 : BitVec 32 := Scalar.addi v87 c0_i32_57
  let c128_i32_58 : BitVec 32 := 128#32
  let v89 : BitVec 32 := Scalar.muli v88 c128_i32_58
  let v90 : Index := Scalar.indexCast v89
  let c0_59 : Index := 0#32
  ![v90.toNat, 0]
def k0_off2_at (r : Fin 32) : BitVec 32 × BitVec 32 :=
  if r.val < 16 then
    if r.val < 8 then
      if r.val < 4 then
        if r.val < 2 then
          if r.val < 1 then
            (1#32, 0#32)
          else
            (1#32, 8#32)
        else
          if r.val < 3 then
            (1#32, 16#32)
          else
            (1#32, 24#32)
      else
        if r.val < 6 then
          if r.val < 5 then
            (14#32, 0#32)
          else
            (14#32, 8#32)
        else
          if r.val < 7 then
            (14#32, 16#32)
          else
            (14#32, 24#32)
    else
      if r.val < 12 then
        if r.val < 10 then
          if r.val < 9 then
            (13#32, 0#32)
          else
            (13#32, 8#32)
        else
          if r.val < 11 then
            (13#32, 16#32)
          else
            (13#32, 24#32)
      else
        if r.val < 14 then
          if r.val < 13 then
            (12#32, 0#32)
          else
            (12#32, 8#32)
        else
          if r.val < 15 then
            (12#32, 16#32)
          else
            (12#32, 24#32)
  else
    if r.val < 24 then
      if r.val < 20 then
        if r.val < 18 then
          if r.val < 17 then
            (11#32, 0#32)
          else
            (11#32, 8#32)
        else
          if r.val < 19 then
            (11#32, 16#32)
          else
            (11#32, 24#32)
      else
        if r.val < 22 then
          if r.val < 21 then
            (10#32, 0#32)
          else
            (10#32, 8#32)
        else
          if r.val < 23 then
            (10#32, 16#32)
          else
            (10#32, 24#32)
    else
      if r.val < 28 then
        if r.val < 26 then
          if r.val < 25 then
            (9#32, 0#32)
          else
            (9#32, 8#32)
        else
          if r.val < 27 then
            (9#32, 16#32)
          else
            (9#32, 24#32)
      else
        if r.val < 30 then
          if r.val < 29 then
            (8#32, 0#32)
          else
            (8#32, 8#32)
        else
          if r.val < 31 then
            (8#32, 16#32)
          else
            (8#32, 24#32)
def k0_dev5 (d0 : Dev nD) : Nat :=
  let c0_i32_94 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_0 : BitVec 32 := 8#32
  let v4 : BitVec 32 := Scalar.divsi v2 c8_i32_0
  let c8_i32_1 : BitVec 32 := 8#32
  let v5 : BitVec 32 := Scalar.muli v4 c8_i32_1
  let c8_i32 : BitVec 32 := 8#32
  let v3 : BitVec 32 := Scalar.remsi v2 c8_i32
  let c1_i32_2 : BitVec 32 := 1#32
  let v6 : BitVec 32 := Scalar.addi v3 c1_i32_2
  let c8_i32_3 : BitVec 32 := 8#32
  let v7 : BitVec 32 := Scalar.remsi v6 c8_i32_3
  let v8 : BitVec 32 := Scalar.addi v5 v7
  let c1_i32_93 : BitVec 32 := 1#32
  let v136 : BitVec 32 := Scalar.muli v8 c1_i32_93
  let v137 : BitVec 32 := Scalar.addi c0_i32_94 v136
  v137.toNat
def k0_dev6 (d0 : Dev nD) : Nat :=
  let c0_i32_106 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_0 : BitVec 32 := 8#32
  let v4 : BitVec 32 := Scalar.divsi v2 c8_i32_0
  let c8_i32_4 : BitVec 32 := 8#32
  let v9 : BitVec 32 := Scalar.muli v4 c8_i32_4
  let c8_i32 : BitVec 32 := 8#32
  let v3 : BitVec 32 := Scalar.remsi v2 c8_i32
  let c8_i32_5 : BitVec 32 := 8#32
  let v10 : BitVec 32 := Scalar.addi v3 c8_i32_5
  let c1_i32_6 : BitVec 32 := 1#32
  let v11 : BitVec 32 := Scalar.subi v10 c1_i32_6
  let c8_i32_7 : BitVec 32 := 8#32
  let v12 : BitVec 32 := Scalar.remsi v11 c8_i32_7
  let v13 : BitVec 32 := Scalar.addi v9 v12
  let c1_i32_105 : BitVec 32 := 1#32
  let v146 : BitVec 32 := Scalar.muli v13 c1_i32_105
  let v147 : BitVec 32 := Scalar.addi c0_i32_106 v146
  v147.toNat
def k0_off3 (d0 : Dev nD) (c0_i32_114 : BitVec 32) (c0_i32_132 : BitVec 32) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32 : BitVec 32 := 8#32
  let v3 : BitVec 32 := Scalar.remsi v2 c8_i32
  let c2_i32 : BitVec 32 := 2#32
  let v158 : BitVec 32 := Scalar.addi v3 c2_i32
  let v159 : BitVec 32 := Scalar.addi v158 c0_i32_114
  let c8_i32_115 : BitVec 32 := 8#32
  let v160 : BitVec 32 := Scalar.remsi v159 c8_i32_115
  let v193 : BitVec 32 := Scalar.addi v160 c0_i32_132
  let c128_i32_133 : BitVec 32 := 128#32
  let v194 : BitVec 32 := Scalar.muli v193 c128_i32_133
  let v195 : Index := Scalar.indexCast v194
  let c0_134 : Index := 0#32
  ![v195.toNat, 0]
def k0_dev7 (d0 : Dev nD) : Nat :=
  let c0_i32_241 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_0 : BitVec 32 := 8#32
  let v4 : BitVec 32 := Scalar.divsi v2 c8_i32_0
  let c8_i32_1 : BitVec 32 := 8#32
  let v5 : BitVec 32 := Scalar.muli v4 c8_i32_1
  let c8_i32 : BitVec 32 := 8#32
  let v3 : BitVec 32 := Scalar.remsi v2 c8_i32
  let c1_i32_2 : BitVec 32 := 1#32
  let v6 : BitVec 32 := Scalar.addi v3 c1_i32_2
  let c8_i32_3 : BitVec 32 := 8#32
  let v7 : BitVec 32 := Scalar.remsi v6 c8_i32_3
  let v8 : BitVec 32 := Scalar.addi v5 v7
  let c1_i32_240 : BitVec 32 := 1#32
  let v305 : BitVec 32 := Scalar.muli v8 c1_i32_240
  let v306 : BitVec 32 := Scalar.addi c0_i32_241 v305
  v306.toNat
def k0_dev8 (d0 : Dev nD) : Nat :=
  let c0_i32_253 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_0 : BitVec 32 := 8#32
  let v4 : BitVec 32 := Scalar.divsi v2 c8_i32_0
  let c8_i32_4 : BitVec 32 := 8#32
  let v9 : BitVec 32 := Scalar.muli v4 c8_i32_4
  let c8_i32 : BitVec 32 := 8#32
  let v3 : BitVec 32 := Scalar.remsi v2 c8_i32
  let c8_i32_5 : BitVec 32 := 8#32
  let v10 : BitVec 32 := Scalar.addi v3 c8_i32_5
  let c1_i32_6 : BitVec 32 := 1#32
  let v11 : BitVec 32 := Scalar.subi v10 c1_i32_6
  let c8_i32_7 : BitVec 32 := 8#32
  let v12 : BitVec 32 := Scalar.remsi v11 c8_i32_7
  let v13 : BitVec 32 := Scalar.addi v9 v12
  let c1_i32_252 : BitVec 32 := 1#32
  let v315 : BitVec 32 := Scalar.muli v13 c1_i32_252
  let v316 : BitVec 32 := Scalar.addi c0_i32_253 v315
  v316.toNat
def k0_dev9 (d0 : Dev nD) : Nat :=
  let c0_i32_320 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_0 : BitVec 32 := 8#32
  let v4 : BitVec 32 := Scalar.divsi v2 c8_i32_0
  let c8_i32_4 : BitVec 32 := 8#32
  let v9 : BitVec 32 := Scalar.muli v4 c8_i32_4
  let c8_i32 : BitVec 32 := 8#32
  let v3 : BitVec 32 := Scalar.remsi v2 c8_i32
  let c8_i32_5 : BitVec 32 := 8#32
  let v10 : BitVec 32 := Scalar.addi v3 c8_i32_5
  let c1_i32_6 : BitVec 32 := 1#32
  let v11 : BitVec 32 := Scalar.subi v10 c1_i32_6
  let c8_i32_7 : BitVec 32 := 8#32
  let v12 : BitVec 32 := Scalar.remsi v11 c8_i32_7
  let v13 : BitVec 32 := Scalar.addi v9 v12
  let c1_i32_319 : BitVec 32 := 1#32
  let v406 : BitVec 32 := Scalar.muli v13 c1_i32_319
  let v407 : BitVec 32 := Scalar.addi c0_i32_320 v406
  v407.toNat
def k0_dev10 (d0 : Dev nD) : Nat :=
  let c0_i32_323 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_0 : BitVec 32 := 8#32
  let v4 : BitVec 32 := Scalar.divsi v2 c8_i32_0
  let c8_i32_1 : BitVec 32 := 8#32
  let v5 : BitVec 32 := Scalar.muli v4 c8_i32_1
  let c8_i32 : BitVec 32 := 8#32
  let v3 : BitVec 32 := Scalar.remsi v2 c8_i32
  let c1_i32_2 : BitVec 32 := 1#32
  let v6 : BitVec 32 := Scalar.addi v3 c1_i32_2
  let c8_i32_3 : BitVec 32 := 8#32
  let v7 : BitVec 32 := Scalar.remsi v6 c8_i32_3
  let v8 : BitVec 32 := Scalar.addi v5 v7
  let c1_i32_322 : BitVec 32 := 1#32
  let v408 : BitVec 32 := Scalar.muli v8 c1_i32_322
  let v409 : BitVec 32 := Scalar.addi c0_i32_323 v408
  v409.toNat
def k0_dev11 (d0 : Dev nD) : Nat :=
  let c0_i32_416 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_0 : BitVec 32 := 8#32
  let v4 : BitVec 32 := Scalar.divsi v2 c8_i32_0
  let c8_i32_1 : BitVec 32 := 8#32
  let v5 : BitVec 32 := Scalar.muli v4 c8_i32_1
  let c8_i32 : BitVec 32 := 8#32
  let v3 : BitVec 32 := Scalar.remsi v2 c8_i32
  let c1_i32_2 : BitVec 32 := 1#32
  let v6 : BitVec 32 := Scalar.addi v3 c1_i32_2
  let c8_i32_3 : BitVec 32 := 8#32
  let v7 : BitVec 32 := Scalar.remsi v6 c8_i32_3
  let v8 : BitVec 32 := Scalar.addi v5 v7
  let c1_i32_415 : BitVec 32 := 1#32
  let v490 : BitVec 32 := Scalar.muli v8 c1_i32_415
  let v491 : BitVec 32 := Scalar.addi c0_i32_416 v490
  v491.toNat
def k0_dev12 (d0 : Dev nD) : Nat :=
  let c0_i32_428 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_0 : BitVec 32 := 8#32
  let v4 : BitVec 32 := Scalar.divsi v2 c8_i32_0
  let c8_i32_4 : BitVec 32 := 8#32
  let v9 : BitVec 32 := Scalar.muli v4 c8_i32_4
  let c8_i32 : BitVec 32 := 8#32
  let v3 : BitVec 32 := Scalar.remsi v2 c8_i32
  let c8_i32_5 : BitVec 32 := 8#32
  let v10 : BitVec 32 := Scalar.addi v3 c8_i32_5
  let c1_i32_6 : BitVec 32 := 1#32
  let v11 : BitVec 32 := Scalar.subi v10 c1_i32_6
  let c8_i32_7 : BitVec 32 := 8#32
  let v12 : BitVec 32 := Scalar.remsi v11 c8_i32_7
  let v13 : BitVec 32 := Scalar.addi v9 v12
  let c1_i32_427 : BitVec 32 := 1#32
  let v500 : BitVec 32 := Scalar.muli v13 c1_i32_427
  let v501 : BitVec 32 := Scalar.addi c0_i32_428 v500
  v501.toNat
def k0_dev13 (d0 : Dev nD) : Nat :=
  let c0_i32_495 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_0 : BitVec 32 := 8#32
  let v4 : BitVec 32 := Scalar.divsi v2 c8_i32_0
  let c8_i32_4 : BitVec 32 := 8#32
  let v9 : BitVec 32 := Scalar.muli v4 c8_i32_4
  let c8_i32 : BitVec 32 := 8#32
  let v3 : BitVec 32 := Scalar.remsi v2 c8_i32
  let c8_i32_5 : BitVec 32 := 8#32
  let v10 : BitVec 32 := Scalar.addi v3 c8_i32_5
  let c1_i32_6 : BitVec 32 := 1#32
  let v11 : BitVec 32 := Scalar.subi v10 c1_i32_6
  let c8_i32_7 : BitVec 32 := 8#32
  let v12 : BitVec 32 := Scalar.remsi v11 c8_i32_7
  let v13 : BitVec 32 := Scalar.addi v9 v12
  let c1_i32_494 : BitVec 32 := 1#32
  let v591 : BitVec 32 := Scalar.muli v13 c1_i32_494
  let v592 : BitVec 32 := Scalar.addi c0_i32_495 v591
  v592.toNat
def k0_dev14 (d0 : Dev nD) : Nat :=
  let c0_i32_498 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_0 : BitVec 32 := 8#32
  let v4 : BitVec 32 := Scalar.divsi v2 c8_i32_0
  let c8_i32_1 : BitVec 32 := 8#32
  let v5 : BitVec 32 := Scalar.muli v4 c8_i32_1
  let c8_i32 : BitVec 32 := 8#32
  let v3 : BitVec 32 := Scalar.remsi v2 c8_i32
  let c1_i32_2 : BitVec 32 := 1#32
  let v6 : BitVec 32 := Scalar.addi v3 c1_i32_2
  let c8_i32_3 : BitVec 32 := 8#32
  let v7 : BitVec 32 := Scalar.remsi v6 c8_i32_3
  let v8 : BitVec 32 := Scalar.addi v5 v7
  let c1_i32_497 : BitVec 32 := 1#32
  let v593 : BitVec 32 := Scalar.muli v8 c1_i32_497
  let v594 : BitVec 32 := Scalar.addi c0_i32_498 v593
  v594.toNat
def k0_dev15 (d0 : Dev nD) : Nat :=
  let c0_i32_596 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_0 : BitVec 32 := 8#32
  let v4 : BitVec 32 := Scalar.divsi v2 c8_i32_0
  let c8_i32_1 : BitVec 32 := 8#32
  let v5 : BitVec 32 := Scalar.muli v4 c8_i32_1
  let c8_i32 : BitVec 32 := 8#32
  let v3 : BitVec 32 := Scalar.remsi v2 c8_i32
  let c1_i32_2 : BitVec 32 := 1#32
  let v6 : BitVec 32 := Scalar.addi v3 c1_i32_2
  let c8_i32_3 : BitVec 32 := 8#32
  let v7 : BitVec 32 := Scalar.remsi v6 c8_i32_3
  let v8 : BitVec 32 := Scalar.addi v5 v7
  let c1_i32_595 : BitVec 32 := 1#32
  let v675 : BitVec 32 := Scalar.muli v8 c1_i32_595
  let v676 : BitVec 32 := Scalar.addi c0_i32_596 v675
  v676.toNat
def k0_dev16 (d0 : Dev nD) : Nat :=
  let c0_i32_608 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_0 : BitVec 32 := 8#32
  let v4 : BitVec 32 := Scalar.divsi v2 c8_i32_0
  let c8_i32_4 : BitVec 32 := 8#32
  let v9 : BitVec 32 := Scalar.muli v4 c8_i32_4
  let c8_i32 : BitVec 32 := 8#32
  let v3 : BitVec 32 := Scalar.remsi v2 c8_i32
  let c8_i32_5 : BitVec 32 := 8#32
  let v10 : BitVec 32 := Scalar.addi v3 c8_i32_5
  let c1_i32_6 : BitVec 32 := 1#32
  let v11 : BitVec 32 := Scalar.subi v10 c1_i32_6
  let c8_i32_7 : BitVec 32 := 8#32
  let v12 : BitVec 32 := Scalar.remsi v11 c8_i32_7
  let v13 : BitVec 32 := Scalar.addi v9 v12
  let c1_i32_607 : BitVec 32 := 1#32
  let v685 : BitVec 32 := Scalar.muli v13 c1_i32_607
  let v686 : BitVec 32 := Scalar.addi c0_i32_608 v685
  v686.toNat
def k0_dev17 (d0 : Dev nD) : Nat :=
  let c0_i32_675 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_0 : BitVec 32 := 8#32
  let v4 : BitVec 32 := Scalar.divsi v2 c8_i32_0
  let c8_i32_4 : BitVec 32 := 8#32
  let v9 : BitVec 32 := Scalar.muli v4 c8_i32_4
  let c8_i32 : BitVec 32 := 8#32
  let v3 : BitVec 32 := Scalar.remsi v2 c8_i32
  let c8_i32_5 : BitVec 32 := 8#32
  let v10 : BitVec 32 := Scalar.addi v3 c8_i32_5
  let c1_i32_6 : BitVec 32 := 1#32
  let v11 : BitVec 32 := Scalar.subi v10 c1_i32_6
  let c8_i32_7 : BitVec 32 := 8#32
  let v12 : BitVec 32 := Scalar.remsi v11 c8_i32_7
  let v13 : BitVec 32 := Scalar.addi v9 v12
  let c1_i32_674 : BitVec 32 := 1#32
  let v776 : BitVec 32 := Scalar.muli v13 c1_i32_674
  let v777 : BitVec 32 := Scalar.addi c0_i32_675 v776
  v777.toNat
def k0_dev18 (d0 : Dev nD) : Nat :=
  let c0_i32_678 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_0 : BitVec 32 := 8#32
  let v4 : BitVec 32 := Scalar.divsi v2 c8_i32_0
  let c8_i32_1 : BitVec 32 := 8#32
  let v5 : BitVec 32 := Scalar.muli v4 c8_i32_1
  let c8_i32 : BitVec 32 := 8#32
  let v3 : BitVec 32 := Scalar.remsi v2 c8_i32
  let c1_i32_2 : BitVec 32 := 1#32
  let v6 : BitVec 32 := Scalar.addi v3 c1_i32_2
  let c8_i32_3 : BitVec 32 := 8#32
  let v7 : BitVec 32 := Scalar.remsi v6 c8_i32_3
  let v8 : BitVec 32 := Scalar.addi v5 v7
  let c1_i32_677 : BitVec 32 := 1#32
  let v778 : BitVec 32 := Scalar.muli v8 c1_i32_677
  let v779 : BitVec 32 := Scalar.addi c0_i32_678 v778
  v779.toNat
def k0_dev19 (d0 : Dev nD) : Nat :=
  let c0_i32_776 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_0 : BitVec 32 := 8#32
  let v4 : BitVec 32 := Scalar.divsi v2 c8_i32_0
  let c8_i32_1 : BitVec 32 := 8#32
  let v5 : BitVec 32 := Scalar.muli v4 c8_i32_1
  let c8_i32 : BitVec 32 := 8#32
  let v3 : BitVec 32 := Scalar.remsi v2 c8_i32
  let c1_i32_2 : BitVec 32 := 1#32
  let v6 : BitVec 32 := Scalar.addi v3 c1_i32_2
  let c8_i32_3 : BitVec 32 := 8#32
  let v7 : BitVec 32 := Scalar.remsi v6 c8_i32_3
  let v8 : BitVec 32 := Scalar.addi v5 v7
  let c1_i32_775 : BitVec 32 := 1#32
  let v860 : BitVec 32 := Scalar.muli v8 c1_i32_775
  let v861 : BitVec 32 := Scalar.addi c0_i32_776 v860
  v861.toNat
def k0_dev20 (d0 : Dev nD) : Nat :=
  let c0_i32_788 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_0 : BitVec 32 := 8#32
  let v4 : BitVec 32 := Scalar.divsi v2 c8_i32_0
  let c8_i32_4 : BitVec 32 := 8#32
  let v9 : BitVec 32 := Scalar.muli v4 c8_i32_4
  let c8_i32 : BitVec 32 := 8#32
  let v3 : BitVec 32 := Scalar.remsi v2 c8_i32
  let c8_i32_5 : BitVec 32 := 8#32
  let v10 : BitVec 32 := Scalar.addi v3 c8_i32_5
  let c1_i32_6 : BitVec 32 := 1#32
  let v11 : BitVec 32 := Scalar.subi v10 c1_i32_6
  let c8_i32_7 : BitVec 32 := 8#32
  let v12 : BitVec 32 := Scalar.remsi v11 c8_i32_7
  let v13 : BitVec 32 := Scalar.addi v9 v12
  let c1_i32_787 : BitVec 32 := 1#32
  let v870 : BitVec 32 := Scalar.muli v13 c1_i32_787
  let v871 : BitVec 32 := Scalar.addi c0_i32_788 v870
  v871.toNat
def k0_dev21 (d0 : Dev nD) : Nat :=
  let c0_i32_855 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_0 : BitVec 32 := 8#32
  let v4 : BitVec 32 := Scalar.divsi v2 c8_i32_0
  let c8_i32_4 : BitVec 32 := 8#32
  let v9 : BitVec 32 := Scalar.muli v4 c8_i32_4
  let c8_i32 : BitVec 32 := 8#32
  let v3 : BitVec 32 := Scalar.remsi v2 c8_i32
  let c8_i32_5 : BitVec 32 := 8#32
  let v10 : BitVec 32 := Scalar.addi v3 c8_i32_5
  let c1_i32_6 : BitVec 32 := 1#32
  let v11 : BitVec 32 := Scalar.subi v10 c1_i32_6
  let c8_i32_7 : BitVec 32 := 8#32
  let v12 : BitVec 32 := Scalar.remsi v11 c8_i32_7
  let v13 : BitVec 32 := Scalar.addi v9 v12
  let c1_i32_854 : BitVec 32 := 1#32
  let v961 : BitVec 32 := Scalar.muli v13 c1_i32_854
  let v962 : BitVec 32 := Scalar.addi c0_i32_855 v961
  v962.toNat
def k0_dev22 (d0 : Dev nD) : Nat :=
  let c0_i32_858 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_0 : BitVec 32 := 8#32
  let v4 : BitVec 32 := Scalar.divsi v2 c8_i32_0
  let c8_i32_1 : BitVec 32 := 8#32
  let v5 : BitVec 32 := Scalar.muli v4 c8_i32_1
  let c8_i32 : BitVec 32 := 8#32
  let v3 : BitVec 32 := Scalar.remsi v2 c8_i32
  let c1_i32_2 : BitVec 32 := 1#32
  let v6 : BitVec 32 := Scalar.addi v3 c1_i32_2
  let c8_i32_3 : BitVec 32 := 8#32
  let v7 : BitVec 32 := Scalar.remsi v6 c8_i32_3
  let v8 : BitVec 32 := Scalar.addi v5 v7
  let c1_i32_857 : BitVec 32 := 1#32
  let v963 : BitVec 32 := Scalar.muli v8 c1_i32_857
  let v964 : BitVec 32 := Scalar.addi c0_i32_858 v963
  v964.toNat
def k0_dev23 (d0 : Dev nD) : Nat :=
  let c0_i32_956 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_0 : BitVec 32 := 8#32
  let v4 : BitVec 32 := Scalar.divsi v2 c8_i32_0
  let c8_i32_1 : BitVec 32 := 8#32
  let v5 : BitVec 32 := Scalar.muli v4 c8_i32_1
  let c8_i32 : BitVec 32 := 8#32
  let v3 : BitVec 32 := Scalar.remsi v2 c8_i32
  let c1_i32_2 : BitVec 32 := 1#32
  let v6 : BitVec 32 := Scalar.addi v3 c1_i32_2
  let c8_i32_3 : BitVec 32 := 8#32
  let v7 : BitVec 32 := Scalar.remsi v6 c8_i32_3
  let v8 : BitVec 32 := Scalar.addi v5 v7
  let c1_i32_955 : BitVec 32 := 1#32
  let v1045 : BitVec 32 := Scalar.muli v8 c1_i32_955
  let v1046 : BitVec 32 := Scalar.addi c0_i32_956 v1045
  v1046.toNat
def k0_dev24 (d0 : Dev nD) : Nat :=
  let c0_i32_968 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_0 : BitVec 32 := 8#32
  let v4 : BitVec 32 := Scalar.divsi v2 c8_i32_0
  let c8_i32_4 : BitVec 32 := 8#32
  let v9 : BitVec 32 := Scalar.muli v4 c8_i32_4
  let c8_i32 : BitVec 32 := 8#32
  let v3 : BitVec 32 := Scalar.remsi v2 c8_i32
  let c8_i32_5 : BitVec 32 := 8#32
  let v10 : BitVec 32 := Scalar.addi v3 c8_i32_5
  let c1_i32_6 : BitVec 32 := 1#32
  let v11 : BitVec 32 := Scalar.subi v10 c1_i32_6
  let c8_i32_7 : BitVec 32 := 8#32
  let v12 : BitVec 32 := Scalar.remsi v11 c8_i32_7
  let v13 : BitVec 32 := Scalar.addi v9 v12
  let c1_i32_967 : BitVec 32 := 1#32
  let v1055 : BitVec 32 := Scalar.muli v13 c1_i32_967
  let v1056 : BitVec 32 := Scalar.addi c0_i32_968 v1055
  v1056.toNat
def k0_dev25 (d0 : Dev nD) : Nat :=
  let c0_i32_1129 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_0 : BitVec 32 := 8#32
  let v4 : BitVec 32 := Scalar.divsi v2 c8_i32_0
  let c8_i32_1 : BitVec 32 := 8#32
  let v5 : BitVec 32 := Scalar.muli v4 c8_i32_1
  let c8_i32 : BitVec 32 := 8#32
  let v3 : BitVec 32 := Scalar.remsi v2 c8_i32
  let c1_i32_2 : BitVec 32 := 1#32
  let v6 : BitVec 32 := Scalar.addi v3 c1_i32_2
  let c8_i32_3 : BitVec 32 := 8#32
  let v7 : BitVec 32 := Scalar.remsi v6 c8_i32_3
  let v8 : BitVec 32 := Scalar.addi v5 v7
  let c1_i32_1128 : BitVec 32 := 1#32
  let v1226 : BitVec 32 := Scalar.muli v8 c1_i32_1128
  let v1227 : BitVec 32 := Scalar.addi c0_i32_1129 v1226
  v1227.toNat
def k0_dev26 (d0 : Dev nD) : Nat :=
  let c0_i32_1141 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_0 : BitVec 32 := 8#32
  let v4 : BitVec 32 := Scalar.divsi v2 c8_i32_0
  let c8_i32_4 : BitVec 32 := 8#32
  let v9 : BitVec 32 := Scalar.muli v4 c8_i32_4
  let c8_i32 : BitVec 32 := 8#32
  let v3 : BitVec 32 := Scalar.remsi v2 c8_i32
  let c8_i32_5 : BitVec 32 := 8#32
  let v10 : BitVec 32 := Scalar.addi v3 c8_i32_5
  let c1_i32_6 : BitVec 32 := 1#32
  let v11 : BitVec 32 := Scalar.subi v10 c1_i32_6
  let c8_i32_7 : BitVec 32 := 8#32
  let v12 : BitVec 32 := Scalar.remsi v11 c8_i32_7
  let v13 : BitVec 32 := Scalar.addi v9 v12
  let c1_i32_1140 : BitVec 32 := 1#32
  let v1236 : BitVec 32 := Scalar.muli v13 c1_i32_1140
  let v1237 : BitVec 32 := Scalar.addi c0_i32_1141 v1236
  v1237.toNat
def k0_off4 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_0 : BitVec 32 := 8#32
  let v4 : BitVec 32 := Scalar.divsi v2 c8_i32_0
  let c4_i32_1308 : BitVec 32 := 4#32
  let v1411 : BitVec 32 := Scalar.addi v4 c4_i32_1308
  let c1_i32_1309 : BitVec 32 := 1#32
  let v1412 : BitVec 32 := Scalar.subi v1411 c1_i32_1309
  let c4_i32_1310 : BitVec 32 := 4#32
  let v1413 : BitVec 32 := Scalar.remsi v1412 c4_i32_1310
  let v1414 : Index := Scalar.indexCast v1413
  let c0_1311 : Index := 0#32
  let c0_1312 : Index := 0#32
  ![v1414.toNat, 0, 0]
def k0_off5 (d0 : Dev nD) (c1_i32_1316 : BitVec 32) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_0 : BitVec 32 := 8#32
  let v4 : BitVec 32 := Scalar.divsi v2 c8_i32_0
  let v1421 : BitVec 32 := Scalar.addi v4 c1_i32_1316
  let c4_i32_1317 : BitVec 32 := 4#32
  let v1422 : BitVec 32 := Scalar.remsi v1421 c4_i32_1317
  let v1423 : Index := Scalar.indexCast v1422
  let c0_1318 : Index := 0#32
  let c0_1319 : Index := 0#32
  ![v1423.toNat, 0, 0]
def k0_off5_at (r : Fin 4) : BitVec 32 :=
  if r.val < 2 then
    if r.val < 1 then
      1#32
    else
      6#32
  else
    if r.val < 3 then
      5#32
    else
      4#32
def k0_dev27 (d0 : Dev nD) : Nat :=
  let c0_i32_1328 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_0 : BitVec 32 := 8#32
  let v4 : BitVec 32 := Scalar.divsi v2 c8_i32_0
  let c1_i32_8 : BitVec 32 := 1#32
  let v14 : BitVec 32 := Scalar.addi v4 c1_i32_8
  let c4_i32 : BitVec 32 := 4#32
  let v15 : BitVec 32 := Scalar.remsi v14 c4_i32
  let c8_i32_9 : BitVec 32 := 8#32
  let v16 : BitVec 32 := Scalar.muli v15 c8_i32_9
  let c8_i32 : BitVec 32 := 8#32
  let v3 : BitVec 32 := Scalar.remsi v2 c8_i32
  let v17 : BitVec 32 := Scalar.addi v16 v3
  let c1_i32_1327 : BitVec 32 := 1#32
  let v1430 : BitVec 32 := Scalar.muli v17 c1_i32_1327
  let v1431 : BitVec 32 := Scalar.addi c0_i32_1328 v1430
  v1431.toNat
def k0_dev28 (d0 : Dev nD) : Nat :=
  let c0_i32_1338 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_0 : BitVec 32 := 8#32
  let v4 : BitVec 32 := Scalar.divsi v2 c8_i32_0
  let c4_i32_10 : BitVec 32 := 4#32
  let v18 : BitVec 32 := Scalar.addi v4 c4_i32_10
  let c1_i32_11 : BitVec 32 := 1#32
  let v19 : BitVec 32 := Scalar.subi v18 c1_i32_11
  let c4_i32_12 : BitVec 32 := 4#32
  let v20 : BitVec 32 := Scalar.remsi v19 c4_i32_12
  let c8_i32_13 : BitVec 32 := 8#32
  let v21 : BitVec 32 := Scalar.muli v20 c8_i32_13
  let c8_i32 : BitVec 32 := 8#32
  let v3 : BitVec 32 := Scalar.remsi v2 c8_i32
  let v22 : BitVec 32 := Scalar.addi v21 v3
  let c1_i32_1337 : BitVec 32 := 1#32
  let v1440 : BitVec 32 := Scalar.muli v22 c1_i32_1337
  let v1441 : BitVec 32 := Scalar.addi c0_i32_1338 v1440
  v1441.toNat
def k0_off6 (d0 : Dev nD) (c0_i32_1346 : BitVec 32) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_0 : BitVec 32 := 8#32
  let v4 : BitVec 32 := Scalar.divsi v2 c8_i32_0
  let c2_i32_1345 : BitVec 32 := 2#32
  let v1452 : BitVec 32 := Scalar.addi v4 c2_i32_1345
  let v1453 : BitVec 32 := Scalar.addi v1452 c0_i32_1346
  let c4_i32_1347 : BitVec 32 := 4#32
  let v1454 : BitVec 32 := Scalar.remsi v1453 c4_i32_1347
  let v1485 : Index := Scalar.indexCast v1454
  let c0_1379 : Index := 0#32
  let c0_1380 : Index := 0#32
  ![v1485.toNat, 0, 0]
def k0_dev29 (d0 : Dev nD) : Nat :=
  let c0_i32_1389 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_0 : BitVec 32 := 8#32
  let v4 : BitVec 32 := Scalar.divsi v2 c8_i32_0
  let c1_i32_8 : BitVec 32 := 1#32
  let v14 : BitVec 32 := Scalar.addi v4 c1_i32_8
  let c4_i32 : BitVec 32 := 4#32
  let v15 : BitVec 32 := Scalar.remsi v14 c4_i32
  let c8_i32_9 : BitVec 32 := 8#32
  let v16 : BitVec 32 := Scalar.muli v15 c8_i32_9
  let c8_i32 : BitVec 32 := 8#32
  let v3 : BitVec 32 := Scalar.remsi v2 c8_i32
  let v17 : BitVec 32 := Scalar.addi v16 v3
  let c1_i32_1388 : BitVec 32 := 1#32
  let v1493 : BitVec 32 := Scalar.muli v17 c1_i32_1388
  let v1494 : BitVec 32 := Scalar.addi c0_i32_1389 v1493
  v1494.toNat
def k0_dev30 (d0 : Dev nD) : Nat :=
  let c0_i32_1399 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_0 : BitVec 32 := 8#32
  let v4 : BitVec 32 := Scalar.divsi v2 c8_i32_0
  let c4_i32_10 : BitVec 32 := 4#32
  let v18 : BitVec 32 := Scalar.addi v4 c4_i32_10
  let c1_i32_11 : BitVec 32 := 1#32
  let v19 : BitVec 32 := Scalar.subi v18 c1_i32_11
  let c4_i32_12 : BitVec 32 := 4#32
  let v20 : BitVec 32 := Scalar.remsi v19 c4_i32_12
  let c8_i32_13 : BitVec 32 := 8#32
  let v21 : BitVec 32 := Scalar.muli v20 c8_i32_13
  let c8_i32 : BitVec 32 := 8#32
  let v3 : BitVec 32 := Scalar.remsi v2 c8_i32
  let v22 : BitVec 32 := Scalar.addi v21 v3
  let c1_i32_1398 : BitVec 32 := 1#32
  let v1503 : BitVec 32 := Scalar.muli v22 c1_i32_1398
  let v1504 : BitVec 32 := Scalar.addi c0_i32_1399 v1503
  v1504.toNat
def k0_dev31 (d0 : Dev nD) : Nat :=
  let c0_i32_1450 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_0 : BitVec 32 := 8#32
  let v4 : BitVec 32 := Scalar.divsi v2 c8_i32_0
  let c1_i32_8 : BitVec 32 := 1#32
  let v14 : BitVec 32 := Scalar.addi v4 c1_i32_8
  let c4_i32 : BitVec 32 := 4#32
  let v15 : BitVec 32 := Scalar.remsi v14 c4_i32
  let c8_i32_9 : BitVec 32 := 8#32
  let v16 : BitVec 32 := Scalar.muli v15 c8_i32_9
  let c8_i32 : BitVec 32 := 8#32
  let v3 : BitVec 32 := Scalar.remsi v2 c8_i32
  let v17 : BitVec 32 := Scalar.addi v16 v3
  let c1_i32_1449 : BitVec 32 := 1#32
  let v1556 : BitVec 32 := Scalar.muli v17 c1_i32_1449
  let v1557 : BitVec 32 := Scalar.addi c0_i32_1450 v1556
  v1557.toNat
def k0_dev32 (d0 : Dev nD) : Nat :=
  let c0_i32_1460 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_0 : BitVec 32 := 8#32
  let v4 : BitVec 32 := Scalar.divsi v2 c8_i32_0
  let c4_i32_10 : BitVec 32 := 4#32
  let v18 : BitVec 32 := Scalar.addi v4 c4_i32_10
  let c1_i32_11 : BitVec 32 := 1#32
  let v19 : BitVec 32 := Scalar.subi v18 c1_i32_11
  let c4_i32_12 : BitVec 32 := 4#32
  let v20 : BitVec 32 := Scalar.remsi v19 c4_i32_12
  let c8_i32_13 : BitVec 32 := 8#32
  let v21 : BitVec 32 := Scalar.muli v20 c8_i32_13
  let c8_i32 : BitVec 32 := 8#32
  let v3 : BitVec 32 := Scalar.remsi v2 c8_i32
  let v22 : BitVec 32 := Scalar.addi v21 v3
  let c1_i32_1459 : BitVec 32 := 1#32
  let v1566 : BitVec 32 := Scalar.muli v22 c1_i32_1459
  let v1567 : BitVec 32 := Scalar.addi c0_i32_1460 v1566
  v1567.toNat
abbrev stage0_0 : Fin 1 → Memref sig .tc .vmem S4096x128 .fp8e4m3 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S128x2048 .fp8e5m2 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .smem S1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .smem S1 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S128x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
-- ==== ReferenceIdeal.lean ====
abbrev S4096x4096 : Shape := ⟨2, ![4096, 4096]⟩
abbrev S4096x2048 : Shape := ⟨2, ![4096, 2048]⟩
abbrev S1 : Shape := ⟨1, ![1]⟩

abbrev nBuf : Space → Nat
  | .hbm => 5
  | .vmem => 3
  | .smem => 2
  | _ => 0

abbrev bufTy : (tb : Table) → Fin (tcTables nBuf tb) → BufTy
  | .hbm, ⟨0, _⟩ => ⟨S4096x4096, .fp8e4m3⟩
  | .hbm, ⟨1, _⟩ => ⟨S4096x2048, .fp8e5m2⟩
  | .hbm, ⟨2, _⟩ => ⟨S1, .f32⟩
  | .hbm, ⟨3, _⟩ => ⟨S1, .f32⟩
  | .hbm, ⟨4, _⟩ => ⟨S4096x2048, .f32⟩
  | .local _ .vmem, ⟨0, _⟩ => ⟨S4096x4096, .fp8e4m3⟩
  | .local _ .vmem, ⟨1, _⟩ => ⟨S4096x2048, .fp8e5m2⟩
  | .local _ .vmem, ⟨2, _⟩ => ⟨S4096x2048, .f32⟩
  | .local _ .smem, ⟨0, _⟩ => ⟨S1, .f32⟩
  | .local _ .smem, ⟨1, _⟩ => ⟨S1, .f32⟩
  | _, _ => ⟨S4096x4096, .fp8e4m3⟩

abbrev bufScoped : (cs : CoreSpace) → Fin (nBuf (.core cs)) → Bool
  | .vmem, ⟨0, _⟩ => true
  | .vmem, ⟨1, _⟩ => true
  | .vmem, ⟨2, _⟩ => true
  | .smem, ⟨0, _⟩ => true
  | .smem, ⟨1, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev cc0_stg0_0 : Ref sig .tc := ⟨.vmem, 0, rfl⟩
abbrev cc0_stg1_0 : Ref sig .tc := ⟨.vmem, 1, rfl⟩
abbrev cc0_stg4_0 : Ref sig .tc := ⟨.vmem, 2, rfl⟩
abbrev cc0_stg2_0 : Ref sig .tc := ⟨.smem, 0, rfl⟩
abbrev cc0_stg3_0 : Ref sig .tc := ⟨.smem, 1, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4

abbrev nD : Nat := 1
abbrev τ : Topo := Topo.v7x

variable {F : FTy → Type} [FloatOps F]

abbrev grid0 : Pipeline.Grid := .none

abbrev stage0_0 : Fin 1 → Memref sig .tc .vmem S4096x4096 .fp8e4m3 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S4096x2048 .fp8e5m2 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .smem S1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .smem S1 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S4096x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
-- ==== Proof.K.Prog.lean ====
/- The body of the kernel, written again in a structured way: one sub-program per step of the ring,
   stated once for every step and both directions. The printed body is this program. -/
module

public import proofs.«01_k».proof.Proof.Gen.KernelIdeal.Points

@[expose] public section

noncomputable section

namespace Cert.KernelIdeal.K

open Idealize.ShloMosaic Idealize.ShloMosaic.TcCoe Idealize.SL.Sem
open Cert.KernelIdeal.Gen

variable {F : FTy → Type} [FloatOps F]

/-- The programs of the kernel's body. -/
abbrev BProg (F : FTy → Type) [FloatOps F] (A : Type) := Prog (TpuEff nD τ sig (Elt F) Λ₀ .tc) A

/-! ## Buffers, slots and semaphores -/

/-- The four-slot buffer of the ring along the rows, by direction (`false` sends to the right). -/
abbrev comm (b : Bool) : Memref sig .tc .vmem S4x4x128x1024 .bf16 :=
  match b with | false => Memref.whole cc0_scratch0 | true => Memref.whole cc0_scratch1

/-- The finished sums of the first ring, by direction. -/
abbrev bun (b : Bool) : Memref sig .tc .vmem S4x128x1024 .f32 :=
  match b with | false => Memref.whole cc0_scratch2 | true => Memref.whole cc0_scratch3

/-- The four-slot buffer of the ring along the columns, by direction (`false` sends up). -/
abbrev comm2 (b : Bool) : Memref sig .tc .vmem S4x128x1024 .bf16 :=
  match b with | false => Memref.whole cc0_scratch4 | true => Memref.whole cc0_scratch5

theorem comm_whole (b : Bool) : (comm b).IsWhole := by cases b <;> exact Memref.isWhole_whole _
theorem bun_whole (b : Bool) : (bun b).IsWhole := by cases b <;> exact Memref.isWhole_whole _
theorem comm2_whole (b : Bool) : (comm2 b).IsWhole := by cases b <;> exact Memref.isWhole_whole _

/-- The DMA semaphore of phase `p`, direction `b`, sending or receiving side `e`, slot `a`. -/
abbrev dsem (p b e : Bool) (a : Fin 4) : DmaSem sig :=
  ⟨5 + 16 * p.toNat + 8 * b.toNat + 4 * e.toNat + a.val, by
    have := a.isLt; cases p <;> cases b <;> cases e <;> simp <;> omega⟩

/-- The credit semaphore of a direction. -/
abbrev csem (b : Bool) : Sem sig := match b with | false => 0 | true => 1

/-- The slot a step uses. -/
abbrev sl (s : Nat) : Fin 4 := ⟨s % 4, Nat.mod_lt _ (by decide)⟩

theorem inbSlot : ∀ a : Fin 4, ∀ x, (![a.val, 0, 0, 0] : Fin 4 → Nat) x + S1x4x128x1024.size x ≤ S4x4x128x1024.size x := by decide
theorem inbBlk : ∀ a k : Fin 4, ∀ x, (![a.val, k.val, 0, 0] : Fin 4 → Nat) x + S1x1x128x1024.size x ≤ S4x4x128x1024.size x := by decide
theorem inbRow : ∀ a : Fin 4, ∀ x, (![a.val, 0, 0] : Fin 3 → Nat) x + S1x128x1024.size x ≤ S4x128x1024.size x := by decide

/-- One slot of the first ring's buffer. -/
abbrev rSlot (a : Fin 4) : Rect S4x4x128x1024 := Rect.unit ![a.val, 0, 0, 0] S1x4x128x1024.size (inbSlot a)
/-- One block of one slot of the first ring's buffer. -/
abbrev rBlk (a k : Fin 4) : Rect S4x4x128x1024 := Rect.unit ![a.val, k.val, 0, 0] S1x1x128x1024.size (inbBlk a k)
/-- One row of blocks of a three-axis buffer. -/
abbrev rRow (a : Fin 4) : Rect S4x128x1024 := Rect.unit ![a.val, 0, 0] S1x128x1024.size (inbRow a)

theorem words_slot : ∀ a : Fin 4, (rSlot a).WholeWords (EltTy.packing .bf16) := by decide
theorem packed_blk : ∀ a k : Fin 4, (rBlk a k).PackedRows (EltTy.packing .bf16) := by decide
theorem words_row : ∀ a : Fin 4, (rRow a).WholeWords (EltTy.packing .bf16) := by decide
theorem packed_row : ∀ a : Fin 4, (rRow a).PackedRows (EltTy.packing .bf16) := by decide

/-- A slot as the transfers name it. -/
abbrev slot (b : Bool) (a : Fin 4) : Memref sig .tc .vmem S4x128x1024 .bf16 :=
  ((comm b).slice (rSlot a) (fun _ => rfl)).squeeze S4x128x1024 squeezes_S1x4x128x1024_S4x128x1024
abbrev slot2 (b : Bool) (a : Fin 4) : Memref sig .tc .vmem S128x1024 .bf16 :=
  ((comm2 b).slice (rRow a) (fun _ => rfl)).squeeze S128x1024 squeezes_S1x128x1024_S128x1024

theorem slot_words (b : Bool) (a : Fin 4) : (slot b a).view.WordExact :=
  ((comm_whole b).wordExact_slice rfl _ (words_slot a)).reshape _ _
theorem slot2_words (b : Bool) (a : Fin 4) : (slot2 b a).view.WordExact :=
  ((comm2_whole b).wordExact_slice rfl _ (words_row a)).reshape _ _

theorem slot_sc (b : Bool) (a : Fin 4) : (slot b a).view.ref.isScScratch = false := by cases b <;> rfl
theorem slot2_sc (b : Bool) (a : Fin 4) : (slot2 b a).view.ref.isScScratch = false := by cases b <;> rfl

/-- The device a direction of the first ring sends to. -/
abbrev dst1 (b : Bool) (d : Dev nD) : Dev nD :=
  match b with | false => ⟨k0_dev5 d, k0_dev5_lt d⟩ | true => ⟨k0_dev6 d, k0_dev6_lt d⟩
/-- The device a direction of the second ring sends to. -/
abbrev dst2 (b : Bool) (d : Dev nD) : Dev nD :=
  match b with | false => ⟨k0_dev27 d, k0_dev27_lt d⟩ | true => ⟨k0_dev28 d, k0_dev28_lt d⟩

/-! ## Values -/

/-- One half of the second operand's columns. -/
def half (b : Bool) (w : FVec F S128x2048 .bf16) : FVec F S128x1024 .bf16 :=
  match b with
  | false => extractStridedSlice S128x1024 ![0, 0] w slices_S128x2048_o0_0_S128x1024
  | true => extractStridedSlice S128x1024 ![0, 1024] w slices_S128x2048_o0_1024_S128x1024

/-- The product of one block of the first operand with one half of the second. -/
def dotv (b : Bool) (w : FVec F S128x2048 .bf16) (x : Vec F S128x128 .fp8e4m3) : FVec F S128x1024 .f32 :=
  matmul dot_S128x128_S128x1024_S128x1024_1_0_0_1_n_n none
    (extf .bf16 (shapeCast S128x128 x shapeCasts_S128x128_S128x128) bitsLt_fp8e4m3_bf16) (half b w)
    (constant S128x1024 .f32 0x00000000#32)

/-- A block of a slot, from its four axes to two and back. -/
def flat (v : Vec F S1x1x128x1024 .bf16) : FVec F S128x1024 .bf16 := shapeCast S128x1024 v shapeCasts_S1x1x128x1024_S128x1024
def unflat (v : FVec F S128x1024 .bf16) : FVec F S1x1x128x1024 .bf16 := shapeCast S1x1x128x1024 v shapeCasts_S128x1024_S1x1x128x1024
/-- The same of a three-axis buffer, at either type. -/
def flat3 {t : FTy} (v : FVec F S1x128x1024 t) : FVec F S128x1024 t := shapeCast S128x1024 v shapeCasts_S1x128x1024_S128x1024
def unflat3 {t : FTy} (v : FVec F S128x1024 t) : FVec F S1x128x1024 t := shapeCast S1x128x1024 v shapeCasts_S128x1024_S1x128x1024

/-- A partial sum as it travels, and what arrived plus what this device has. -/
def rnd (v : FVec F S128x1024 .f32) : FVec F S128x1024 .bf16 := truncf .bf16 v bitsLt_bf16_f32
def accv (v : FVec F S128x1024 .bf16) (p : FVec F S128x1024 .f32) : FVec F S128x1024 .f32 :=
  addf (extf .f32 v bitsLt_bf16_f32) p

/-- The last step's result: the finished sum scaled, and no less than zero. -/
def finv (sx sw : Elt F .f32) (v : FVec F S128x1024 .bf16) (p : FVec F S128x1024 .f32) : FVec F S128x1024 .f32 :=
  maximumf (mulf (accv v p) (broadcast S128x1024 (Scalar.mulf sx sw : F .f32))) (broadcast S128x1024 (Scalar.ofBits .f32 0x00000000#32))

/-! ## The pieces of the body -/

section
variable (m0 : Memref sig .tc .vmem S4096x128 .fp8e4m3) (m1 : Memref sig .tc .vmem S128x2048 .fp8e5m2)
  (m2 m3 : Memref sig .tc .smem S1 .f32) (m4 : Memref sig .tc .vmem S128x2048 .f32)

/-- Load a block of 128 rows of the first operand. -/
def ldX (off : Fin 2 → Nat) (h : ∀ a, off a + S128x128.size a ≤ S4096x128.size a) : BProg F (Vec F S128x128 .fp8e4m3) :=
  Prog.lift (.load m0 (Rect.unit (s := S4096x128) off S128x128.size h).toLoadRect (View.loadsAt_vmem h_S128x128))

/-- Load and store a block of a slot. -/
def ldB (b : Bool) (a k : Fin 4) : BProg F (Vec F S1x1x128x1024 .bf16) :=
  Prog.lift (.load (comm b) (rBlk a k).toLoadRect (View.loadsAt_vmem h_S1x1x128x1024))
def stB (b : Bool) (a k : Fin 4) (v : FVec F S128x1024 .bf16) : BProg F PUnit :=
  Prog.lift (.store (comm b) (rBlk a k) (unflat v) Finset.univ
    (View.stores_vmem h_S1x1x128x1024 ((comm_whole b).storeExact_slice rfl _ (packed_blk a k)) (fun _ => rfl)) (.inl rfl))

/-- Load and store a row of the finished sums. -/
def ldS (b : Bool) (off : Fin 3 → Nat) (h : ∀ a, off a + S1x128x1024.size a ≤ S4x128x1024.size a) : BProg F (Vec F S1x128x1024 .f32) :=
  Prog.lift (.load (bun b) (Rect.unit (s := S4x128x1024) off S1x128x1024.size h).toLoadRect (View.loadsAt_vmem h_S1x128x1024))
def stS (b : Bool) (k : Fin 4) (v : FVec F S128x1024 .f32) : BProg F PUnit :=
  Prog.lift (.store (bun b) (rRow k) (unflat3 v) Finset.univ (View.stores_vmem_bits_univ h_S1x128x1024 rfl) (.inl rfl))

/-- Load and store a slot of the second ring's buffer. -/
def ldC (b : Bool) (a : Fin 4) : BProg F (Vec F S1x128x1024 .bf16) :=
  Prog.lift (.load (comm2 b) (rRow a).toLoadRect (View.loadsAt_vmem h_S1x128x1024))
def stC (b : Bool) (a : Fin 4) (v : FVec F S128x1024 .bf16) : BProg F PUnit :=
  Prog.lift (.store (comm2 b) (rRow a) (unflat3 v) Finset.univ
    (View.stores_vmem h_S1x128x1024 ((comm2_whole b).storeExact_slice rfl _ (packed_row a)) (fun _ => rfl)) (.inl rfl))

/-- Signal and wait on a regular semaphore. -/
def sig1 (d : Dev nD) (s : Sem sig) : BProg F PUnit := semSignalWord d s 1#32
def wait1 (s : Sem sig) : BProg F PUnit := semWaitWord s 1#32

/-- Step `s` of the first ring sends its slot into the next slot of the neighbour. -/
def send1 (d : Dev nD) (b : Bool) (s : Nat) : BProg F PUnit :=
  Prog.lift (.enqueueDma (slot b (sl s)) (.remote (Dev.tc (dst1 b d)) (slot b (sl (s + 1))) (.dma (dsem false b false (sl s))) (slot_sc b _))
    (.dma (dsem false b true (sl (s + 1)))) (slot_words b _) (slot_words b _) ⟨⟨rfl, Or.inl rfl⟩, trivial⟩)
def send2 (d : Dev nD) (b : Bool) (s : Nat) : BProg F PUnit :=
  Prog.lift (.enqueueDma (slot2 b (sl s)) (.remote (Dev.tc (dst2 b d)) (slot2 b (sl (s + 1))) (.dma (dsem true b false (sl s))) (slot2_sc b _))
    (.dma (dsem true b true (sl (s + 1)))) (slot2_words b _) (slot2_words b _) ⟨⟨rfl, Or.inl rfl⟩, trivial⟩)

/-- Wait for a transfer of a slot. -/
def waitD1 (b e : Bool) (a a₁ a₂ : Fin 4) : BProg F PUnit :=
  Prog.lift (.waitDma2 (dsem false b e a) (slot b a₁) (slot b a₂) (slot_words b _) (slot_words b _))
def waitD2 (b e : Bool) (a a₁ a₂ : Fin 4) : BProg F PUnit :=
  Prog.lift (.waitDma2 (dsem true b e a) (slot2 b a₁) (slot2 b a₂) (slot2_words b _) (slot2_words b _))

theorem off2_inb : ∀ (d : Dev nD) (s : Fin 14) (k : Fin 4), ∀ a,
    k0_off2 d (BitVec.ofNat 32 (s.val + 1)) (BitVec.ofNat 32 (8 * k.val)) a + S128x128.size a ≤ S4096x128.size a := by decide +kernel
theorem off5_inb : ∀ (d : Dev nD) (s : Fin 7), ∀ a,
    k0_off5 d (BitVec.ofNat 32 s.val) a + S1x128x1024.size a ≤ S4x128x1024.size a := by decide +kernel

/-- The product this device adds to the block `k` of slot in direction `b` at step `s`. -/
def ldP (d : Dev nD) (w : FVec F S128x2048 .bf16) (b : Bool) (s : Fin 7) (k : Fin 4) : BProg F (FVec F S128x1024 .f32) :=
  match b with
  | false => do
    let x ← ldX m0 (k0_off2 d (BitVec.ofNat 32 (14 - s.val)) (BitVec.ofNat 32 (8 * k.val)))
      (by have h := off2_inb d ⟨13 - s.val, by omega⟩ k
          have e : 13 - s.val + 1 = 14 - s.val := by omega
          simpa only [e] using h)
    pure (dotv false w x)
  | true => do
    let x ← ldX m0 (k0_off3 d (BitVec.ofNat 32 s.val) (BitVec.ofNat 32 (8 * k.val))) (k0_off3_inb d s k)
    pure (dotv true w x)

/-- The product that starts the ring. -/
def ldP0 (d : Dev nD) (w : FVec F S128x2048 .bf16) (b : Bool) (k : Fin 4) : BProg F (FVec F S128x1024 .f32) :=
  match b with
  | false => do
    let x ← ldX m0 (k0_off1 d (BitVec.ofNat 32 (8 * k.val))) (k0_off1_inb d k)
    pure (dotv false w x)
  | true => do
    let x ← ldX m0 (k0_off2 d 1#32 (BitVec.ofNat 32 (8 * k.val))) (off2_inb d 0 k)
    pure (dotv true w x)

/-- The four products of one direction. -/
def ldPs (d : Dev nD) (w : FVec F S128x2048 .bf16) (b : Bool) (s : Fin 7) : BProg F (Fin 4 → FVec F S128x1024 .f32) := do
  let p0 ← ldP m0 d w b s 0
  let p1 ← ldP m0 d w b s 1
  let p2 ← ldP m0 d w b s 2
  let p3 ← ldP m0 d w b s 3
  pure fun k => match k with | 0 => p0 | 1 => p1 | 2 => p2 | 3 => p3

def ldP0s (d : Dev nD) (w : FVec F S128x2048 .bf16) (b : Bool) : BProg F (Fin 4 → FVec F S128x1024 .f32) := do
  let p0 ← ldP0 m0 d w b 0
  let p1 ← ldP0 m0 d w b 1
  let p2 ← ldP0 m0 d w b 2
  let p3 ← ldP0 m0 d w b 3
  pure fun k => match k with | 0 => p0 | 1 => p1 | 2 => p2 | 3 => p3

/-- Put a product into a block of slot 0. -/
def put0 (b : Bool) (k : Fin 4) (v : FVec F S128x1024 .f32) : BProg F PUnit := do
  let _ ← ldB (F := F) b 0 k
  stB b 0 k (rnd v)

def put0s (b : Bool) (p : Fin 4 → FVec F S128x1024 .f32) : BProg F PUnit := do
  put0 b 0 (p 0)
  put0 b 1 (p 1)
  put0 b 2 (p 2)
  put0 b 3 (p 3)

/-- Add a product to a block that arrived. -/
def accB (b : Bool) (a k : Fin 4) (p : FVec F S128x1024 .f32) : BProg F PUnit := do
  let v ← ldB b a k
  let _ ← ldB (F := F) b a k
  stB b a k (rnd (accv (flat v) p))

/-- The last step's: the sum is kept in the other buffer. -/
def accS (b : Bool) (a k : Fin 4) (p : FVec F S128x1024 .f32) : BProg F PUnit := do
  let v ← ldB b a k
  let _ ← ldS (F := F) b ![k.val, 0, 0] (inbRow k)
  stS b k (accv (flat v) p)

def both (f : Bool → BProg F PUnit) : BProg F PUnit := do
  f false
  f true

def four (f : Fin 4 → BProg F PUnit) : BProg F PUnit := do
  f 0
  f 1
  f 2
  f 3

/-- Wait for the transfers that step `s - 1` sent, and pass a credit back. -/
def freed (d : Dev nD) (s : Nat) : BProg F PUnit :=
  match s with
  | 0 => pure ⟨⟩
  | s' + 1 => do
    both fun b => waitD1 b false (sl s') (sl (s' + 1)) (sl s')
    if s' < 4 then both (fun b => sig1 (dst1 (!b) d) (csem b)) else pure ⟨⟩

/-- A step of the first ring. -/
def step1 (d : Dev nD) (w : FVec F S128x2048 .bf16) (s : Fin 7) : BProg F PUnit := do
  if 3 ≤ s.val then both (fun b => wait1 (csem b)) else pure ⟨⟩
  both fun b => send1 d b s.val
  let p ← ldPs m0 d w false s
  let q ← ldPs m0 d w true s
  freed d s.val
  both fun b => waitD1 b true (sl (s.val + 1)) (sl s.val) (sl (s.val + 1))
  if s.val < 6 then
    four fun k => both fun b => accB b (sl (s.val + 1)) k (match b with | false => p k | true => q k)
  else
    four fun k => both fun b => accS b (sl (s.val + 1)) k (match b with | false => p k | true => q k)

/-- The rows of the finished sums that the second ring reads. -/
def ldR0 (d : Dev nD) (b : Bool) : BProg F (FVec F S128x1024 .f32) :=
  match b with
  | false => do
    let v ← ldS (F := F) false (k0_off4 d) (k0_off4_inb d)
    pure (flat3 v)
  | true => do
    let v ← ldS (F := F) true (k0_off5 d 1#32) (off5_inb d 1)
    pure (flat3 v)

def ldR (d : Dev nD) (b : Bool) (s : Fin 3) : BProg F (FVec F S128x1024 .f32) :=
  match b with
  | false => do
    let v ← ldS (F := F) false (k0_off5 d (BitVec.ofNat 32 (6 - s.val))) (off5_inb d ⟨6 - s.val, by omega⟩)
    pure (flat3 v)
  | true => do
    let v ← ldS (F := F) true (k0_off6 d (BitVec.ofNat 32 s.val)) (k0_off6_inb d s)
    pure (flat3 v)

/-- Start the second ring. -/
def init2 (d : Dev nD) : BProg F PUnit :=
  both fun b => do
    let v ← ldR0 d b
    let _ ← ldC (F := F) b 0
    stC b 0 (rnd v)

/-- Add this device's row to what arrived. -/
def acc2 (d : Dev nD) (s : Fin 3) (b : Bool) : BProg F PUnit := do
  let v ← ldC b (sl (s.val + 1))
  let r ← ldR d b s
  let _ ← ldC (F := F) b (sl (s.val + 1))
  stC b (sl (s.val + 1)) (rnd (accv (flat3 v) r))

/-- The half of the output's columns of a direction. -/
theorem inbOut : ∀ b : Bool, ∀ x, (![0, 1024 * b.toNat] : Fin 2 → Nat) x + S128x1024.size x ≤ S128x2048.size x := by decide
abbrev rOut (b : Bool) : Rect S128x2048 := Rect.unit ![0, 1024 * b.toNat] S128x1024.size (inbOut b)

/-- The last step's result in one half of the output. -/
def fin2 (d : Dev nD) (sx sw : Elt F .f32) (b : Bool) : BProg F PUnit := do
  let v ← ldC b 3
  let r ← ldR d b 2
  let _ ← (Prog.lift (.load m4 (rOut b).toLoadRect (View.loadsAt_vmem h_S128x1024)) : BProg F (Vec F S128x1024 .f32))
  Prog.lift (.store m4 (rOut b) (finv sx sw (flat3 v) r) Finset.univ (View.stores_vmem_bits_univ h_S128x1024 rfl) (.inl rfl))

def comm2Step (d : Dev nD) (s : Nat) : BProg F PUnit := do
  both fun b => send2 d b s
  both fun b => waitD2 b true (sl (s + 1)) (sl s) (sl (s + 1))

/-- Read a scale. -/
def ldScale (m : Memref sig .tc .smem S1 .f32) : BProg F (Elt F .f32) :=
  smemLoad m (Rect.unit (s := S1) ![0] S1.size inb_S1_S1_0) numel1_S1 rfl

def phase2 (d : Dev nD) : BProg F PUnit := do
  init2 d
  comm2Step d 0
  both fun b => acc2 d 0 b
  comm2Step d 1
  both fun b => acc2 d 1 b
  comm2Step d 2
  let sx ← ldScale m2
  let sw ← ldScale m3
  both fun b => fin2 m4 d sx sw b
  both fun b => waitD2 b false 0 1 0
  both fun b => waitD2 b false 1 2 1
  both fun b => waitD2 b false 2 3 2

/-- Meet the four neighbours. -/
def meet (d : Dev nD) : BProg F PUnit := do
  sig1 (⟨k0_dev1 d, k0_dev1_lt d⟩ : Dev nD) barrier0
  sig1 (⟨k0_dev2 d, k0_dev2_lt d⟩ : Dev nD) barrier0
  sig1 (⟨k0_dev3 d, k0_dev3_lt d⟩ : Dev nD) barrier0
  sig1 (⟨k0_dev4 d, k0_dev4_lt d⟩ : Dev nD) barrier0
  semWaitWord barrier0 4#32

/-- The second operand, in the products' type. -/
def ldW : BProg F (FVec F S128x2048 .bf16) := do
  let v ← (Prog.lift (.load m1 (Rect.unit (s := S128x2048) ![0, 0] S128x2048.size inb_S128x2048_S128x2048_0_0).toLoadRect (View.loadsAt_vmem h_S128x2048)) : BProg F (Vec F S128x2048 .fp8e5m2))
  pure (extf .bf16 (shapeCast S128x2048 v shapeCasts_S128x2048_S128x2048) bitsLt_fp8e5m2_bf16)

/-- Start the first ring. -/
def init1 (d : Dev nD) (w : FVec F S128x2048 .bf16) : BProg F PUnit := do
  let p ← ldP0s m0 d w false
  put0s false p
  let q ← ldP0s m0 d w true
  put0s true q

/-- The whole body. -/
def body : BProg F PUnit := do
  let d ← (Prog.lift .deviceId : BProg F (Dev nD))
  meet d
  let w ← ldW m1
  init1 m0 d w
  step1 m0 d w 0
  step1 m0 d w 1
  step1 m0 d w 2
  step1 m0 d w 3
  step1 m0 d w 4
  step1 m0 d w 5
  step1 m0 d w 6
  freed d 7
  phase2 m2 m3 m4 d

end

end Cert.KernelIdeal.K

end
-- ==== Proof.K.Common.lean ====
/- The protocol of the kernel: the cells of a device, the schedule of what each transfer and signal
   hands over, the contents of the travelling partial sums, and the levels of the waits. -/
module

public import proofs.«01_k».proof.Proof.K.Prog
public import proofs.«01_k».proof.Proof.Gen.KernelIdeal.Launch
public import Idealize.ShloMosaic.Lib.Pipeline.Launch
public import Idealize.ShloMosaic.Lib.Pipeline.Kit
public import Idealize.ShloMosaic.Lib.Tactic
public import Idealize.ShloMosaic.Lib.ValueLayout

@[expose] public section

set_option maxRecDepth 20000

noncomputable section

namespace Cert.KernelIdeal.K

open Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx
open Idealize.ShloMosaic.Pipeline (Dat Cfg Window BodyObligation cellOf)

variable {F : FTy → Type} [FloatOps F]

/-- A duty of a round: a phase and a direction name the four neighbours. -/
abbrev Du : Type := Bool × Bool
abbrev UB : Type := URounds (GSem nD τ sig) Du
abbrev UU : Type := UR sig nD τ × UB

local notation "𝕄" => MT nD τ sig ℕ (Elt F) ℕ UU ℕ

abbrev EP : Emb (UR sig nD τ) (MT nD τ sig ℕ (Elt F) ℕ UU ℕ) := embL
abbrev ER : Emb UB (MT nD τ sig ℕ (Elt F) ℕ UU ℕ) := embR

/-! ## The neighbours -/

/-- The device that phase `p` (`false`: along the rows), direction `b` sends to. -/
def nbr (p b : Bool) (c : Dev nD) : Dev nD :=
  match p, b with
  | false, false => ⟨8 * (c.val / 8) + (c.val % 8 + 1) % 8, by have := c.isLt; unfold nD at *; omega⟩
  | false, true => ⟨8 * (c.val / 8) + (c.val % 8 + 7) % 8, by have := c.isLt; unfold nD at *; omega⟩
  | true, false => ⟨8 * ((c.val / 8 + 1) % 4) + c.val % 8, by have := c.isLt; unfold nD at *; omega⟩
  | true, true => ⟨8 * ((c.val / 8 + 3) % 4) + c.val % 8, by have := c.isLt; unfold nD at *; omega⟩

theorem nbr_not_nbr : ∀ (p b : Bool) (c : Dev nD), nbr p (!b) (nbr p b c) = c := by decide +kernel
theorem nbr_nbr_not : ∀ (p b : Bool) (c : Dev nD), nbr p b (nbr p (!b) c) = c := by decide +kernel

/-- The same as a permutation of the devices. -/
def nbrE (p b : Bool) : Dev nD ≃ Dev nD := ⟨nbr p b, nbr p (!b), nbr_not_nbr p b, nbr_nbr_not p b⟩

theorem dst1_eq (b : Bool) (c : Dev nD) : dst1 b c = nbr false b c := by
  cases b
  · exact Fin.ext (k0_dev5_eq c)
  · exact Fin.ext (k0_dev6_eq c)
theorem dst2_eq (b : Bool) (c : Dev nD) : dst2 b c = nbr true b c := by
  cases b
  · exact Fin.ext (k0_dev27_eq c)
  · exact Fin.ext (k0_dev28_eq c)

/-! ## The cells -/

/-- The cells a device has in its kernel's own scratch: two credits, and the transfers' semaphores by
    phase, direction, side (`true` receives) and slot. -/
abbrev SK : Type := Bool ⊕ (Bool × Bool × Bool × Fin 4)
/-- With the barrier. -/
abbrev CK : Type := Option SK

instance decCK : DecidableEq CK := inferInstance
instance decDevCK : DecidableEq (Dev nD × CK) := instDecidableEqProd

abbrev bark : CK := none
abbrev crdk (b : Bool) : CK := some (.inl b)
abbrev dmak (p b e : Bool) (a : Fin 4) : CK := some (.inr (p, b, e, a))

/-- The semaphore of a cell. -/
abbrev osem : SK → SemLoc sig
  | .inl b => .reg (csem b)
  | .inr (p, b, e, a) => .dma (dsem p b e a)
abbrev csl : CK → SemLoc sig
  | none => .reg barrier0
  | some k => osem k

theorem csl_inj : Function.Injective csl := by decide +kernel

abbrev cell (c : Dev nD) (k : CK) : GSem nD τ sig := ((c : Thread nD τ), csl k)

theorem cell_inj {c c' : Dev nD} {k k' : CK} (h : cell c k = cell c' k') : c = c' ∧ k = k' :=
  ⟨congrArg (fun g : GSem nD τ sig => g.1.1) h, csl_inj (congrArg Prod.snd h)⟩

open Classical in
/-- The cell of a semaphore, if it is one. -/
def dec (s : SemLoc sig) : Option CK := if h : ∃ k, csl k = s then some h.choose else none

theorem dec_csl (k : CK) : dec (csl k) = some k := by
  have h : ∃ k', csl k' = csl k := ⟨k, rfl⟩
  unfold dec; rw [dif_pos h]; exact congrArg some (csl_inj h.choose_spec)

/-! ## Contents -/

/-- One block of 128 rows of a device's part of the first operand. -/
theorem inbX : ∀ (q : Fin 8) (k : Fin 4), ∀ a, (![128 * q.val + 1024 * k.val, 0] : Fin 2 → Nat) a + S128x128.size a ≤ S4096x128.size a := by decide
abbrev rX (q : Fin 8) (k : Fin 4) : Rect S4096x128 := Rect.unit ![128 * q.val + 1024 * k.val, 0] S128x128.size (inbX q k)
def xb (x : Vec F S4096x128 .fp8e4m3) (q : Fin 8) (k : Fin 4) : Vec F S128x128 .fp8e4m3 := fun i => x ((rX q k).emb i)

/-- The chunk of rows a device adds at step `s` of the first ring, and the one it starts with. -/
def qc (b : Bool) (c : Dev nD) (s : Nat) : Fin 8 :=
  match b with
  | false => ⟨(c.val % 8 + (14 - s)) % 8, Nat.mod_lt _ (by decide)⟩
  | true => ⟨(c.val % 8 + s + 2) % 8, Nat.mod_lt _ (by decide)⟩
def q0 (b : Bool) (c : Dev nD) : Fin 8 :=
  match b with
  | false => ⟨(c.val % 8 + 7) % 8, Nat.mod_lt _ (by decide)⟩
  | true => ⟨(c.val % 8 + 1) % 8, Nat.mod_lt _ (by decide)⟩

/-- The row of finished sums a device adds at step `s` of the second ring, and the one it starts with. -/
def rc (b : Bool) (c : Dev nD) (s : Nat) : Fin 4 :=
  match b with
  | false => ⟨(c.val / 8 + (6 - s)) % 4, Nat.mod_lt _ (by decide)⟩
  | true => ⟨(c.val / 8 + s + 2) % 4, Nat.mod_lt _ (by decide)⟩
def r0 (b : Bool) (c : Dev nD) : Fin 4 :=
  match b with
  | false => ⟨(c.val / 8 + 3) % 4, Nat.mod_lt _ (by decide)⟩
  | true => ⟨(c.val / 8 + 1) % 4, Nat.mod_lt _ (by decide)⟩

section Contents
variable (X : Dev nD → Vec F S4096x128 .fp8e4m3) (W : Dev nD → FVec F S128x2048 .bf16)

/-- What device `c` adds at step `s`. -/
def pt (b : Bool) (c : Dev nD) (s : Nat) (k : Fin 4) : FVec F S128x1024 .f32 := dotv b (W c) (xb (X c) (qc b c s) k)

/-- What device `c` sends at step `s` of the first ring. -/
def R (b : Bool) : Nat → Dev nD → Fin 4 → FVec F S128x1024 .bf16
  | 0, c, k => rnd (dotv b (W c) (xb (X c) (q0 b c) k))
  | s + 1, c, k => rnd (accv (R b s (nbr false (!b) c) k) (pt X W b c s k))

/-- What device `c` holds after the first ring. -/
def Bn (b : Bool) (c : Dev nD) (k : Fin 4) : FVec F S128x1024 .f32 := accv (R X W b 6 (nbr false (!b) c) k) (pt X W b c 6 k)

/-- What device `c` sends at step `s` of the second ring. -/
def T (b : Bool) : Nat → Dev nD → FVec F S128x1024 .bf16
  | 0, c => rnd (Bn X W b c (r0 b c))
  | s + 1, c => rnd (accv (T b s (nbr true (!b) c)) (Bn X W b c (rc b c s)))

/-- What device `c` writes into its half of the output. -/
def Fn (sx sw : Elt F .f32) (b : Bool) (c : Dev nD) : FVec F S128x1024 .f32 :=
  finv sx sw (T X W b 2 (nbr true (!b) c)) (Bn X W b c (rc b c 2))

end Contents

/-- Four blocks as the contents of one slot. -/
def pack {t : FTy} (w : Fin 4 → FVec F S128x1024 t) : FVec F S4x128x1024 t := fun x => w (x 0) (ix2 (x 1) (x 2))

/-! ## Ownership of the slots -/

/-- Device `c` owns slot `a` at the contents `V`. -/
def sow (c : Dev nD) (b : Bool) (a : Fin 4) (V : Vec F S4x128x1024 .bf16) : sProp 𝕄 := owns (c : Thread nD τ) (slot b a) fullShare V
def sow2 (c : Dev nD) (b : Bool) (a : Fin 4) (V : FVec F S128x1024 .bf16) : sProp 𝕄 := owns (c : Thread nD τ) (slot2 b a) fullShare V

omit [FloatOps F] in
instance sow_storable (c : Dev nD) (b a) (V : Vec F S4x128x1024 .bf16) : BI.Storable (upEmb : UEmb _ 𝕄) (sow c b a V) := by
  unfold sow owns; infer_instance
omit [FloatOps F] in
instance sow2_storable (c : Dev nD) (b a) (V : FVec F S128x1024 .bf16) : BI.Storable (upEmb : UEmb _ 𝕄) (sow2 c b a V) := by
  unfold sow2 owns; infer_instance

/-- A slot at a neighbour, free to be written at step `s`, and the round of its receiving cell. -/
def tgt (c : Dev nD) (b : Bool) (s : Nat) : sProp 𝕄 :=
  iprop((∃ V, sow (nbr false b c) b (sl (s + 1)) V) ∗ reached ER (cell (nbr false b c) (dmak false b true (sl (s + 1)))) (s / 4))
def tgt2 (c : Dev nD) (b : Bool) (s : Nat) : sProp 𝕄 :=
  iprop((∃ V, sow2 (nbr true b c) b (sl (s + 1)) V) ∗ reached ER (cell (nbr true b c) (dmak true b true (sl (s + 1)))) (s / 4))

omit [FloatOps F] in
instance tgt_storable (c : Dev nD) (b s) : BI.Storable (upEmb : UEmb _ 𝕄) (tgt (F := F) c b s) := by unfold tgt; infer_instance
omit [FloatOps F] in
instance tgt2_storable (c : Dev nD) (b s) : BI.Storable (upEmb : UEmb _ 𝕄) (tgt2 (F := F) c b s) := by unfold tgt2; infer_instance

/-- What a transfer of a middle step brings device `c` besides: the sender's freed slot of the other direction. -/
def extra (c : Dev nD) (b : Bool) (s : Nat) : sProp 𝕄 := if 2 ≤ s ∧ s ≤ 5 then tgt c (!b) (s + 1) else iprop(emp)

omit [FloatOps F] in
instance extra_storable (c : Dev nD) (b s) : BI.Storable (upEmb : UEmb _ 𝕄) (extra (F := F) c b s) := by
  unfold extra; split <;> infer_instance

/-! ## The schedule -/

/-- The step a side's slot serves in its first round; a round later it serves four steps on. -/
def stp (e : Bool) (a : Fin 4) : Nat := if e then (a.val + 3) % 4 else a.val
/-- The number of steps of a phase. -/
def nst (p : Bool) : Nat := if p then 3 else 7

/-- The units one transfer of a slot brings. -/
def amt : CK → Nat
  | some (.inr (false, b, _, _)) => (slot b 0).view.dmaCredit
  | some (.inr (true, b, _, _)) => (slot2 b 0).view.dmaCredit
  | _ => 1

theorem amt_pos (k : CK) : 0 < amt k := by
  rcases k with _ | b | ⟨p, b, e, a⟩
  · exact Nat.one_pos
  · exact Nat.one_pos
  · cases p
    · exact View.dmaCredit_pos _ (by decide)
    · exact View.dmaCredit_pos _ (by decide)

def dut : CK → Nat → Finset Du
  | some (.inr (p, _, e, a)), r => if stp e a + 4 * r < nst p then {(false, false)} else ∅
  | _, r => if r = 0 then Finset.univ else ∅

section Sched
variable (X : Dev nD → Vec F S4096x128 .fp8e4m3) (W : Dev nD → FVec F S128x2048 .bf16)

/-- What a direction hands over when it has landed: the contents, and for the middle steps the sender's
    own freed slot of the other direction. -/
def landed (b : Bool) (c : Dev nD) (a : Fin 4) (s : Nat) : sProp 𝕄 :=
  iprop(sow c b a (pack (R X W b s (nbr false (!b) c))) ∗ extra c b s)

/-- The slots a neighbour hands over as it enters. -/
def handed (p b : Bool) (c : Dev nD) : sProp 𝕄 :=
  match p with
  | false => iprop(tgt c b 0 ∗ tgt c b 1 ∗ tgt c b 2)
  | true => iprop(tgt2 c b 0 ∗ tgt2 c b 1 ∗ tgt2 c b 2)

def pay (c : Dev nD) : CK → Nat → Du → sProp 𝕄
  | none, _, d => handed d.1 d.2 c
  | some (.inl _), _, _ => iprop(emp)
  | some (.inr (false, b, false, a)), r, _ => sow c b a (pack (R X W b (stp false a + 4 * r) c))
  | some (.inr (false, b, true, a)), r, _ => landed X W b c a (stp true a + 4 * r)
  | some (.inr (true, b, false, a)), r, _ => sow2 c b a (T X W b (stp false a + 4 * r) c)
  | some (.inr (true, b, true, a)), r, _ => sow2 c b a (T X W b (stp true a + 4 * r) (nbr true (!b) c))

instance pay_storable (c : Dev nD) (k : CK) (r : Nat) (d : Du) : BI.Storable (upEmb : UEmb _ 𝕄) (pay X W c k r d) := by
  rcases k with _ | b | ⟨p, b, e, a⟩
  · show BI.Storable upEmb (handed d.1 d.2 c); cases d.1 <;> (unfold handed; infer_instance)
  · show BI.Storable upEmb (iprop(emp)); infer_instance
  · cases p <;> cases e
    · show BI.Storable upEmb (sow ..); infer_instance
    · show BI.Storable upEmb (landed ..); unfold landed; infer_instance
    · show BI.Storable upEmb (sow2 ..); infer_instance
    · show BI.Storable upEmb (sow2 ..); infer_instance

def rd : Rounds.Schedule (GSem nD τ sig) Du 𝕄 where
  duties g r := if g.1.2 = .tc then (match dec g.2 with | some k => dut k r | none => ∅) else ∅
  unitless _ := False
  amount g _ _ := match dec g.2 with | some k => amt k | none => 1
  payload g r d := match dec g.2 with | some k => pay X W g.1.1 k r d | none => iprop(emp)
  amount_pos g _ _ _ := by
    cases dec g.2
    · exact Nat.one_pos
    · exact amt_pos _

instance rd_payload_storable (g : GSem nD τ sig) (r : ℕ) (d : Du) : BI.Storable (upEmb : UEmb _ 𝕄) ((rd X W).payload g r d) := by
  show BI.Storable upEmb (match dec g.2 with | some k => pay X W g.1.1 k r d | none => iprop(emp))
  cases dec g.2
  · show BI.Storable upEmb (iprop(emp)); infer_instance
  · show BI.Storable upEmb (pay ..); infer_instance

theorem duties_cell (c : Dev nD) (k : CK) (r : ℕ) : (rd X W).duties (cell c k) r = dut k r := by
  dsimp only [rd]; rw [if_pos rfl, dec_csl]
theorem amount_cell (c : Dev nD) (k : CK) (r : ℕ) (d : Du) : (rd X W).amount (cell c k) r d = amt k := by
  dsimp only [rd]; rw [dec_csl]
theorem payload_cell (c : Dev nD) (k : CK) (r : ℕ) (d : Du) : (rd X W).payload (cell c k) r d = pay X W c k r d := by
  dsimp only [rd]; rw [dec_csl]

theorem dut_dma (p b e : Bool) (a : Fin 4) (r : ℕ) (h : stp e a + 4 * r < nst p) : dut (dmak p b e a) r = {(false, false)} := if_pos h

theorem expect_dma (c : Dev nD) (p b e : Bool) (a : Fin 4) (r : ℕ) (h : stp e a + 4 * r < nst p) :
    (rd X W).expect (cell c (dmak p b e a)) r = amt (dmak p b e a) := by
  unfold Schedule.expect Schedule.amountOf
  rw [duties_cell, dut_dma _ _ _ _ _ h, Finset.sum_singleton, amount_cell]
theorem rest_dma (c : Dev nD) (p b e : Bool) (a : Fin 4) (r : ℕ) (h : stp e a + 4 * r < nst p) :
    bigSep ((rd X W).duties (cell c (dmak p b e a)) r \ ∅) (fun u => (rd X W).payload (cell c (dmak p b e a)) r u)
      = pay X W c (dmak p b e a) r (false, false) := by
  rw [Finset.sdiff_empty, duties_cell, dut_dma _ _ _ _ _ h, bigSep_singleton, payload_cell]

theorem expect_bar (c : Dev nD) : (rd X W).expect (cell c bark) 0 = 4 := by
  unfold Schedule.expect Schedule.amountOf
  rw [duties_cell, Finset.sum_congr rfl fun d _ => amount_cell X W c bark 0 d]; rfl
theorem expect_crd (c : Dev nD) (b : Bool) : (rd X W).expect (cell c (crdk b)) 0 = 4 := by
  unfold Schedule.expect Schedule.amountOf
  rw [duties_cell, Finset.sum_congr rfl fun d _ => amount_cell X W c (crdk b) 0 d]; rfl

end Sched

/-! ## The levels of the waits -/

/-- The index of a tally is the step it belongs to. -/
def L (g : GSem nD τ sig) : Finset ℕ := if g.1.2 = .tc then Finset.range 8 else ∅
/-- A wait may only look at cells below all that its thread still owes. -/
def lvk : CK → ℕ → ℕ
  | none, _ => 1
  | some (.inl _), j => 10 * j + 23
  | some (.inr (_, _, false, _)), _ => 0
  | some (.inr (false, _, true, _)), s => 10 * s + 15
  | some (.inr (true, _, true, _)), s => 1000 + s
def lv (g : GSem nD τ sig) (i : ℕ) : ℕ := match dec g.2 with | some k => lvk k i | none => 0

theorem L_of_ne (g : GSem nD τ sig) (h : g.1.2 ≠ .tc) : L g = ∅ := if_neg h
theorem L_cell (c : Dev nD) (s : SemLoc sig) : L ((c : Thread nD τ), s) = Finset.range 8 := if_pos rfl
theorem lv_cell (c : Dev nD) (k : CK) (i : ℕ) : lv (cell c k) i = lvk k i := by unfold lv; rw [dec_csl]

/-- All that is owed lies above level `n`. -/
def Above (n : ℕ) (O : CellTallies nD τ sig ℕ) : Prop := ∀ g u, 0 < O g u → u ∈ L g ∧ n < lv g u

theorem Above.zero (n : ℕ) : Above n 0 := fun g u h => absurd h (Nat.lt_irrefl 0)
theorem Above.add {n : ℕ} {O O' : CellTallies nD τ sig ℕ} (h : Above n O) (h' : Above n O') : Above n (O + O') := fun g u hg => by
  rw [Pi.add_apply, Finsupp.add_apply] at hg
  rcases Nat.add_pos_iff_pos_or_pos.mp hg with hg | hg
  · exact h g u hg
  · exact h' g u hg
theorem Above.tally {n : ℕ} (c : Dev nD) (k : CK) (i N : ℕ) (hi : i < 8) (hn : n < lvk k i) : Above n (tallyAt (cell c k) i N) := fun g u hg => by
  rw [tallyAt_apply] at hg
  by_cases h : g = cell c k ∧ u = i
  · rw [h.1, h.2, L_cell, lv_cell]; exact ⟨Finset.mem_range.mpr hi, hn⟩
  · rw [if_neg h] at hg; exact absurd hg (Nat.lt_irrefl 0)
theorem Above.mono {n n' : ℕ} {O : CellTallies nD τ sig ℕ} (h : Above n O) (hn : n' ≤ n) : Above n' O := fun g u hg =>
  ⟨(h g u hg).1, hn.trans_lt (h g u hg).2⟩

omit [FloatOps F] in
/-- The evidence of a wait on the indices `N` of one cell. -/
theorem mayOwe (c : Dev nD) (s : SemLoc sig) (i n : ℕ) (hi : i < 8) (hn : lv ((c : Thread nD τ), s) i ≤ n)
    {O : CellTallies nD τ sig ℕ} (hO : Above n O) :
    (levAts L lv : sProp 𝕄) ⊢ MayWait (c : Thread nD τ) s i O :=
  MayOwe.of_cut (L := L) (lev := lv) n (fun p hp => by rw [Finset.mem_singleton.mp hp, L_cell]; exact Finset.mem_range.mpr hi)
    (fun g u hg => (hO g u hg).1) (fun p hp => by rw [Finset.mem_singleton.mp hp]; exact hn) (fun g u hg => (hO g u hg).2)

/-! ## What each device owes, by steps -/

/-- What device `c` owes at step `s` of the first ring: its two transfers' arrivals, and the credits. -/
def sendOwe (p : Bool) (c : Dev nD) (b : Bool) (s : Nat) : CellTallies nD τ sig ℕ :=
  tallyAt (cell (nbr p b c) (dmak p b true (sl (s + 1)))) s (amt (dmak p b true (sl (s + 1))))
/-- The duty that names credit `j`. -/
def crdD (j : Nat) : Du := (decide (2 ≤ j), decide (j % 2 = 1))
def crdOwe (c : Dev nD) (b : Bool) (s : Nat) : CellTallies nD τ sig ℕ :=
  if 1 ≤ s ∧ s ≤ 4 then tallyAt (cell (nbr false (!b) c) (crdk b)) (s - 1) 1 else 0
def barOwe (c : Dev nD) (d : Du) : CellTallies nD τ sig ℕ := tallyAt (cell (nbr d.1 d.2 c) bark) 0 1

end Cert.KernelIdeal.K

end
-- ==== Proof.K.Mem.lean ====
/- Loads and stores by the contents of a memref, and of a slot cut out of a larger one. -/
module

public import proofs.«01_k».proof.Proof.K.Common

@[expose] public section

set_option maxRecDepth 20000

noncomputable section

namespace Cert.KernelIdeal.K

open Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx

variable {F : FTy → Type} [FloatOps F]

local notation "𝕄" => MT nD τ sig ℕ (Elt F) ℕ UU ℕ

abbrev 𝒱₀ : Variants := Variants.none

/-- What device `c` needs to run `p` and leave `Q`. -/
abbrev wpK {A : Type} (c : Dev nD) (p : BProg F A) (Q : A → sProp 𝕄) : sProp 𝕄 :=
  wp frame (wpE (defs₀ (F := F)) 𝒱₀ (c : Thread nD τ) none) Set.univ p Q

theorem wpK_bind {A B : Type} (c : Dev nD) (p : BProg F A) (k : A → BProg F B) (Q : B → sProp 𝕄) :
    wpK c (p >>= k) Q = wpK c p (fun a => wpK c (k a) Q) := wp_bind ..

/-- A finished program. -/
theorem wpK_pure {A : Type} (c : Dev nD) (a : A) (Q : A → sProp 𝕄) : Q a ⊢ wpK c (pure a) Q := by
  show Q a ⊢ wp _ _ _ (.ret a) Q
  rw [wp_ret]; iintro H; imodintro; iexact H

/-- A proved step in front of a continuation. -/
theorem wpK_step {A : Type} (c : Dev nD) {p : BProg F A} {P : sProp 𝕄} {Q Q' : A → sProp 𝕄} (h : P ⊢ wpK c p Q') :
    P ⊢ iprop((∀ a, Q' a -∗ Q a) -∗ wpK c p Q) :=
  h.trans (wp_wand frame (wpE (defs₀ (F := F)) 𝒱₀ (c : Thread nD τ) none) Set.univ)

/-- The same in front of the rest of a program. -/
theorem wpK_seq {A B : Type} (c : Dev nD) {p : BProg F A} {k : A → BProg F B} {P : sProp 𝕄} {Q : B → sProp 𝕄} {Q' : A → sProp 𝕄} (h : P ⊢ wpK c p Q') :
    P ⊢ iprop((∀ a, Q' a -∗ wpK c (k a) Q) -∗ wpK c (p >>= k) Q) := by
  rw [wpK_bind]; exact wpK_step c h

section Owned
variable {sp : CoreSpace} {s : Shape} {e : EltTy}

theorem wp_load_owns (c : Dev nD) (m : Memref sig .tc sp s e) (q : PosShare TreeShare) (V : s.Idx → Elt F e) (r : Rect s)
    {hl : m.view.LoadsAt r.toLoadRect} :
    (owns (c : Thread nD τ) m q V : sProp 𝕄)
      ⊢ wpK (F := F) c (Prog.lift (.load m r.toLoadRect hl)) (fun x => iprop(⌜x = fun i => V (r.emb i)⌝ ∗ owns (c : Thread nD τ) m q V)) := by
  unfold owns
  iintro ⟨%f, %hf, H⟩
  subst hf
  iapply (wp_load 𝒱₀ (c : Thread nD τ) none Set.univ (m := m) (View.setOn_subset_set ..)) $$ H
  iintro H
  rw [wp_ret]; imodintro
  isplitr
  · ipureintro; rfl
  · iexists f; isplitr
    · ipureintro; rfl
    · iexact H

theorem wp_store_owns (c : Dev nD) (m : Memref sig .tc sp s e) (V V' : s.Idx → Elt F e) (r : Rect s) (w : r.shape.Idx → Elt F e)
    {hx : (m.access r).Stores Finset.univ} {hm : (Finset.univ : Finset r.shape.Idx) = Finset.univ ∨ ∀ a, r.stride a = 1}
    (hin : ∀ x, V' (r.emb x) = w x) (hout : ∀ y, (∀ x, r.emb x ≠ y) → V' y = V y) :
    (owns (c : Thread nD τ) m fullShare V : sProp 𝕄)
      ⊢ wpK (F := F) c (Prog.lift (.store m r w Finset.univ hx hm)) (fun _ => owns (c : Thread nD τ) m fullShare V') := by
  unfold owns
  iintro ⟨%f, %hf, H⟩
  subst hf
  iapply (wp_store 𝒱₀ (c : Thread nD τ) none Set.univ (m := m) (r := r) (Mk := Finset.univ) (S := m.view.set)
    (by rw [View.setOn_univ]; exact View.set_slice_subset ..)) $$ H
  iintro H
  rw [wp_ret]; imodintro
  iexists ((m.access r).write (Elt F) f w Finset.univ); isplitr
  · ipureintro
    funext y
    by_cases hy : ∃ x, r.emb x = y
    · obtain ⟨x, rfl⟩ := hy
      rw [hin]; exact View.read_slice_write_emb (v := m.view) r f w (Finset.mem_univ x)
    · have hy' : ∀ x, r.emb x ≠ y := fun x hx => hy ⟨x, hx⟩
      rw [hout y hy']
      exact View.read_slice_write_of_not_mem (v := m.view) r f w Finset.univ (by simpa using hy')
  · iexact H

end Owned

section Slot
variable {sp : CoreSpace} {s s' : Shape} {e : EltTy}

/-- A slot of `m` as a rectangle reshaped. -/
abbrev cut (m : Memref sig .tc sp s e) (rs : Rect s) (hs : ∀ a, rs.stride a = 1) (hq : rs.shape.Squeezes s') : Memref sig .tc sp s' e :=
  (m.slice rs hs).squeeze s' hq

section
variable (c : Dev nD) (m : Memref sig .tc sp s e) (rs : Rect s) (hs : ∀ a, rs.stride a = 1) (hq : rs.shape.Squeezes s')
  (r : Rect s) (φ : r.shape.Idx → s'.Idx) (hφ : ∀ x, r.emb x = rs.emb (Shape.reshapeEquiv hq.numel_eq (φ x)))
include hφ

theorem access_subset_cut : (m.access r).set ⊆ (cut m rs hs hq).view.set := by
  intro i hi
  obtain ⟨x, -, rfl⟩ := Finset.mem_map.mp hi
  rw [show (m.access r).emb x = m.view.emb (r.emb x) from rfl, hφ]
  exact (cut m rs hs hq).view.emb_mem_set (φ x)

theorem wp_load_cut (q : PosShare TreeShare) (V : s'.Idx → Elt F e) {hl : m.view.LoadsAt r.toLoadRect} :
    (owns (c : Thread nD τ) (cut m rs hs hq) q V : sProp 𝕄)
      ⊢ wpK (F := F) c (Prog.lift (.load m r.toLoadRect hl)) (fun x => iprop(⌜x = fun i => V (φ i)⌝ ∗ owns (c : Thread nD τ) (cut m rs hs hq) q V)) := by
  unfold owns
  iintro ⟨%f, %hf, H⟩
  subst hf
  iapply (wp_load_rect 𝒱₀ (c : Thread nD τ) none Set.univ (m := m) (r := r) (S := (cut m rs hs hq).view.set)
    (access_subset_cut m rs hs hq r φ hφ)) $$ H
  iintro H
  rw [wp_ret]; imodintro
  isplitr
  · ipureintro
    funext x
    show m.view.read (Elt F) f (r.emb x) = _
    rw [hφ]; rfl
  · iexists f; isplitr
    · ipureintro; rfl
    · iexact H

theorem wp_store_cut (V V' : s'.Idx → Elt F e) (w : r.shape.Idx → Elt F e)
    {hx : (m.access r).Stores Finset.univ} {hm : (Finset.univ : Finset r.shape.Idx) = Finset.univ ∨ ∀ a, r.stride a = 1}
    (hin : ∀ x, V' (φ x) = w x) (hout : ∀ y, (∀ x, φ x ≠ y) → V' y = V y) :
    (owns (c : Thread nD τ) (cut m rs hs hq) fullShare V : sProp 𝕄)
      ⊢ wpK (F := F) c (Prog.lift (.store m r w Finset.univ hx hm)) (fun _ => owns (c : Thread nD τ) (cut m rs hs hq) fullShare V') := by
  unfold owns
  iintro ⟨%f, %hf, H⟩
  subst hf
  iapply (wp_store 𝒱₀ (c : Thread nD τ) none Set.univ (m := m) (r := r) (Mk := Finset.univ) (S := (cut m rs hs hq).view.set)
    (by rw [View.setOn_univ]; exact access_subset_cut m rs hs hq r φ hφ)) $$ H
  iintro H
  rw [wp_ret]; imodintro
  iexists ((m.access r).write (Elt F) f w Finset.univ); isplitr
  · ipureintro
    funext y
    show m.view.read (Elt F) ((m.access r).write (Elt F) f w Finset.univ) (rs.emb (Shape.reshapeEquiv hq.numel_eq y)) = V' y
    by_cases hy : ∃ x, φ x = y
    · obtain ⟨x, rfl⟩ := hy
      rw [hin, ← hφ]; exact View.read_slice_write_emb (v := m.view) r f w (Finset.mem_univ x)
    · have hy' : ∀ x, φ x ≠ y := fun x hx => hy ⟨x, hx⟩
      rw [hout y hy']
      refine View.read_slice_write_of_not_mem (v := m.view) r f w Finset.univ ?_
      intro hm
      obtain ⟨x, -, hx⟩ := Finset.mem_map.mp hm
      rw [hφ] at hx
      exact hy' x ((Shape.reshapeEquiv hq.numel_eq).injective (rs.emb.injective hx))
  · iexact H

end

end Slot

/-! ## The kernel's own accesses -/

theorem blk_emb (a k : Fin 4) (x : (rBlk a k).shape.Idx) :
    (rBlk a k).emb x = (rSlot a).emb (Shape.reshapeEquiv squeezes_S1x4x128x1024_S4x128x1024.numel_eq (ix3 k (x 2) (x 3))) := by
  refine Eq.trans ?_ (congrArg (rSlot a).emb (reshapeEquiv_ix3_1abc squeezes_S1x4x128x1024_S4x128x1024.numel_eq k (x 2) (x 3)).symm)
  funext d
  apply Fin.ext
  have h0 : (x 0).val = 0 := Nat.lt_one_iff.mp (x 0).isLt
  have h1 : (x 1).val = 0 := Nat.lt_one_iff.mp (x 1).isLt
  match d with
  | ⟨0, _⟩ => show a.val + 1 * (x 0).val = a.val + 1 * 0; rw [h0]
  | ⟨1, _⟩ => show k.val + 1 * (x 1).val = 0 + 1 * k.val; rw [h1]; omega
  | ⟨2, _⟩ => rfl
  | ⟨3, _⟩ => rfl

theorem row_emb (a : Fin 4) (x : (rRow a).shape.Idx) :
    (rRow a).emb x = (rRow a).emb (Shape.reshapeEquiv squeezes_S1x128x1024_S128x1024.numel_eq (ix2 (x 1) (x 2))) := by
  refine congrArg (rRow a).emb ?_
  refine Eq.trans ?_ (reshapeEquiv_ix2_1ab squeezes_S1x128x1024_S128x1024.numel_eq (x 1) (x 2)).symm
  refine (eq_ix3 x).trans ?_
  have h0 : x 0 = (⟨0, Nat.one_pos⟩ : Fin 1) := Subsingleton.elim (α := Fin 1) _ _
  rw [h0]; rfl

theorem flat_apply (v : Vec F S1x1x128x1024 .bf16) (i : S128x1024.Idx) : flat v i = v (ix4 (0 : Fin 1) (0 : Fin 1) (i 0) (i 1)) := by
  exact (congrArg v ((congrArg (Shape.reshapeEquiv _) (eq_ix2 i)).trans (reshapeEquiv_ix2_11ab shapeCasts_S1x1x128x1024_S128x1024 (i 0) (i 1))))
theorem flat3_apply {t : FTy} (v : FVec F S1x128x1024 t) (i : S128x1024.Idx) : flat3 v i = v (ix3 (0 : Fin 1) (i 0) (i 1)) := by
  exact (congrArg v ((congrArg (Shape.reshapeEquiv _) (eq_ix2 i)).trans (reshapeEquiv_ix2_1ab shapeCasts_S1x128x1024_S128x1024 (i 0) (i 1))))
theorem unflat3_apply {t : FTy} (v : FVec F S128x1024 t) (x : S1x128x1024.Idx) : unflat3 v x = v (ix2 (x 1) (x 2)) := by
  rw [eq_ix3 x]; exact shapeCast_ab_1ab_apply v _ _ _ _
theorem unflat_apply (v : FVec F S128x1024 .bf16) (x : S1x1x128x1024.Idx) : unflat v x = v (ix2 (x 2) (x 3)) := by
  unfold unflat
  refine shapeCast_apply v _ _ _ ?_
  rw [Shape.rowMajor_val_four, Shape.rowMajor_val_two]
  have h0 : (x 0).val = 0 := Nat.lt_one_iff.mp (x 0).isLt
  have h1 : (x 1).val = 0 := Nat.lt_one_iff.mp (x 1).isLt
  show (x 2).val * 1024 + (x 3).val = (((x 0).val * 1 + (x 1).val) * 128 + (x 2).val) * 1024 + (x 3).val
  rw [h0, h1]; omega

theorem pack_ix3 {t : FTy} (w : Fin 4 → FVec F S128x1024 t) (k : Fin 4) (i : S128x1024.Idx) :
    pack w (ix3 k (i 0) (i 1)) = w k i := by rw [eq_ix2 i]; rfl
theorem exists_pack {t : FTy} (V : FVec F S4x128x1024 t) : ∃ w, V = pack w :=
  ⟨fun k i => V (ix3 k (i 0) (i 1)), by funext x; rw [eq_ix3 x]; rfl⟩

theorem wp_ldB (c : Dev nD) (b : Bool) (a k : Fin 4) (w : Fin 4 → FVec F S128x1024 .bf16) :
    (sow c b a (pack w) : sProp 𝕄) ⊢ wpK c (ldB b a k) (fun x => iprop(⌜flat x = w k⌝ ∗ sow c b a (pack w))) := by
  refine (wp_load_cut c (comm b) (rSlot a) (fun _ => rfl) squeezes_S1x4x128x1024_S4x128x1024 (rBlk a k) (fun x => ix3 k (x 2) (x 3))
    (blk_emb a k) fullShare (pack w)).trans (wp_mono _ _ _ fun x => ?_)
  iintro ⟨%hx, H⟩
  isplitr
  · ipureintro; subst hx; funext i; rw [flat_apply]; exact pack_ix3 w k i
  · unfold sow; iexact H

theorem wp_stB (c : Dev nD) (b : Bool) (a k : Fin 4) (w : Fin 4 → FVec F S128x1024 .bf16) (v : FVec F S128x1024 .bf16) :
    (sow c b a (pack w) : sProp 𝕄) ⊢ wpK c (stB b a k v) (fun _ => sow c b a (pack (Function.update w k v))) := by
  refine wp_store_cut c (comm b) (rSlot a) (fun _ => rfl) squeezes_S1x4x128x1024_S4x128x1024 (rBlk a k) (fun x => ix3 k (x 2) (x 3))
    (blk_emb a k) (pack w) (pack (Function.update w k v)) (unflat v) (fun x => ?_) (fun y hy => ?_)
  · rw [unflat_apply]
    exact congrFun (Function.update_self k v w) (ix2 (x 2) (x 3))
  · have hk : y 0 ≠ k := fun h => hy (ix4 (0 : Fin 1) (0 : Fin 1) (y 1) (y 2)) (by
      rw [eq_ix3 y, ← h]; rfl)
    exact congrFun (Function.update_of_ne hk v w) (ix2 (y 1) (y 2))

theorem wp_ldC (c : Dev nD) (b : Bool) (a : Fin 4) (v : FVec F S128x1024 .bf16) :
    (sow2 c b a v : sProp 𝕄) ⊢ wpK c (ldC b a) (fun x => iprop(⌜flat3 (t := .bf16) x = v⌝ ∗ sow2 c b a v)) := by
  refine (wp_load_cut c (comm2 b) (rRow a) (fun _ => rfl) squeezes_S1x128x1024_S128x1024 (rRow a) (fun x => ix2 (x 1) (x 2))
    (row_emb a) fullShare v).trans (wp_mono _ _ _ fun x => ?_)
  iintro ⟨%hx, H⟩
  isplitr
  · ipureintro; subst hx; funext i; rw [flat3_apply]; exact congrArg v (eq_ix2 i).symm
  · unfold sow2; iexact H

theorem wp_stC (c : Dev nD) (b : Bool) (a : Fin 4) (u v : FVec F S128x1024 .bf16) :
    (sow2 c b a u : sProp 𝕄) ⊢ wpK c (stC b a v) (fun _ => sow2 c b a v) := by
  refine wp_store_cut c (comm2 b) (rRow a) (fun _ => rfl) squeezes_S1x128x1024_S128x1024 (rRow a) (fun x => ix2 (x 1) (x 2))
    (row_emb a) u v (unflat3 v) (fun x => ?_) (fun y hy => ?_)
  · rw [unflat3_apply]
  · exact absurd (eq_ix2 y).symm (hy (ix3 (0 : Fin 1) (y 0) (y 1)))

/-- Device `c` owns the finished sums. -/
def bow (c : Dev nD) (b : Bool) (w : Fin 4 → FVec F S128x1024 .f32) : sProp 𝕄 := owns (c : Thread nD τ) (bun b) fullShare (pack w)

theorem wp_ldS (c : Dev nD) (b : Bool) (off : Fin 3 → Nat) (h) (r : Fin 4) (ho : off = ![r.val, 0, 0]) (w : Fin 4 → FVec F S128x1024 .f32) :
    (bow c b w : sProp 𝕄) ⊢ wpK c (ldS b off h) (fun x => iprop(⌜flat3 (t := .f32) x = w r⌝ ∗ bow c b w)) := by
  subst ho
  refine (wp_load_owns c (bun b) fullShare (pack w) (rRow r)).trans (wp_mono _ _ _ fun x => ?_)
  iintro ⟨%hx, H⟩
  isplitr
  · ipureintro; subst hx; funext i; rw [flat3_apply]; refine Eq.trans ?_ (pack_ix3 w r i)
    refine congrArg (pack w) (funext fun d => Fin.ext ?_)
    match d with
    | ⟨0, _⟩ => rfl
    | ⟨1, _⟩ => show 0 + 1 * (i 0).val = (i 0).val; omega
    | ⟨2, _⟩ => show 0 + 1 * (i 1).val = (i 1).val; omega
  · unfold bow; iexact H

theorem wp_stS (c : Dev nD) (b : Bool) (k : Fin 4) (w : Fin 4 → FVec F S128x1024 .f32) (v : FVec F S128x1024 .f32) :
    (bow c b w : sProp 𝕄) ⊢ wpK c (stS b k v) (fun _ => bow c b (Function.update w k v)) := by
  have he : ∀ x : (rRow k).shape.Idx, (rRow k).emb x = (ix3 k (x 1) (x 2) : S4x128x1024.Idx) := fun x => funext fun d => Fin.ext (by
    have h0 : (x 0).val = 0 := Nat.lt_one_iff.mp (x 0).isLt
    match d with
    | ⟨0, _⟩ => show k.val + 1 * (x 0).val = k.val; omega
    | ⟨1, _⟩ => show 0 + 1 * (x 1).val = (x 1).val; omega
    | ⟨2, _⟩ => show 0 + 1 * (x 2).val = (x 2).val; omega)
  refine wp_store_owns c (bun b) (pack w) (pack (Function.update w k v)) (rRow k) (unflat3 v) (fun x => ?_) (fun y hy => ?_)
  · rw [unflat3_apply, he]
    exact congrFun (Function.update_self k v w) (ix2 (x 1) (x 2))
  · have hk : y 0 ≠ k := fun h => hy (ix3 (0 : Fin 1) (y 1) (y 2)) (by
      rw [he, eq_ix3 y, ← h]; rfl)
    exact congrFun (Function.update_of_ne hk v w) (ix2 (y 1) (y 2))

end Cert.KernelIdeal.K

end
-- ==== Proof.K.Comm.lean ====
/- The transfers, signals and waits of the kernel, each by what it takes and what it brings. -/
module

public import proofs.«01_k».proof.Proof.K.Mem

@[expose] public section

set_option maxRecDepth 20000

noncomputable section

namespace Cert.KernelIdeal.K

open Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx

variable {F : FTy → Type} [FloatOps F]

local notation "𝕄" => MT nD τ sig ℕ (Elt F) ℕ UU ℕ

section
variable (X : Dev nD → Vec F S4096x128 .fp8e4m3) (W : Dev nD → FVec F S128x2048 .bf16) (K : Dev nD × CK → ℕ)

/-! ## The records -/

/-- Every cell's invariant, its first round, and the levels. -/
def recs : sProp 𝕄 :=
  iprop((bigSep Finset.univ fun i : Dev nD × CK => cellInv ER (rd X W) (K i) (cell i.1 i.2))
    ∗ (bigSep Finset.univ fun i : Dev nD × CK => reached ER (cell i.1 i.2) 0) ∗ levAts L lv)

instance recs_persistent : BI.Persistent (recs X W K) := by
  unfold recs; infer_instance

theorem recs_inv (c : Dev nD) (k : CK) : recs X W K ⊢ cellInv ER (rd X W) (K (c, k)) (cell c k) := by
  unfold recs
  iintro ⟨#H, -, -⟩
  have h : (bigSep Finset.univ fun i : Dev nD × CK => (cellInv ER (rd X W) (K i) (cell i.1 i.2) : sProp 𝕄)) ⊢ cellInv ER (rd X W) (K (c, k)) (cell c k) :=
    bigSep_elim (Finset.mem_univ (c, k))
  iapply h; iexact H
theorem recs_reached (c : Dev nD) (k : CK) : recs X W K ⊢ reached ER (cell c k) 0 := by
  unfold recs
  iintro ⟨-, #H, -⟩
  have h : (bigSep Finset.univ fun i : Dev nD × CK => (reached ER (cell i.1 i.2) 0 : sProp 𝕄)) ⊢ reached ER (cell c k) 0 :=
    bigSep_elim (Finset.mem_univ (c, k))
  iapply h; iexact H
theorem recs_lev : recs X W K ⊢ levAts L lv := by
  unfold recs
  iintro ⟨-, -, #H⟩
  iexact H

/-- What a device still owes. -/
def ow (c : Dev nD) (O : CellTallies nD τ sig ℕ) : sProp 𝕄 := iprop(∃ Wt : Waits sig ℕ, owes (c : Thread nD τ) O Wt)

theorem recs_may (c : Dev nD) (k : CK) (i n : ℕ) (hi : i < 8) (hn : lvk k i ≤ n) {O : CellTallies nD τ sig ℕ} (hO : Above n O) :
    recs X W K ⊢ MayWait (c : Thread nD τ) (csl k) i O := by
  have h : lv (cell c k) i ≤ n := by rw [lv_cell]; exact hn
  exact (recs_lev X W K).trans (mayOwe c (csl k) i n hi h hO)

/-! ## The waits -/

/-- Waiting for a whole transfer. -/
theorem wp_waitD {w : TpuEff nD τ sig (Elt F) Λ₀ .tc PUnit} (c : Dev nD) (p b e : Bool) (a : Fin 4) (r i n : ℕ)
    (hw : ∀ Q : PUnit → sProp 𝕄, wpE (defs₀ (F := F)) 𝒱₀ (c : Thread nD τ) none Set.univ w Q
      = waitSpec (c : Thread nD τ) Set.univ (csl (dmak p b e a)) (amt (dmak p b e a)) Q)
    (h : stp e a + 4 * r < nst p) (hi : i < 8) (hn : lvk (dmak p b e a) i ≤ n) {O : CellTallies nD τ sig ℕ} (hO : Above n O) :
    iprop(recs X W K ∗ cred (tallyAt (cell c (dmak p b e a)) i (amt (dmak p b e a))) ∗ ow c O ∗ atPos ER (cell c (dmak p b e a)) r ∅ 0)
      ⊢ wpK c (Prog.lift w) (fun _ => iprop(ow c O ∗ atPos ER (cell c (dmak p b e a)) (r + 1) ∅ 0
          ∗ reached ER (cell c (dmak p b e a)) (r + 1) ∗ pay X W c (dmak p b e a) r (false, false))) := by
  iintro ⟨#HR, Hc, HO, Hat⟩
  unfold ow
  icases HO with ⟨%Wt, HO⟩
  iapply (Rounds.wp_wait_rest_token 𝒱₀ ER (rd X W) (c : Thread nD τ) none (κ := K (c, dmak p b e a))
      hw (Set.mem_univ _) i (O := O) (W := Wt) (R := r) (m := 0) (T := ∅)
      (by rw [Nat.zero_add, expect_dma X W c p b e a r h])) $$ [Hc HO Hat]
  · isplitr; · iapply (recs_inv X W K c (dmak p b e a)); iexact HR
    isplitl [Hc]; · iexact Hc
    isplitl [HO]; · iexact HO
    isplitr; · iapply (recs_may X W K c (dmak p b e a) i n hi hn hO); iexact HR
    iexact Hat
  iintro ⟨HO, Hat, Hr, Hp⟩
  ihave Hp := (Entails.of_eq (rest_dma X W c p b e a r h)) $$ Hp
  rw [wp_ret]; imodintro
  isplitl [HO]; · iexists (insert (csl (dmak p b e a), i) Wt); iexact HO
  isplitl [Hat]; · iexact Hat
  isplitl [Hr]; · iexact Hr
  iexact Hp

theorem wp_waitD1 (c : Dev nD) (b e : Bool) (a a₁ a₂ : Fin 4) (r i n : ℕ)
    (h : stp e a + 4 * r < 7) (hi : i < 8) (hn : lvk (dmak false b e a) i ≤ n) {O : CellTallies nD τ sig ℕ} (hO : Above n O) :
    iprop(recs X W K ∗ cred (tallyAt (cell c (dmak false b e a)) i (amt (dmak false b e a))) ∗ ow c O ∗ atPos ER (cell c (dmak false b e a)) r ∅ 0)
      ⊢ wpK c (waitD1 b e a a₁ a₂) (fun _ => iprop(ow c O ∗ atPos ER (cell c (dmak false b e a)) (r + 1) ∅ 0
          ∗ reached ER (cell c (dmak false b e a)) (r + 1) ∗ pay X W c (dmak false b e a) r (false, false))) :=
  wp_waitD X W K (w := .waitDma2 (dsem false b e a) (slot b a₁) (slot b a₂) (slot_words b _) (slot_words b _)) c false b e a r i n
    (wpE_waitDma2_eq 𝒱₀ (c : Thread nD τ) none Set.univ) h hi hn hO

theorem wp_waitD2 (c : Dev nD) (b e : Bool) (a a₁ a₂ : Fin 4) (r i n : ℕ)
    (h : stp e a + 4 * r < 3) (hi : i < 8) (hn : lvk (dmak true b e a) i ≤ n) {O : CellTallies nD τ sig ℕ} (hO : Above n O) :
    iprop(recs X W K ∗ cred (tallyAt (cell c (dmak true b e a)) i (amt (dmak true b e a))) ∗ ow c O ∗ atPos ER (cell c (dmak true b e a)) r ∅ 0)
      ⊢ wpK c (waitD2 b e a a₁ a₂) (fun _ => iprop(ow c O ∗ atPos ER (cell c (dmak true b e a)) (r + 1) ∅ 0
          ∗ reached ER (cell c (dmak true b e a)) (r + 1) ∗ pay X W c (dmak true b e a) r (false, false))) :=
  wp_waitD X W K (w := .waitDma2 (dsem true b e a) (slot2 b a₁) (slot2 b a₂) (slot2_words b _) (slot2_words b _)) c true b e a r i n
    (wpE_waitDma2_eq 𝒱₀ (c : Thread nD τ) none Set.univ) h hi hn hO

/-! ## The transfers -/

theorem stp_send (s : ℕ) : stp false (sl s) + 4 * (s / 4) = s := by show s % 4 + 4 * (s / 4) = s; omega
theorem stp_recv (s : ℕ) : stp true (sl (s + 1)) + 4 * (s / 4) = s := by show ((s + 1) % 4 + 3) % 4 + 4 * (s / 4) = s; omega

theorem pay_send1 (c : Dev nD) (b : Bool) (s : ℕ) (d : Du) :
    pay X W c (dmak false b false (sl s)) (s / 4) d = sow c b (sl s) (pack (R X W b s c)) := by
  refine (show _ = sow c b (sl s) (pack (R X W b (stp false (sl s) + 4 * (s / 4)) c)) from rfl).trans ?_; rw [stp_send]
theorem pay_recv1 (c : Dev nD) (b : Bool) (s : ℕ) (d : Du) :
    pay X W c (dmak false b true (sl (s + 1))) (s / 4) d = landed X W b c (sl (s + 1)) s := by
  refine (show _ = landed X W b c (sl (s + 1)) (stp true (sl (s + 1)) + 4 * (s / 4)) from rfl).trans ?_; rw [stp_recv]
theorem pay_send2 (c : Dev nD) (b : Bool) (s : ℕ) (d : Du) :
    pay X W c (dmak true b false (sl s)) (s / 4) d = sow2 c b (sl s) (T X W b s c) := by
  refine (show _ = sow2 c b (sl s) (T X W b (stp false (sl s) + 4 * (s / 4)) c) from rfl).trans ?_; rw [stp_send]
theorem pay_recv2 (c : Dev nD) (b : Bool) (s : ℕ) (d : Du) :
    pay X W c (dmak true b true (sl (s + 1))) (s / 4) d = sow2 c b (sl (s + 1)) (T X W b s (nbr true (!b) c)) := by
  refine (show _ = sow2 c b (sl (s + 1)) (T X W b (stp true (sl (s + 1)) + 4 * (s / 4)) (nbr true (!b) c)) from rfl).trans ?_; rw [stp_recv]

theorem send_mem (c : Dev nD) (p b : Bool) (s : ℕ) (hs : s < nst p) :
    (false, false) ∈ (rd X W).duties (cell c (dmak p b false (sl s))) (s / 4) := by
  rw [duties_cell, dut_dma _ _ _ _ _ (by rw [stp_send]; exact hs)]; exact Finset.mem_singleton_self _
theorem recv_mem (c : Dev nD) (p b : Bool) (s : ℕ) (hs : s < nst p) :
    (false, false) ∈ (rd X W).duties (cell c (dmak p b true (sl (s + 1)))) (s / 4) := by
  rw [duties_cell, dut_dma _ _ _ _ _ (by rw [stp_recv]; exact hs)]; exact Finset.mem_singleton_self _

theorem send_pay1 (c : Dev nD) (b : Bool) (s : ℕ) (fs : Buf (Elt F) ((slot b (sl s)).view.loc (c : Thread nD τ)))
    (hfs : (slot b (sl s)).view.read (Elt F) fs = pack (R X W b s c)) :
    ((slot b (sl s)).view.loc (c : Thread nD τ) ↦[(slot b (sl s)).view.set]{fullShare} fs : sProp 𝕄)
      ⊢ (rd X W).payload (cell c (dmak false b false (sl s))) (s / 4) (false, false) := by
  rw [payload_cell, pay_send1, ← hfs]
  exact owns_intro (c : Thread nD τ) (slot b (sl s)) fullShare fs

theorem recv_pay1 (c : Dev nD) (b : Bool) (s : ℕ) (fs : Buf (Elt F) ((slot b (sl s)).view.loc (c : Thread nD τ)))
    (fd : Buf (Elt F) ((slot b (sl (s + 1))).view.loc (nbr false b c : Thread nD τ)))
    (hfs : (slot b (sl s)).view.read (Elt F) fs = pack (R X W b s c)) :
    iprop(((slot b (sl (s + 1))).view.loc (nbr false b c : Thread nD τ) ↦[(slot b (sl (s + 1))).view.set]{fullShare}
        ((slot b (sl (s + 1))).view.write (Elt F) fd ((slot b (sl s)).view.read (Elt F) fs) Finset.univ)) ∗ extra (nbr false b c) b s)
      ⊢ ((rd X W).payload (cell (nbr false b c) (dmak false b true (sl (s + 1)))) (s / 4) (false, false) : sProp 𝕄) := by
  rw [payload_cell, pay_recv1]
  unfold landed
  rw [nbr_not_nbr]
  refine BI.sep_mono ?_ (BI.Entails.refl _)
  have h := owns_intro (Ix := ℕ) (Name := ℕ) (U := UU) (Lvl := ℕ) (nbr false b c : Thread nD τ) (slot b (sl (s + 1))) fullShare
    ((slot b (sl (s + 1))).view.write (Elt F) fd ((slot b (sl s)).view.read (Elt F) fs) Finset.univ)
  rw [View.read_write_univ, hfs] at h
  rw [hfs]
  exact h

theorem wp_send1_at (c : Dev nD) (b : Bool) (s : ℕ) (hs : s < 7) (O : CellTallies nD τ sig ℕ) (n : Dev nD) (hn : n = nbr false b c)
    {hsc : (slot b (sl (s + 1)) : Memref sig (Dev.tc n : Thread nD τ).2.kind .vmem S4x128x1024 .bf16).view.ref.isScScratch = false}
    {hsrc : (slot b (sl s)).view.WordExact} {hdst : (slot b (sl (s + 1)) : Memref sig (Dev.tc n : Thread nD τ).2.kind .vmem S4x128x1024 .bf16).view.WordExact}
    {hsem : DmaTarget.Typed .vmem (.dma (dsem false b true (sl (s + 1)))) (.remote (Dev.tc n : Thread nD τ) (slot b (sl (s + 1))) (.dma (dsem false b false (sl s))) hsc)} :
    iprop(recs X W K ∗ sow c b (sl s) (pack (R X W b s c)) ∗ tgt c b s ∗ ow c (O + sendOwe false c b s)
        ∗ dutyTok ER (cell c (dmak false b false (sl s))) (s / 4) (false, false) ∗ reached ER (cell c (dmak false b false (sl s))) (s / 4)
        ∗ dutyTok ER (cell (nbr false b c) (dmak false b true (sl (s + 1)))) (s / 4) (false, false)
        ∗ extra (nbr false b c) b s)
      ⊢ wpK (F := F) c (Prog.lift (.enqueueDma (slot b (sl s)) (.remote (Dev.tc n : Thread nD τ) (slot b (sl (s + 1))) (.dma (dsem false b false (sl s))) hsc)
          (.dma (dsem false b true (sl (s + 1)))) hsrc hdst hsem))
        (fun _ => iprop(ow c O ∗ cred (tallyAt (cell c (dmak false b false (sl s))) 0 (amt (dmak false b false (sl s)))))) := by
  subst hn
  iintro ⟨#HR, Hs, Ht, HO, Htk, #Hr, Htk', HF⟩
  unfold ow tgt
  icases HO with ⟨%Wt, HO⟩
  icases Ht with ⟨⟨%V, Hd⟩, #Hr'⟩
  unfold sow owns
  icases Hs with ⟨%fs, %hfs, Hs⟩
  icases Hd with ⟨%fd, -, Hd⟩
  iapply (Rounds.wp_send_pointsTo_with 𝒱₀ ER (rd X W) (c : Thread nD τ) none (κ₁ := K (c, dmak false b false (sl s))) (κ₂ := K (nbr false b c, dmak false b true (sl (s + 1))))
    (r₁ := s / 4) (r₂ := s / 4) (d₁ := (false, false)) (d₂ := (false, false)) (fs := fs) (fd := fd)
    (c' := (nbr false b c : Thread nD τ)) (src := slot b (sl s)) (dst := slot b (sl (s + 1))) (sS := .dma (dsem false b false (sl s))) (sem := .dma (dsem false b true (sl (s + 1))))
    (F := extra (nbr false b c) b s)
    (send_mem X W c false b s hs) (recv_mem X W (nbr false b c) false b s hs)
    s 0 (amt (dmak false b false (sl s))) rfl (amount_cell X W c (dmak false b false (sl s)) _ _) (amount_cell X W (nbr false b c) (dmak false b true (sl (s + 1))) _ _)
    O rfl (W := Wt) (send_pay1 X W c b s fs hfs) (recv_pay1 X W c b s fs fd hfs)) $$ [Hs Hd HF HO Htk Htk']
  · isplitr; · iapply (recs_inv X W K c (dmak false b false (sl s))); iexact HR
    isplitr; · iapply (recs_inv X W K (nbr false b c) (dmak false b true (sl (s + 1)))); iexact HR
    isplitl [Hs]; · iexact Hs
    isplitl [Hd HF]
    · isplitl [Hd]; · iexact Hd
      iexact HF
    isplitl [HO]; · iexact HO
    isplitl [Htk]; · iexact Htk
    isplitr; · iexact Hr
    isplitl [Htk']; · iexact Htk'
    iexact Hr'
  iintro ⟨Hc, HO⟩
  rw [wp_ret]; imodintro
  isplitl [HO]; · iexists Wt; iexact HO
  iexact Hc

theorem wp_send1 (c : Dev nD) (b : Bool) (s : ℕ) (hs : s < 7) (O : CellTallies nD τ sig ℕ) :
    iprop(recs X W K ∗ sow c b (sl s) (pack (R X W b s c)) ∗ tgt c b s ∗ ow c (O + sendOwe false c b s)
        ∗ dutyTok ER (cell c (dmak false b false (sl s))) (s / 4) (false, false) ∗ reached ER (cell c (dmak false b false (sl s))) (s / 4)
        ∗ dutyTok ER (cell (nbr false b c) (dmak false b true (sl (s + 1)))) (s / 4) (false, false)
        ∗ extra (nbr false b c) b s)
      ⊢ wpK (F := F) c (send1 c b s)
        (fun _ => iprop(ow c O ∗ cred (tallyAt (cell c (dmak false b false (sl s))) 0 (amt (dmak false b false (sl s)))))) :=
  wp_send1_at X W K c b s hs O (dst1 b c) (dst1_eq b c)

theorem send_pay2 (c : Dev nD) (b : Bool) (s : ℕ) (fs : Buf (Elt F) ((slot2 b (sl s)).view.loc (c : Thread nD τ)))
    (hfs : (slot2 b (sl s)).view.read (Elt F) fs = T X W b s c) :
    ((slot2 b (sl s)).view.loc (c : Thread nD τ) ↦[(slot2 b (sl s)).view.set]{fullShare} fs : sProp 𝕄)
      ⊢ (rd X W).payload (cell c (dmak true b false (sl s))) (s / 4) (false, false) := by
  rw [payload_cell, pay_send2, ← hfs]
  exact owns_intro (c : Thread nD τ) (slot2 b (sl s)) fullShare fs

theorem recv_pay2 (c : Dev nD) (b : Bool) (s : ℕ) (fs : Buf (Elt F) ((slot2 b (sl s)).view.loc (c : Thread nD τ)))
    (fd : Buf (Elt F) ((slot2 b (sl (s + 1))).view.loc (nbr true b c : Thread nD τ)))
    (hfs : (slot2 b (sl s)).view.read (Elt F) fs = T X W b s c) :
    ((slot2 b (sl (s + 1))).view.loc (nbr true b c : Thread nD τ) ↦[(slot2 b (sl (s + 1))).view.set]{fullShare}
        ((slot2 b (sl (s + 1))).view.write (Elt F) fd ((slot2 b (sl s)).view.read (Elt F) fs) Finset.univ))
      ⊢ ((rd X W).payload (cell (nbr true b c) (dmak true b true (sl (s + 1)))) (s / 4) (false, false) : sProp 𝕄) := by
  rw [payload_cell, pay_recv2]
  rw [nbr_not_nbr]
  have h := owns_intro (Ix := ℕ) (Name := ℕ) (U := UU) (Lvl := ℕ) (nbr true b c : Thread nD τ) (slot2 b (sl (s + 1))) fullShare
    ((slot2 b (sl (s + 1))).view.write (Elt F) fd ((slot2 b (sl s)).view.read (Elt F) fs) Finset.univ)
  rw [View.read_write_univ, hfs] at h
  rw [hfs]
  exact h

theorem wp_send2_at (c : Dev nD) (b : Bool) (s : ℕ) (hs : s < 3) (O : CellTallies nD τ sig ℕ) (n : Dev nD) (hn : n = nbr true b c)
    {hsc : (slot2 b (sl (s + 1)) : Memref sig (Dev.tc n : Thread nD τ).2.kind .vmem S128x1024 .bf16).view.ref.isScScratch = false}
    {hsrc : (slot2 b (sl s)).view.WordExact} {hdst : (slot2 b (sl (s + 1)) : Memref sig (Dev.tc n : Thread nD τ).2.kind .vmem S128x1024 .bf16).view.WordExact}
    {hsem : DmaTarget.Typed .vmem (.dma (dsem true b true (sl (s + 1)))) (.remote (Dev.tc n : Thread nD τ) (slot2 b (sl (s + 1))) (.dma (dsem true b false (sl s))) hsc)} :
    iprop(recs X W K ∗ sow2 c b (sl s) (T X W b s c) ∗ tgt2 c b s ∗ ow c (O + sendOwe true c b s)
        ∗ dutyTok ER (cell c (dmak true b false (sl s))) (s / 4) (false, false) ∗ reached ER (cell c (dmak true b false (sl s))) (s / 4)
        ∗ dutyTok ER (cell (nbr true b c) (dmak true b true (sl (s + 1)))) (s / 4) (false, false))
      ⊢ wpK (F := F) c (Prog.lift (.enqueueDma (slot2 b (sl s)) (.remote (Dev.tc n : Thread nD τ) (slot2 b (sl (s + 1))) (.dma (dsem true b false (sl s))) hsc)
          (.dma (dsem true b true (sl (s + 1)))) hsrc hdst hsem))
        (fun _ => iprop(ow c O ∗ cred (tallyAt (cell c (dmak true b false (sl s))) 0 (amt (dmak true b false (sl s)))))) := by
  subst hn
  iintro ⟨#HR, Hs, Ht, HO, Htk, #Hr, Htk'⟩
  unfold ow tgt2
  icases HO with ⟨%Wt, HO⟩
  icases Ht with ⟨⟨%V, Hd⟩, #Hr'⟩
  unfold sow2 owns
  icases Hs with ⟨%fs, %hfs, Hs⟩
  icases Hd with ⟨%fd, -, Hd⟩
  iapply (Rounds.wp_send_pointsTo 𝒱₀ ER (rd X W) (c : Thread nD τ) none (κ₁ := K (c, dmak true b false (sl s))) (κ₂ := K (nbr true b c, dmak true b true (sl (s + 1))))
    (r₁ := s / 4) (r₂ := s / 4) (d₁ := (false, false)) (d₂ := (false, false)) (fs := fs) (fd := fd)
    (c' := (nbr true b c : Thread nD τ)) (src := slot2 b (sl s)) (dst := slot2 b (sl (s + 1))) (sS := .dma (dsem true b false (sl s))) (sem := .dma (dsem true b true (sl (s + 1))))
    (send_mem X W c true b s hs) (recv_mem X W (nbr true b c) true b s hs)
    s 0 (amt (dmak true b false (sl s))) rfl (amount_cell X W c (dmak true b false (sl s)) _ _) (amount_cell X W (nbr true b c) (dmak true b true (sl (s + 1))) _ _)
    O rfl (W := Wt) (send_pay2 X W c b s fs hfs) (recv_pay2 X W c b s fs fd hfs)) $$ [Hs Hd HO Htk Htk']
  · isplitr; · iapply (recs_inv X W K c (dmak true b false (sl s))); iexact HR
    isplitr; · iapply (recs_inv X W K (nbr true b c) (dmak true b true (sl (s + 1)))); iexact HR
    isplitl [Hs]; · iexact Hs
    isplitl [Hd]; · iexact Hd
    isplitl [HO]; · iexact HO
    isplitl [Htk]; · iexact Htk
    isplitr; · iexact Hr
    isplitl [Htk']; · iexact Htk'
    iexact Hr'
  iintro ⟨Hc, HO⟩
  rw [wp_ret]; imodintro
  isplitl [HO]; · iexists Wt; iexact HO
  iexact Hc

theorem wp_send2 (c : Dev nD) (b : Bool) (s : ℕ) (hs : s < 3) (O : CellTallies nD τ sig ℕ) :
    iprop(recs X W K ∗ sow2 c b (sl s) (T X W b s c) ∗ tgt2 c b s ∗ ow c (O + sendOwe true c b s)
        ∗ dutyTok ER (cell c (dmak true b false (sl s))) (s / 4) (false, false) ∗ reached ER (cell c (dmak true b false (sl s))) (s / 4)
        ∗ dutyTok ER (cell (nbr true b c) (dmak true b true (sl (s + 1)))) (s / 4) (false, false))
      ⊢ wpK (F := F) c (send2 c b s)
        (fun _ => iprop(ow c O ∗ cred (tallyAt (cell c (dmak true b false (sl s))) 0 (amt (dmak true b false (sl s)))))) :=
  wp_send2_at X W K c b s hs O (dst2 b c) (dst2_eq b c)

/-! ## The signals -/

theorem wp_sig (c n : Dev nD) (k : CK) (sem : Sem sig) (hk : csl k = .reg sem) (hd : dut k 0 = Finset.univ) (ha : amt k = 1) (d : Du) (i : ℕ)
    (O : CellTallies nD τ sig ℕ) :
    iprop(recs X W K ∗ ow c (O + tallyAt (cell n k) i 1) ∗ dutyTok ER (cell n k) 0 d ∗ pay X W n k 0 d)
      ⊢ wpK (F := F) c (sig1 n sem) (fun _ => ow c O) := by
  have hd' : d ∈ (rd X W).duties ((n : Thread nD τ), .reg sem) 0 := by
    rw [← hk, duties_cell X W n k, hd]; exact Finset.mem_univ _
  have ha' : (rd X W).amount ((n : Thread nD τ), .reg sem) 0 d = 1 := by rw [← hk, amount_cell X W n k, ha]
  have hp' : pay X W n k 0 d = (rd X W).payload ((n : Thread nD τ), .reg sem) 0 d := by rw [← hk, payload_cell X W n k]
  have hi := recs_inv X W K n k
  have hr := recs_reached X W K n k
  simp only [cell] at hi hr ⊢
  rw [hk] at hi hr ⊢
  rw [hp']
  iintro ⟨#HR, HO, Ht, Hp⟩
  unfold ow
  icases HO with ⟨%Wt, HO⟩
  iapply (Rounds.wp_signal 𝒱₀ ER (rd X W) (c : Thread nD τ) none (dst := (n : Thread nD τ)) (κ := K (n, k)) (W := Wt)
    hd' (ha'.trans (by decide)) i O rfl) $$ [HO Ht Hp]
  · isplitr; · iapply hi; iexact HR
    isplitl [HO]; · iexact HO
    isplitl [Ht]; · iexact Ht
    isplitl [Hp]; · iexact Hp
    iapply hr; iexact HR
  iintro HO
  rw [wp_ret]; imodintro
  iexists Wt; iexact HO

/-! ## The waits of the signals -/

/-- Where device `c` stands at its credits of direction `b` before step `s`. -/
def cp (c : Dev nD) (b : Bool) (s : ℕ) : sProp 𝕄 :=
  if s < 7 then iprop(∃ S : Finset Du, atPos ER (cell c (crdk b)) 0 S (s - 3)) else atPos ER (cell c (crdk b)) 1 ∅ 0

theorem wp_crd (c : Dev nD) (b : Bool) (s : ℕ) (h3 : 3 ≤ s) (h6 : s ≤ 6) {O : CellTallies nD τ sig ℕ} (hO : Above (10 * (s - 3) + 23) O) :
    iprop(recs X W K ∗ cred (tallyAt (cell c (crdk b)) (s - 3) 1) ∗ ow c O ∗ cp c b s)
      ⊢ wpK (F := F) c (wait1 (csem b)) (fun _ => iprop(ow c O ∗ cp c b (s + 1))) := by
  have hm := recs_may X W K c (crdk b) (s - 3) (10 * (s - 3) + 23) (by omega) (Nat.le_refl _) hO
  unfold ow cp
  rw [if_pos (by omega : s < 7)]
  by_cases h : s < 6
  · rw [if_pos (by omega : s + 1 < 7)]
    iintro ⟨#HR, Hc, ⟨%Wt, HO⟩, ⟨%S, Hat⟩⟩
    iapply (Rounds.wp_wait 𝒱₀ ER (rd X W) (c : Thread nD τ) none (κ := K (c, crdk b)) (sm := csl (crdk b)) (k' := 1)
        (wpE_semWait_eq 𝒱₀ (c : Thread nD τ) none Set.univ) (Set.mem_univ _) (cr := Finsupp.single (s - 3) 1) (O := O) (W := Wt) (R := 0) (m := s - 3) (T := S)
        {(csl (crdk b), s - 3)} (Util.total_single _ _) (image_single_subset _ _ _)) $$ [Hc HO Hat]
    · isplitr; · iapply (recs_inv X W K c (crdk b)); iexact HR
      isplitl [Hc]; · iexact Hc
      isplitl [HO]; · iexact HO
      isplitr; · iapply hm; iexact HR
      iexact Hat
    iintro %S' ⟨-, HO, Hat, -⟩
    rw [wp_ret]; imodintro
    isplitl [HO]; · iexists (Wt ∪ {(csl (crdk b), s - 3)}); iexact HO
    iexists S'
    rw [show s + 1 - 3 = s - 3 + 1 by omega]
    iexact Hat
  · obtain rfl : s = 6 := by omega
    rw [if_neg (by omega : ¬ 6 + 1 < 7)]
    iintro ⟨#HR, Hc, ⟨%Wt, HO⟩, ⟨%S, Hat⟩⟩
    iapply (Rounds.wp_wait_rest_token 𝒱₀ ER (rd X W) (c : Thread nD τ) none (κ := K (c, crdk b)) (sm := csl (crdk b)) (k' := 1)
        (wpE_semWait_eq 𝒱₀ (c : Thread nD τ) none Set.univ) (Set.mem_univ _) 3 (O := O) (W := Wt) (R := 0) (m := 3) (T := S)
        (by rw [expect_crd X W c b])) $$ [Hc HO Hat]
    · isplitr; · iapply (recs_inv X W K c (crdk b)); iexact HR
      isplitl [Hc]; · iexact Hc
      isplitl [HO]; · iexact HO
      isplitr; · iapply hm; iexact HR
      iexact Hat
    iintro ⟨HO, Hat, -, -⟩
    rw [wp_ret]; imodintro
    isplitl [HO]; · iexists (insert (csl (crdk b), 3) Wt); iexact HO
    iexact Hat

theorem rest_bar (c : Dev nD) :
    bigSep ((rd X W).duties (cell c bark) 0 \ ∅) (fun u => (rd X W).payload (cell c bark) 0 u)
      = bigSep Finset.univ fun d : Du => handed (F := F) d.1 d.2 c := by
  rw [Finset.sdiff_empty, duties_cell]
  exact bigSep_congr fun d _ => payload_cell X W c bark 0 d

theorem wp_bar (c : Dev nD) {O : CellTallies nD τ sig ℕ} (hO : Above 1 O) :
    iprop(recs X W K ∗ cred (tallyAt (cell c bark) 0 4) ∗ ow c O ∗ atPos ER (cell c bark) 0 ∅ 0)
      ⊢ wpK (F := F) c (semWaitWord barrier0 4#32) (fun _ => iprop(ow c O ∗ atPos ER (cell c bark) 1 ∅ 0
          ∗ bigSep Finset.univ fun d : Du => handed (F := F) d.1 d.2 c)) := by
  have hm := recs_may X W K c bark 0 1 (by omega) (Nat.le_refl _) hO
  iintro ⟨#HR, Hc, HO, Hat⟩
  unfold ow
  icases HO with ⟨%Wt, HO⟩
  iapply (Rounds.wp_wait_rest_token 𝒱₀ ER (rd X W) (c : Thread nD τ) none (κ := K (c, bark)) (sm := csl bark) (k' := 4)
      (wpE_semWait_eq 𝒱₀ (c : Thread nD τ) none Set.univ) (Set.mem_univ _) 0 (O := O) (W := Wt) (R := 0) (m := 0) (T := ∅)
      (by rw [expect_bar X W c])) $$ [Hc HO Hat]
  · isplitr; · iapply (recs_inv X W K c bark); iexact HR
    isplitl [Hc]; · iexact Hc
    isplitl [HO]; · iexact HO
    isplitr; · iapply hm; iexact HR
    iexact Hat
  iintro ⟨HO, Hat, -, Hp⟩
  ihave Hp := (Entails.of_eq (rest_bar X W c)) $$ Hp
  rw [wp_ret]; imodintro
  isplitl [HO]; · iexists (insert (csl bark, 0) Wt); iexact HO
  isplitl [Hat]; · iexact Hat
  iexact Hp

end

end Cert.KernelIdeal.K

end
-- ==== Proof.K.Meet.lean ====
/- Meeting the neighbours, the credits, and the freed slots. -/
module

public import proofs.«01_k».proof.Proof.K.Comm

@[expose] public section

set_option maxRecDepth 20000

noncomputable section

namespace Cert.KernelIdeal.K

open Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx

variable {F : FTy → Type} [FloatOps F]

local notation "𝕄" => MT nD τ sig ℕ (Elt F) ℕ UU ℕ

section
variable (X : Dev nD → Vec F S4096x128 .fp8e4m3) (W : Dev nD → FVec F S128x2048 .bf16) (K : Dev nD × CK → ℕ)

/-- Both directions in turn, with something that passes through. -/
theorem wp_both' (c : Dev nD) (f : Bool → BProg F PUnit) {I₀ I₁ I₂ : sProp 𝕄} {P Q : Bool → sProp 𝕄}
    (h : iprop(I₀ ∗ P false) ⊢ wpK c (f false) (fun _ => iprop(I₁ ∗ Q false)))
    (h' : iprop(I₁ ∗ P true) ⊢ wpK c (f true) (fun _ => iprop(I₂ ∗ Q true))) :
    iprop(I₀ ∗ P false ∗ P true) ⊢ wpK c (both f) (fun _ => iprop(I₂ ∗ Q false ∗ Q true)) := by
  iintro ⟨HI, H, H'⟩
  unfold both
  iapply (wpK_seq c h) $$ [HI H]
  · isplitl [HI]; · iexact HI
    iexact H
  iintro %_ ⟨HI, H⟩
  iapply (wpK_step c h') $$ [HI H']
  · isplitl [HI]; · iexact HI
    iexact H'
  iintro %_ ⟨HI, H'⟩
  isplitl [HI]; · iexact HI
  isplitl [H]; · iexact H
  iexact H'

/-! ## Meeting the neighbours -/

/-- The slots of a device that its neighbours write first. -/
def own3 (c : Dev nD) (p b : Bool) : sProp 𝕄 :=
  match p with
  | false => iprop((∃ V, sow c b (sl (0 + 1)) V) ∗ (∃ V, sow c b (sl (1 + 1)) V) ∗ (∃ V, sow c b (sl (2 + 1)) V))
  | true => iprop((∃ V, sow2 c b (sl (0 + 1)) V) ∗ (∃ V, sow2 c b (sl (1 + 1)) V) ∗ (∃ V, sow2 c b (sl (2 + 1)) V))

theorem handed_intro (c : Dev nD) (p b : Bool) :
    iprop(recs X W K ∗ own3 c p (!b)) ⊢ handed (F := F) p (!b) (nbr p b c) := by
  have hr (b' : Bool) (a : Fin 4) := recs_reached X W K c (dmak p b' true a)
  cases p
  · unfold own3 handed tgt
    simp only [nbr_not_nbr]
    iintro ⟨#HR, H1, H2, H3⟩
    isplitl [H1]
    · isplitl [H1]; · iexact H1
      iapply (hr (!b) (sl (0 + 1))); iexact HR
    isplitl [H2]
    · isplitl [H2]; · iexact H2
      iapply (hr (!b) (sl (1 + 1))); iexact HR
    isplitl [H3]; · iexact H3
    iapply (hr (!b) (sl (2 + 1))); iexact HR
  · unfold own3 handed tgt2
    simp only [nbr_not_nbr]
    iintro ⟨#HR, H1, H2, H3⟩
    isplitl [H1]
    · isplitl [H1]; · iexact H1
      iapply (hr (!b) (sl (0 + 1))); iexact HR
    isplitl [H2]
    · isplitl [H2]; · iexact H2
      iapply (hr (!b) (sl (1 + 1))); iexact HR
    isplitl [H3]; · iexact H3
    iapply (hr (!b) (sl (2 + 1))); iexact HR

/-- The token with which device `c` signals its neighbour of phase `p`, direction `b`. -/
def barTok (c : Dev nD) (p b : Bool) : sProp 𝕄 := dutyTok ER (cell (nbr p b c) bark) 0 (p, !b)

theorem wp_sig_bar (c n : Dev nD) (p b : Bool) (hn : n = nbr p b c) (O : CellTallies nD τ sig ℕ) :
    iprop(recs X W K ∗ ow c (O + barOwe c (p, b)) ∗ barTok c p b ∗ own3 c p (!b))
      ⊢ wpK (F := F) c (sig1 n barrier0) (fun _ => ow c O) := by
  subst hn
  have hp : (handed p (!b) (nbr p b c) : sProp 𝕄) ⊢ pay X W (nbr p b c) bark 0 (p, !b) := Entails.refl _
  unfold barTok
  iintro ⟨#HR, HO, Ht, Hs⟩
  iapply (wp_sig X W K c (nbr p b c) bark barrier0 rfl rfl rfl (p, !b) 0 O)
  isplitr; · iexact HR
  isplitl [HO]; · iexact HO
  isplitl [Ht]; · iexact Ht
  iapply hp
  iapply (handed_intro X W K c p b)
  isplitr; · iexact HR
  iexact Hs

theorem dev1_eq (c : Dev nD) : (⟨k0_dev1 c, k0_dev1_lt c⟩ : Dev nD) = nbr false true c := Fin.ext (k0_dev1_eq c)
theorem dev2_eq (c : Dev nD) : (⟨k0_dev2 c, k0_dev2_lt c⟩ : Dev nD) = nbr false false c := Fin.ext (k0_dev2_eq c)
theorem dev3_eq (c : Dev nD) : (⟨k0_dev3 c, k0_dev3_lt c⟩ : Dev nD) = nbr true false c := Fin.ext (k0_dev3_eq c)
theorem dev4_eq (c : Dev nD) : (⟨k0_dev4 c, k0_dev4_lt c⟩ : Dev nD) = nbr true true c := Fin.ext (k0_dev4_eq c)

theorem handed_all (c : Dev nD) :
    (bigSep Finset.univ fun d : Du => handed (F := F) d.1 d.2 c)
      ⊢ iprop(handed false false c ∗ handed false true c ∗ handed true false c ∗ handed true true c) := by
  rw [bigSep_univ_eq_bigSepL [(false, false), (false, true), (true, false), (true, true)] (by decide) (by decide)]
  exact Entails.refl _

theorem wp_meet (c : Dev nD) {O : CellTallies nD τ sig ℕ} (hO : Above 1 O) :
    iprop(recs X W K ∗ ow c (O + barOwe c (true, true) + barOwe c (true, false) + barOwe c (false, false) + barOwe c (false, true))
        ∗ (barTok c false true ∗ barTok c false false ∗ barTok c true false ∗ barTok c true true)
        ∗ (own3 c false false ∗ own3 c false true ∗ own3 c true false ∗ own3 c true true)
        ∗ cred (tallyAt (cell c bark) 0 4) ∗ atPos ER (cell c bark) 0 ∅ 0)
      ⊢ wpK (F := F) c (meet c) (fun _ => iprop(ow c O ∗ atPos ER (cell c bark) 1 ∅ 0
          ∗ handed false false c ∗ handed false true c ∗ handed true false c ∗ handed true true c)) := by
  iintro ⟨#HR, HO, ⟨T1, T2, T3, T4⟩, ⟨S2, S1, S4, S3⟩, Hc, Hat⟩
  unfold meet
  iapply (wpK_seq c (wp_sig_bar X W K c _ false true (dev1_eq c) _)) $$ [HO T1 S2]
  · isplitr; · iexact HR
    isplitl [HO]; · iexact HO
    isplitl [T1]; · iexact T1
    iexact S2
  iintro %_ HO
  iapply (wpK_seq c (wp_sig_bar X W K c _ false false (dev2_eq c) _)) $$ [HO T2 S1]
  · isplitr; · iexact HR
    isplitl [HO]; · iexact HO
    isplitl [T2]; · iexact T2
    iexact S1
  iintro %_ HO
  iapply (wpK_seq c (wp_sig_bar X W K c _ true false (dev3_eq c) _)) $$ [HO T3 S3]
  · isplitr; · iexact HR
    isplitl [HO]; · iexact HO
    isplitl [T3]; · iexact T3
    iexact S3
  iintro %_ HO
  iapply (wpK_seq c (wp_sig_bar X W K c _ true true (dev4_eq c) _)) $$ [HO T4 S4]
  · isplitr; · iexact HR
    isplitl [HO]; · iexact HO
    isplitl [T4]; · iexact T4
    iexact S4
  iintro %_ HO
  iapply (wpK_step c (wp_bar X W K c hO)) $$ [HO Hc Hat]
  · isplitr; · iexact HR
    isplitl [Hc]; · iexact Hc
    isplitl [HO]; · iexact HO
    iexact Hat
  iintro %_ ⟨HO, Hat, Hh⟩
  isplitl [HO]; · iexact HO
  isplitl [Hat]; · iexact Hat
  iapply (handed_all c); iexact Hh

/-! ## What a device holds between the steps of the first ring -/

/-- The positions of the receiving and the sending cell of a step, and the records of their rounds. -/
def rp (c : Dev nD) (b : Bool) (s : ℕ) : sProp 𝕄 := atPos ER (cell c (dmak false b true (sl (s + 1)))) (s / 4) ∅ 0
def rr (c : Dev nD) (b : Bool) (s : ℕ) : sProp 𝕄 := reached ER (cell c (dmak false b true (sl (s + 1)))) (s / 4)
def sp (c : Dev nD) (b : Bool) (s : ℕ) : sProp 𝕄 := atPos ER (cell c (dmak false b false (sl s))) (s / 4) ∅ 0
def rs (c : Dev nD) (b : Bool) (s : ℕ) : sProp 𝕄 := reached ER (cell c (dmak false b false (sl s))) (s / 4)
/-- The credit of a transfer on its way, and a slot that is free again. -/
def sc (c : Dev nD) (b : Bool) (s : ℕ) : sProp 𝕄 := cred (tallyAt (cell c (dmak false b false (sl s))) 0 (amt (dmak false b false (sl s))))
def fr (c : Dev nD) (b : Bool) (s : ℕ) : sProp 𝕄 := iprop(∃ V, sow c b (sl s) V)

instance rr_persistent (c : Dev nD) (b : Bool) (s : ℕ) : BI.Persistent (rr (F := F) c b s) := by unfold rr; infer_instance
instance rs_persistent (c : Dev nD) (b : Bool) (s : ℕ) : BI.Persistent (rs (F := F) c b s) := by unfold rs; infer_instance

/-- What is pending as step `s` begins: the transfer of the step before. -/
def pend (c : Dev nD) (b : Bool) : ℕ → sProp 𝕄
  | 0 => iprop(sp c b 3 ∗ rs c b 3)
  | s + 1 => iprop(sp c b s ∗ sc c b s)
/-- The free slot that step `s` hands on. -/
def frI (c : Dev nD) (b : Bool) : ℕ → sProp 𝕄
  | s + 2 => fr c b s
  | _ => iprop(emp)
/-- The last step hands none on. -/
def left (c : Dev nD) (b : Bool) (s : ℕ) : sProp 𝕄 := if s = 6 then fr c b 4 else iprop(emp)
/-- The slots a device may write at the neighbour, from step `s` on, and those beyond step `s`. -/
def more (c : Dev nD) (b : Bool) : ℕ → sProp 𝕄
  | 0 => iprop(tgt c b 1 ∗ tgt c b 2)
  | 1 => tgt c b 2
  | _ => iprop(emp)
def tgts (c : Dev nD) (b : Bool) (s : ℕ) : sProp 𝕄 := if s < 7 then iprop(tgt c b s ∗ more c b s) else iprop(emp)
/-- A credit's token, and its arrival. -/
def ctk (c : Dev nD) (b : Bool) (s : ℕ) : sProp 𝕄 :=
  if 1 ≤ s ∧ s ≤ 4 then dutyTok ER (cell (nbr false (!b) c) (crdk b)) 0 (crdD (s - 1)) else iprop(emp)
def ccr (c : Dev nD) (b : Bool) (s : ℕ) : sProp 𝕄 := if 3 ≤ s then cred (tallyAt (cell c (crdk b)) (s - 3) 1) else iprop(emp)
/-- A transfer's two tokens. -/
def stk (c : Dev nD) (b : Bool) (s : ℕ) : sProp 𝕄 :=
  iprop(dutyTok ER (cell c (dmak false b false (sl s))) (s / 4) (false, false)
    ∗ dutyTok ER (cell (nbr false b c) (dmak false b true (sl (s + 1)))) (s / 4) (false, false))
def rcr (c : Dev nD) (b : Bool) (s : ℕ) : sProp 𝕄 :=
  cred (tallyAt (cell c (dmak false b true (sl (s + 1)))) s (amt (dmak false b true (sl (s + 1)))))

/-- The tokens and credits of step `s`. -/
def tok (c : Dev nD) (b : Bool) (s : ℕ) : sProp 𝕄 := iprop(stk c b s ∗ rcr c b s ∗ ctk c b s ∗ ccr c b s)

/-- What a step sends along with its transfer. -/
theorem extra_intro (c : Dev nD) (b : Bool) (s : ℕ) (hs : s < 7) :
    iprop(frI c (!b) s ∗ rr c (!b) (s + 1)) ⊢ iprop(extra (F := F) (nbr false b c) b s ∗ left c (!b) s) := by
  unfold extra left
  rcases s with _ | _ | s
  · rw [if_neg (by omega), if_neg (by omega)]
    iintro -; isplitr <;> iempintro
  · rw [if_neg (by omega), if_neg (by omega)]
    iintro -; isplitr <;> iempintro
  · show iprop(fr c (!b) s ∗ rr c (!b) (s + 2 + 1)) ⊢ _
    by_cases h : s = 4
    · subst h
      rw [if_neg (by omega), if_pos rfl]
      iintro ⟨H, -⟩
      isplitr; · iempintro
      iexact H
    · rw [if_pos (by omega), if_neg (by omega)]
      unfold tgt fr rr
      rw [nbr_not_nbr, show sl (s + 2 + 1 + 1) = sl s from Fin.ext (show (s + 2 + 1 + 1) % 4 = s % 4 by omega)]
      iintro ⟨H, Hr⟩
      isplitl [H Hr]
      · isplitl [H]; · iexact H
        iexact Hr
      iempintro

theorem tgts_next (c : Dev nD) (b : Bool) (s : ℕ) (hs : s < 7) :
    iprop(more c b s ∗ extra (F := F) c (!b) s) ⊢ tgts c b (s + 1) := by
  unfold tgts extra
  rw [Bool.not_not]
  rcases s with _ | _ | s
  · rw [if_neg (by omega), if_pos (by omega)]
    show iprop((tgt c b 1 ∗ tgt c b 2) ∗ emp) ⊢ iprop(tgt c b 1 ∗ tgt c b 2)
    iintro ⟨H, -⟩; iexact H
  · rw [if_neg (by omega), if_pos (by omega)]
    show iprop(tgt c b 2 ∗ emp) ⊢ iprop(tgt c b 2 ∗ emp)
    iintro H; iexact H
  · by_cases h : s = 4
    · subst h
      rw [if_neg (by omega), if_neg (by omega)]
      iintro -; iempintro
    · rw [if_pos (by omega), if_pos (by omega)]
      show iprop(emp ∗ tgt c b (s + 2 + 1)) ⊢ iprop(tgt c b (s + 2 + 1) ∗ emp)
      iintro ⟨-, H⟩
      isplitl [H]; · iexact H
      iempintro

end

end Cert.KernelIdeal.K

end
-- ==== Proof.K.Block.lean ====
/- The products and the additions of a step, by the contents they leave. -/
module

public import proofs.«01_k».proof.Proof.K.Mem

@[expose] public section

set_option maxRecDepth 20000

noncomputable section

namespace Cert.KernelIdeal.K

open Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx

variable {F : FTy → Type} [FloatOps F]

local notation "𝕄" => MT nD τ sig ℕ (Elt F) ℕ UU ℕ

/-! ## The offsets the program computes -/

theorem off2_val : ∀ (d : Dev nD) (s : Fin 7) (k : Fin 4),
    k0_off2 d (BitVec.ofNat 32 (14 - s.val)) (BitVec.ofNat 32 (8 * k.val)) = ![128 * (qc false d s.val).val + 1024 * k.val, 0] := by decide +kernel
theorem off2_val0 : ∀ (d : Dev nD) (k : Fin 4),
    k0_off2 d 1#32 (BitVec.ofNat 32 (8 * k.val)) = ![128 * (q0 true d).val + 1024 * k.val, 0] := by decide +kernel
theorem off3_val : ∀ (d : Dev nD) (s : Fin 7) (k : Fin 4),
    k0_off3 d (BitVec.ofNat 32 s.val) (BitVec.ofNat 32 (8 * k.val)) = ![128 * (qc true d s.val).val + 1024 * k.val, 0] := by decide +kernel
theorem off1_val : ∀ (d : Dev nD) (k : Fin 4),
    k0_off1 d (BitVec.ofNat 32 (8 * k.val)) = ![128 * (q0 false d).val + 1024 * k.val, 0] := by decide +kernel
theorem off4_val : ∀ d : Dev nD, k0_off4 d = ![(r0 false d).val, 0, 0] := by decide +kernel
theorem off5_val0 : ∀ d : Dev nD, k0_off5 d 1#32 = ![(r0 true d).val, 0, 0] := by decide +kernel
theorem off5_val : ∀ (d : Dev nD) (s : Fin 3), k0_off5 d (BitVec.ofNat 32 (6 - s.val)) = ![(rc false d s.val).val, 0, 0] := by decide +kernel
theorem off6_val : ∀ (d : Dev nD) (s : Fin 3), k0_off6 d (BitVec.ofNat 32 s.val) = ![(rc true d s.val).val, 0, 0] := by decide +kernel

/-! ## The products -/

section Products
variable (m0 : Memref sig .tc .vmem S4096x128 .fp8e4m3) (c : Dev nD) (q : PosShare TreeShare) (x : Vec F S4096x128 .fp8e4m3)
  (w : FVec F S128x2048 .bf16)

theorem wp_ldX (off : Fin 2 → Nat) (h) (i : Fin 8) (k : Fin 4) (ho : off = ![128 * i.val + 1024 * k.val, 0]) :
    (owns (c : Thread nD τ) m0 q x : sProp 𝕄) ⊢ wpK c (ldX m0 off h) (fun v => iprop(⌜v = xb x i k⌝ ∗ owns (c : Thread nD τ) m0 q x)) := by
  subst ho; exact wp_load_owns c m0 q x (rX i k)

theorem wp_ldP (b : Bool) (s : Fin 7) (k : Fin 4) :
    (owns (c : Thread nD τ) m0 q x : sProp 𝕄)
      ⊢ wpK c (ldP m0 c w b s k) (fun p => iprop(⌜p = dotv b w (xb x (qc b c s.val) k)⌝ ∗ owns (c : Thread nD τ) m0 q x)) := by
  cases b
  · iintro H
    unfold ldP
    iapply (wpK_seq c (wp_ldX m0 c q x _ _ (qc false c s.val) k (off2_val c s k))) $$ H
    iintro %v ⟨%hv, H⟩
    iapply (wpK_pure c)
    subst hv; isplitr
    · ipureintro; rfl
    · iexact H
  · iintro H
    unfold ldP
    iapply (wpK_seq c (wp_ldX m0 c q x _ _ (qc true c s.val) k (off3_val c s k))) $$ H
    iintro %v ⟨%hv, H⟩
    iapply (wpK_pure c)
    subst hv; isplitr
    · ipureintro; rfl
    · iexact H

theorem wp_ldP0 (b : Bool) (k : Fin 4) :
    (owns (c : Thread nD τ) m0 q x : sProp 𝕄)
      ⊢ wpK c (ldP0 m0 c w b k) (fun p => iprop(⌜p = dotv b w (xb x (q0 b c) k)⌝ ∗ owns (c : Thread nD τ) m0 q x)) := by
  cases b
  · iintro H
    unfold ldP0
    iapply (wpK_seq c (wp_ldX m0 c q x _ _ (q0 false c) k (off1_val c k))) $$ H
    iintro %v ⟨%hv, H⟩
    iapply (wpK_pure c)
    subst hv; isplitr
    · ipureintro; rfl
    · iexact H
  · iintro H
    unfold ldP0
    iapply (wpK_seq c (wp_ldX m0 c q x _ _ (q0 true c) k (off2_val0 c k))) $$ H
    iintro %v ⟨%hv, H⟩
    iapply (wpK_pure c)
    subst hv; isplitr
    · ipureintro; rfl
    · iexact H

theorem wp_ldPs (b : Bool) (s : Fin 7) :
    (owns (c : Thread nD τ) m0 q x : sProp 𝕄)
      ⊢ wpK c (ldPs m0 c w b s) (fun p => iprop(⌜p = fun k => dotv b w (xb x (qc b c s.val) k)⌝ ∗ owns (c : Thread nD τ) m0 q x)) := by
  iintro H
  unfold ldPs
  iapply (wpK_seq c (wp_ldP m0 c q x w b s 0)) $$ H; iintro %p0 ⟨%h0, H⟩
  iapply (wpK_seq c (wp_ldP m0 c q x w b s 1)) $$ H; iintro %p1 ⟨%h1, H⟩
  iapply (wpK_seq c (wp_ldP m0 c q x w b s 2)) $$ H; iintro %p2 ⟨%h2, H⟩
  iapply (wpK_seq c (wp_ldP m0 c q x w b s 3)) $$ H; iintro %p3 ⟨%h3, H⟩
  iapply (wpK_pure c)
  isplitr
  · ipureintro; subst h0 h1 h2 h3; funext k; fin_cases k <;> rfl
  · iexact H

theorem wp_ldP0s (b : Bool) :
    (owns (c : Thread nD τ) m0 q x : sProp 𝕄)
      ⊢ wpK c (ldP0s m0 c w b) (fun p => iprop(⌜p = fun k => dotv b w (xb x (q0 b c) k)⌝ ∗ owns (c : Thread nD τ) m0 q x)) := by
  iintro H
  unfold ldP0s
  iapply (wpK_seq c (wp_ldP0 m0 c q x w b 0)) $$ H; iintro %p0 ⟨%h0, H⟩
  iapply (wpK_seq c (wp_ldP0 m0 c q x w b 1)) $$ H; iintro %p1 ⟨%h1, H⟩
  iapply (wpK_seq c (wp_ldP0 m0 c q x w b 2)) $$ H; iintro %p2 ⟨%h2, H⟩
  iapply (wpK_seq c (wp_ldP0 m0 c q x w b 3)) $$ H; iintro %p3 ⟨%h3, H⟩
  iapply (wpK_pure c)
  isplitr
  · ipureintro; subst h0 h1 h2 h3; funext k; fin_cases k <;> rfl
  · iexact H

end Products

/-! ## The blocks -/

theorem wp_put0 (c : Dev nD) (b : Bool) (k : Fin 4) (w : Fin 4 → FVec F S128x1024 .bf16) (v : FVec F S128x1024 .f32) :
    (sow c b 0 (pack w) : sProp 𝕄) ⊢ wpK c (put0 b k v) (fun _ => sow c b 0 (pack (Function.update w k (rnd v)))) := by
  iintro H
  unfold put0
  iapply (wpK_seq c (wp_ldB c b 0 k w)) $$ H; iintro %x ⟨%hx, H⟩
  iapply (wp_stB c b 0 k w (rnd v)) $$ H

theorem upd4 {A : Type} (w v : Fin 4 → A) :
    Function.update (Function.update (Function.update (Function.update w 0 (v 0)) 1 (v 1)) 2 (v 2)) 3 (v 3) = v := by
  funext k; fin_cases k <;> rfl

theorem wp_put0s (c : Dev nD) (b : Bool) (p : Fin 4 → FVec F S128x1024 .f32) :
    (iprop(∃ V, sow c b 0 V) : sProp 𝕄) ⊢ wpK c (put0s b p) (fun _ => sow c b 0 (pack fun k => rnd (p k))) := by
  iintro ⟨%V, H⟩
  obtain ⟨w, rfl⟩ := exists_pack (t := .bf16) V
  unfold put0s
  iapply (wpK_seq c (wp_put0 c b 0 w (p 0))) $$ H; iintro %_ H
  iapply (wpK_seq c (wp_put0 c b 1 _ (p 1))) $$ H; iintro %_ H
  iapply (wpK_seq c (wp_put0 c b 2 _ (p 2))) $$ H; iintro %_ H
  rw [show (pack fun k => rnd (p k)) = pack (Function.update (Function.update (Function.update (Function.update w 0 (rnd (p 0))) 1 (rnd (p 1))) 2 (rnd (p 2))) 3 (rnd (p 3)))
    from congrArg pack (upd4 w (fun k => rnd (p k))).symm]
  iapply (wp_put0 c b 3 _ (p 3)) $$ H

theorem wp_accB (c : Dev nD) (b : Bool) (a k : Fin 4) (w : Fin 4 → FVec F S128x1024 .bf16) (p : FVec F S128x1024 .f32) :
    (sow c b a (pack w) : sProp 𝕄) ⊢ wpK c (accB b a k p) (fun _ => sow c b a (pack (Function.update w k (rnd (accv (w k) p))))) := by
  iintro H
  unfold accB
  iapply (wpK_seq c (wp_ldB c b a k w)) $$ H; iintro %x ⟨%hx, H⟩
  iapply (wpK_seq c (wp_ldB c b a k w)) $$ H; iintro %y ⟨%hy, H⟩
  rw [hx]
  iapply (wp_stB c b a k w _) $$ H

theorem wp_accS (c : Dev nD) (b : Bool) (a k : Fin 4) (w : Fin 4 → FVec F S128x1024 .bf16) (u : Fin 4 → FVec F S128x1024 .f32) (p : FVec F S128x1024 .f32) :
    (iprop(sow c b a (pack w) ∗ bow c b u) : sProp 𝕄)
      ⊢ wpK c (accS b a k p) (fun _ => iprop(sow c b a (pack w) ∗ bow c b (Function.update u k (accv (w k) p)))) := by
  iintro ⟨H, HB⟩
  unfold accS
  iapply (wpK_seq c (wp_ldB c b a k w)) $$ H; iintro %x ⟨%hx, H⟩
  iapply (wpK_seq c (wp_ldS c b _ _ k rfl u)) $$ HB; iintro %y ⟨%hy, HB⟩
  rw [hx]
  iapply (wpK_step c (wp_stS c b k u _)) $$ HB; iintro %_ HB
  isplitl [H]
  · iexact H
  · iexact HB

/-- Two directions one after the other. -/
theorem wp_both (c : Dev nD) (f : Bool → BProg F PUnit) {P Q : Bool → sProp 𝕄} (h : ∀ b, P b ⊢ wpK c (f b) (fun _ => Q b)) :
    iprop(P false ∗ P true) ⊢ wpK c (both f) (fun _ => iprop(Q false ∗ Q true)) := by
  iintro ⟨H, H'⟩
  unfold both
  iapply (wpK_seq c (h false)) $$ H; iintro %_ H
  iapply (wpK_step c (h true)) $$ H'; iintro %_ H'
  isplitl [H]
  · iexact H
  · iexact H'

/-- The additions of one step. -/
theorem wp_accBs (c : Dev nD) (a : Fin 4) (w : Bool → Fin 4 → FVec F S128x1024 .bf16) (p : Bool → Fin 4 → FVec F S128x1024 .f32) :
    (iprop(sow c false a (pack (w false)) ∗ sow c true a (pack (w true))) : sProp 𝕄)
      ⊢ wpK c (four fun k => both fun b => accB b a k (p b k))
        (fun _ => iprop(sow c false a (pack fun k => rnd (accv (w false k) (p false k))) ∗ sow c true a (pack fun k => rnd (accv (w true k) (p true k))))) := by
  have h (k : Fin 4) (u : Bool → Fin 4 → FVec F S128x1024 .bf16) (hu : ∀ b, u b k = w b k) :=
    wp_both c (fun b => accB b a k (p b k)) (P := fun b => sow c b a (pack (u b))) (Q := fun b => sow c b a (pack (Function.update (u b) k (rnd (accv (w b k) (p b k))))))
      (fun b => by rw [← hu b]; exact wp_accB c b a k (u b) (p b k))
  have he (b : Bool) : (pack fun k => rnd (accv (w b k) (p b k))) = pack (Function.update (Function.update (Function.update (Function.update (w b) 0
      (rnd (accv (w b 0) (p b 0)))) 1 (rnd (accv (w b 1) (p b 1)))) 2 (rnd (accv (w b 2) (p b 2)))) 3 (rnd (accv (w b 3) (p b 3)))) :=
    congrArg pack (upd4 (w b) (fun k => rnd (accv (w b k) (p b k)))).symm
  rw [he false, he true]
  iintro H
  unfold four
  iapply (wpK_seq c (h 0 w (fun _ => rfl))) $$ H; iintro %_ H
  iapply (wpK_seq c (h 1 (fun b => Function.update (w b) 0 (rnd (accv (w b 0) (p b 0)))) (fun _ => rfl))) $$ H; iintro %_ H
  iapply (wpK_seq c (h 2 (fun b => Function.update (Function.update (w b) 0 (rnd (accv (w b 0) (p b 0)))) 1 (rnd (accv (w b 1) (p b 1)))) (fun _ => rfl))) $$ H; iintro %_ H
  iapply (h 3 (fun b => Function.update (Function.update (Function.update (w b) 0 (rnd (accv (w b 0) (p b 0)))) 1 (rnd (accv (w b 1) (p b 1)))) 2 (rnd (accv (w b 2) (p b 2)))) (fun _ => rfl)) $$ H

/-- The additions of the last step, kept apart. -/
theorem wp_accSs (c : Dev nD) (a : Fin 4) (w : Bool → Fin 4 → FVec F S128x1024 .bf16) (u p : Bool → Fin 4 → FVec F S128x1024 .f32) :
    (iprop((sow c false a (pack (w false)) ∗ bow c false (u false)) ∗ (sow c true a (pack (w true)) ∗ bow c true (u true))) : sProp 𝕄)
      ⊢ wpK c (four fun k => both fun b => accS b a k (p b k))
        (fun _ => iprop((sow c false a (pack (w false)) ∗ bow c false (fun k => accv (w false k) (p false k)))
          ∗ (sow c true a (pack (w true)) ∗ bow c true (fun k => accv (w true k) (p true k))))) := by
  have h (k : Fin 4) (u : Bool → Fin 4 → FVec F S128x1024 .f32) :=
    wp_both c (fun b => accS b a k (p b k)) (fun b => wp_accS c b a k (w b) (u b) (p b k))
  have he (b : Bool) : (fun k => accv (w b k) (p b k)) = Function.update (Function.update (Function.update (Function.update (u b) 0
      (accv (w b 0) (p b 0))) 1 (accv (w b 1) (p b 1))) 2 (accv (w b 2) (p b 2))) 3 (accv (w b 3) (p b 3)) :=
    (upd4 (u b) (fun k => accv (w b k) (p b k))).symm
  rw [he false, he true]
  iintro H
  unfold four
  iapply (wpK_seq c (h 0 u)) $$ H; iintro %_ H
  iapply (wpK_seq c (h 1 (fun b => Function.update (u b) 0 (accv (w b 0) (p b 0))))) $$ H; iintro %_ H
  iapply (wpK_seq c (h 2 (fun b => Function.update (Function.update (u b) 0 (accv (w b 0) (p b 0))) 1 (accv (w b 1) (p b 1))))) $$ H; iintro %_ H
  iapply (h 3 (fun b => Function.update (Function.update (Function.update (u b) 0 (accv (w b 0) (p b 0))) 1 (accv (w b 1) (p b 1))) 2 (accv (w b 2) (p b 2)))) $$ H

end Cert.KernelIdeal.K

end
-- ==== Proof.K.Step.lean ====
/- One step of the first ring. -/
module

public import proofs.«01_k».proof.Proof.K.Meet
public import proofs.«01_k».proof.Proof.K.Block

@[expose] public section

set_option maxRecDepth 20000

noncomputable section

namespace Cert.KernelIdeal.K

open Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx

variable {F : FTy → Type} [FloatOps F]

local notation "𝕄" => MT nD τ sig ℕ (Elt F) ℕ UU ℕ

section
variable (X : Dev nD → Vec F S4096x128 .fp8e4m3) (W : Dev nD → FVec F S128x2048 .bf16) (K : Dev nD × CK → ℕ)

/-! ## The parts of a step -/

theorem wp_crds (c : Dev nD) (s : ℕ) (hs : s < 7) {O : CellTallies nD τ sig ℕ} (hO : Above (10 * s) O) :
    iprop(recs X W K ∗ ow c O ∗ (cp c false s ∗ ccr c false s) ∗ (cp c true s ∗ ccr c true s))
      ⊢ wpK (F := F) c (if 3 ≤ s then both (fun b => wait1 (csem b)) else pure ⟨⟩) (fun _ => iprop(ow c O ∗ cp c false (s + 1) ∗ cp c true (s + 1))) := by
  by_cases h : 3 ≤ s
  · rw [if_pos h]
    have hb (b : Bool) : iprop((recs X W K ∗ ow c O) ∗ (cp c b s ∗ ccr c b s)) ⊢ wpK (F := F) c (wait1 (csem b)) (fun _ => iprop((recs X W K ∗ ow c O) ∗ cp c b (s + 1))) := by
      unfold ccr
      rw [if_pos h]
      iintro ⟨⟨#HR, HO⟩, Hp, Hc⟩
      iapply (wpK_step c (wp_crd X W K c b s h (by omega) (hO.mono (by omega)))) $$ [HO Hp Hc]
      · isplitr; · iexact HR
        isplitl [Hc]; · iexact Hc
        isplitl [HO]; · iexact HO
        iexact Hp
      iintro %_ ⟨HO, Hp⟩
      isplitl [HO]
      · isplitr; · iexact HR
        iexact HO
      iexact Hp
    iintro ⟨#HR, HO, Hp⟩
    iapply (wpK_step c (wp_both' c (fun b => wait1 (csem b)) (P := fun b => iprop(cp c b s ∗ ccr c b s)) (Q := fun b => cp c b (s + 1)) (hb false) (hb true))) $$ [HO Hp]
    · isplitl [HO]
      · isplitr; · iexact HR
        iexact HO
      iexact Hp
    iintro %_ ⟨⟨-, HO⟩, Hp⟩
    isplitl [HO]; · iexact HO
    iexact Hp
  · rw [if_neg h]
    refine BIBase.Entails.trans ?_ (wpK_pure c _ _)
    have e (b : Bool) : cp (F := F) c b (s + 1) = cp c b s := by
      unfold cp
      rw [if_pos (by omega : s + 1 < 7), if_pos hs, show s + 1 - 3 = s - 3 by omega]
    rw [e, e]
    iintro ⟨-, HO, ⟨Hp, -⟩, ⟨Hp', -⟩⟩
    isplitl [HO]; · iexact HO
    isplitl [Hp]; · iexact Hp
    iexact Hp'

/-- What the transfer of one direction takes. -/
def toSend (c : Dev nD) (b : Bool) (s : ℕ) : sProp 𝕄 :=
  iprop(sow c b (sl s) (pack (R X W b s c)) ∗ tgt c b s ∗ stk c b s ∗ rs c b s ∗ extra (nbr false b c) b s)

theorem wp_sends (c : Dev nD) (s : ℕ) (hs : s < 7) (O : CellTallies nD τ sig ℕ) :
    iprop(recs X W K ∗ ow c (O + sendOwe false c true s + sendOwe false c false s) ∗ toSend X W c false s ∗ toSend X W c true s)
      ⊢ wpK (F := F) c (both fun b => send1 c b s) (fun _ => iprop(ow c O ∗ sc c false s ∗ sc c true s)) := by
  have hb (b : Bool) (O : CellTallies nD τ sig ℕ) : iprop((recs X W K ∗ ow c (O + sendOwe false c b s)) ∗ toSend X W c b s)
      ⊢ wpK (F := F) c (send1 c b s) (fun _ => iprop((recs X W K ∗ ow c O) ∗ sc c b s)) := by
    unfold toSend stk rs sc
    iintro ⟨⟨#HR, HO⟩, Hs, Ht, ⟨T1, T2⟩, Hr, He⟩
    iapply (wpK_step c (wp_send1 X W K c b s hs O)) $$ [HO Hs Ht T1 T2 Hr He]
    · isplitr; · iexact HR
      isplitl [Hs]; · iexact Hs
      isplitl [Ht]; · iexact Ht
      isplitl [HO]; · iexact HO
      isplitl [T1]; · iexact T1
      isplitl [Hr]; · iexact Hr
      isplitl [T2]; · iexact T2
      iexact He
    iintro %_ ⟨HO, Hc⟩
    isplitl [HO]
    · isplitr; · iexact HR
      iexact HO
    iexact Hc
  iintro ⟨#HR, HO, Hp⟩
  iapply (wpK_step c (wp_both' c (fun b => send1 c b s) (P := fun b => toSend X W c b s) (Q := fun b => sc c b s)
    (hb false (O + sendOwe false c true s)) (hb true O))) $$ [HO Hp]
  · isplitl [HO]
    · isplitr; · iexact HR
      iexact HO
    iexact Hp
  iintro %_ ⟨⟨-, HO⟩, Hp⟩
  isplitl [HO]; · iexact HO
  iexact Hp

/-- What is free again after step `s` waited. -/
def freeAt (c : Dev nD) (b : Bool) (s : ℕ) : sProp 𝕄 := iprop(sp c b (s + 3) ∗ rs c b (s + 3) ∗ frI c b (s + 1))

theorem wp_freed_waits (c : Dev nD) (s : ℕ) (hs : s < 7) {O : CellTallies nD τ sig ℕ} (hO : Above 0 O) :
    iprop(recs X W K ∗ ow c O ∗ pend c false (s + 1) ∗ pend c true (s + 1))
      ⊢ wpK (F := F) c (both fun b => waitD1 b false (sl s) (sl (s + 1)) (sl s))
        (fun _ => iprop(ow c O ∗ freeAt c false (s + 1) ∗ freeAt c true (s + 1))) := by
  have hb (b : Bool) : iprop((recs X W K ∗ ow c O) ∗ pend c b (s + 1))
      ⊢ wpK (F := F) c (waitD1 b false (sl s) (sl (s + 1)) (sl s)) (fun _ => iprop((recs X W K ∗ ow c O) ∗ freeAt c b (s + 1))) := by
    have e1 : sl (s + 1 + 3) = sl s := Fin.ext (show (s + 1 + 3) % 4 = s % 4 by omega)
    have e2 : (s + 1 + 3) / 4 = s / 4 + 1 := by omega
    show iprop((recs X W K ∗ ow c O) ∗ sp c b s ∗ sc c b s) ⊢ wpK (F := F) c (waitD1 b false (sl s) (sl (s + 1)) (sl s))
      (fun _ => iprop((recs X W K ∗ ow c O) ∗ sp c b (s + 1 + 3) ∗ rs c b (s + 1 + 3) ∗ fr c b s))
    unfold sp rs sc fr
    rw [e1, e2]
    iintro ⟨⟨#HR, HO⟩, Hp, Hc⟩
    iapply (wpK_step c (wp_waitD1 X W K c b false (sl s) (sl (s + 1)) (sl s) (s / 4) 0 0 (by rw [stp_send]; exact hs) (by omega) (Nat.le_refl _) hO)) $$ [HO Hp Hc]
    · isplitr; · iexact HR
      isplitl [Hc]; · iexact Hc
      isplitl [HO]; · iexact HO
      iexact Hp
    iintro %_ ⟨HO, Hp, Hr, Hs⟩
    isplitl [HO]
    · isplitr; · iexact HR
      iexact HO
    isplitl [Hp]; · iexact Hp
    isplitl [Hr]; · iexact Hr
    ihave Hs := (Entails.of_eq (pay_send1 X W c b s (false, false))) $$ Hs
    iexists (pack (R X W b s c))
    iexact Hs
  iintro ⟨#HR, HO, Hp⟩
  iapply (wpK_step c (wp_both' c (fun b => waitD1 b false (sl s) (sl (s + 1)) (sl s)) (P := fun b => pend c b (s + 1)) (Q := fun b => freeAt c b (s + 1))
    (hb false) (hb true))) $$ [HO Hp]
  · isplitl [HO]
    · isplitr; · iexact HR
      iexact HO
    iexact Hp
  iintro %_ ⟨⟨-, HO⟩, Hp⟩
  isplitl [HO]; · iexact HO
  iexact Hp

theorem wp_freed_sigs (c : Dev nD) (s : ℕ) (hs : s < 4) (O : CellTallies nD τ sig ℕ) :
    iprop(recs X W K ∗ ow c (O + crdOwe c true (s + 1) + crdOwe c false (s + 1)) ∗ ctk c false (s + 1) ∗ ctk c true (s + 1))
      ⊢ wpK (F := F) c (both fun b => sig1 (dst1 (!b) c) (csem b)) (fun _ => ow c O) := by
  have hb (b : Bool) (O : CellTallies nD τ sig ℕ) : iprop((recs X W K ∗ ow c (O + crdOwe c b (s + 1))) ∗ ctk c b (s + 1))
      ⊢ wpK (F := F) c (sig1 (dst1 (!b) c) (csem b)) (fun _ => iprop((recs X W K ∗ ow c O) ∗ emp)) := by
    unfold crdOwe ctk
    rw [if_pos (by omega), if_pos (by omega), dst1_eq]
    have he : (iprop(emp) : sProp 𝕄) ⊢ pay X W (nbr false (!b) c) (crdk b) 0 (crdD (s + 1 - 1)) := Entails.refl _
    iintro ⟨⟨#HR, HO⟩, Ht⟩
    iapply (wpK_step c (wp_sig X W K c (nbr false (!b) c) (crdk b) (csem b) rfl rfl rfl (crdD (s + 1 - 1)) (s + 1 - 1) O)) $$ [HO Ht]
    · isplitr; · iexact HR
      isplitl [HO]; · iexact HO
      isplitl [Ht]; · iexact Ht
      iapply he; iempintro
    iintro %_ HO
    isplitl [HO]
    · isplitr; · iexact HR
      iexact HO
    iempintro
  iintro ⟨#HR, HO, Hp⟩
  iapply (wpK_step c (wp_both' c (fun b => sig1 (dst1 (!b) c) (csem b)) (P := fun b => ctk c b (s + 1)) (Q := fun b => iprop(emp))
    (hb false (O + crdOwe c true (s + 1))) (hb true O))) $$ [HO Hp]
  · isplitl [HO]
    · isplitr; · iexact HR
      iexact HO
    iexact Hp
  iintro %_ ⟨⟨-, HO⟩, -⟩
  iexact HO

theorem above_crd (c : Dev nD) (b : Bool) (s n : ℕ) (h : n < 10 * s + 13) : Above n (crdOwe c b s) := by
  unfold crdOwe
  split
  · exact Above.tally _ _ _ _ (by omega) (show n < 10 * (s - 1) + 23 by omega)
  · exact Above.zero n

theorem wp_freed (c : Dev nD) (s : ℕ) (hs : s < 8) {O : CellTallies nD τ sig ℕ} (hO : Above 0 O) :
    iprop(recs X W K ∗ ow c (O + crdOwe c true s + crdOwe c false s) ∗ (pend c false s ∗ ctk c false s) ∗ (pend c true s ∗ ctk c true s))
      ⊢ wpK (F := F) c (freed c s) (fun _ => iprop(ow c O ∗ freeAt c false s ∗ freeAt c true s)) := by
  rcases s with _ | s
  · show iprop(recs X W K ∗ ow c (O + 0 + 0) ∗ ((sp c false 3 ∗ rs c false 3) ∗ ctk c false 0) ∗ ((sp c true 3 ∗ rs c true 3) ∗ ctk c true 0))
      ⊢ wpK (F := F) c (pure PUnit.unit) (fun _ => iprop(ow c O ∗ (sp c false 3 ∗ rs c false 3 ∗ emp) ∗ (sp c true 3 ∗ rs c true 3 ∗ emp)))
    refine BIBase.Entails.trans ?_ (wpK_pure c _ _)
    rw [add_zero, add_zero]
    iintro ⟨-, HO, ⟨⟨H1, H2⟩, -⟩, ⟨⟨H3, H4⟩, -⟩⟩
    isplitl [HO]; · iexact HO
    isplitl [H1 H2]
    · isplitl [H1]; · iexact H1
      isplitl [H2]; · iexact H2
      iempintro
    isplitl [H3]; · iexact H3
    isplitl [H4]; · iexact H4
    iempintro
  · iintro ⟨#HR, HO, ⟨Hp, Ht⟩, ⟨Hp', Ht'⟩⟩
    unfold freed
    iapply (wpK_seq c (wp_freed_waits X W K c s (by omega)
      ((hO.add (above_crd c true (s + 1) 0 (by omega))).add (above_crd c false (s + 1) 0 (by omega))))) $$ [HO Hp Hp']
    · isplitr; · iexact HR
      isplitl [HO]; · iexact HO
      isplitl [Hp]; · iexact Hp
      iexact Hp'
    iintro %_ ⟨HO, Hf⟩
    by_cases h : s < 4
    · rw [if_pos h]
      iapply (wpK_step c (wp_freed_sigs X W K c s h O)) $$ [HO Ht Ht']
      · isplitr; · iexact HR
        isplitl [HO]; · iexact HO
        isplitl [Ht]; · iexact Ht
        iexact Ht'
      iintro %_ HO
      isplitl [HO]; · iexact HO
      iexact Hf
    · rw [if_neg h]
      have e (b : Bool) : crdOwe c b (s + 1) = 0 := if_neg (by omega)
      rw [e, e, add_zero, add_zero]
      iapply (wpK_pure c)
      isplitl [HO]; · iexact HO
      iexact Hf

/-- What has arrived at step `s`. -/
def arrived (c : Dev nD) (b : Bool) (s : ℕ) : sProp 𝕄 :=
  iprop(rp c b (s + 4) ∗ rr c b (s + 4) ∗ sow c b (sl (s + 1)) (pack (R X W b s (nbr false (!b) c))) ∗ extra c b s)

theorem wp_recvs (c : Dev nD) (s : ℕ) (hs : s < 7) {O : CellTallies nD τ sig ℕ} (hO : Above (10 * s + 15) O) :
    iprop(recs X W K ∗ ow c O ∗ (rp c false s ∗ rcr c false s) ∗ (rp c true s ∗ rcr c true s))
      ⊢ wpK (F := F) c (both fun b => waitD1 b true (sl (s + 1)) (sl s) (sl (s + 1)))
        (fun _ => iprop(ow c O ∗ arrived X W c false s ∗ arrived X W c true s)) := by
  have hb (b : Bool) : iprop((recs X W K ∗ ow c O) ∗ (rp c b s ∗ rcr c b s))
      ⊢ wpK (F := F) c (waitD1 b true (sl (s + 1)) (sl s) (sl (s + 1))) (fun _ => iprop((recs X W K ∗ ow c O) ∗ arrived X W c b s)) := by
    have e1 : sl (s + 4 + 1) = sl (s + 1) := Fin.ext (show (s + 4 + 1) % 4 = (s + 1) % 4 by omega)
    have e2 : (s + 4) / 4 = s / 4 + 1 := by omega
    have hpay := pay_recv1 X W c b s (false, false)
    unfold landed at hpay
    unfold arrived rp rr rcr
    rw [e1, e2]
    iintro ⟨⟨#HR, HO⟩, Hp, Hc⟩
    iapply (wpK_step c (wp_waitD1 X W K c b true (sl (s + 1)) (sl s) (sl (s + 1)) (s / 4) s (10 * s + 15) (by rw [stp_recv]; exact hs) (by omega) (Nat.le_refl _) hO)) $$ [HO Hp Hc]
    · isplitr; · iexact HR
      isplitl [Hc]; · iexact Hc
      isplitl [HO]; · iexact HO
      iexact Hp
    iintro %_ ⟨HO, Hp, Hr, Hs⟩
    isplitl [HO]
    · isplitr; · iexact HR
      iexact HO
    isplitl [Hp]; · iexact Hp
    isplitl [Hr]; · iexact Hr
    ihave Hs := (Entails.of_eq hpay) $$ Hs
    iexact Hs
  iintro ⟨#HR, HO, Hp⟩
  iapply (wpK_step c (wp_both' c (fun b => waitD1 b true (sl (s + 1)) (sl s) (sl (s + 1))) (P := fun b => iprop(rp c b s ∗ rcr c b s)) (Q := fun b => arrived X W c b s)
    (hb false) (hb true))) $$ [HO Hp]
  · isplitl [HO]
    · isplitr; · iexact HR
      iexact HO
    iexact Hp
  iintro %_ ⟨⟨-, HO⟩, Hp⟩
  isplitl [HO]; · iexact HO
  iexact Hp

end

end Cert.KernelIdeal.K

end
-- ==== Proof.K.Ring.lean ====
/- The first ring: its steps one after the other. -/
module

public import proofs.«01_k».proof.Proof.K.Step

@[expose] public section

set_option maxRecDepth 20000

noncomputable section

namespace Cert.KernelIdeal.K

open Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx

variable {F : FTy → Type} [FloatOps F]

local notation "𝕄" => MT nD τ sig ℕ (Elt F) ℕ UU ℕ

section
variable (X : Dev nD → Vec F S4096x128 .fp8e4m3) (W : Dev nD → FVec F S128x2048 .bf16) (K : Dev nD × CK → ℕ)

/-- What a device holds for one direction as step `s` begins, but for the slot it sends. -/
def held (c : Dev nD) (b : Bool) (s : ℕ) : sProp 𝕄 :=
  iprop(tgts c b s ∗ pend c b s ∗ frI c b s ∗ (sp c b s ∗ sp c b (s + 1) ∗ sp c b (s + 2))
    ∗ (rs c b s ∗ rs c b (s + 1) ∗ rs c b (s + 2)) ∗ (rp c b s ∗ rp c b (s + 1) ∗ rp c b (s + 2) ∗ rp c b (s + 3))
    ∗ (rr c b (s + 1) ∗ rr c b (s + 2) ∗ rr c b (s + 3)) ∗ cp c b s)

/-- What the step leaves. -/
def gone (c : Dev nD) (b : Bool) (s : ℕ) : sProp 𝕄 :=
  iprop(sow c b (sl (s + 1)) (pack (R X W b s (nbr false (!b) c))) ∗ held c b (s + 1) ∗ left c b s)

theorem above_send (p : Bool) (c : Dev nD) (b : Bool) (s n : ℕ) (hs : s < 8) (h : n < if p then 1000 + s else 10 * s + 15) : Above n (sendOwe p c b s) := by
  cases p
  · exact Above.tally _ _ _ _ hs h
  · exact Above.tally _ _ _ _ hs h

/-- The sums of one step. -/
def ending (s : Fin 7) (p : Bool → Fin 4 → FVec F S128x1024 .f32) : BProg F PUnit :=
  if s.val < 6 then four fun k => both fun b => accB b (sl (s.val + 1)) k (p b k)
  else four fun k => both fun b => accS b (sl (s.val + 1)) k (p b k)

theorem ending_eq (s : Fin 7) (p q : Fin 4 → FVec F S128x1024 .f32) (r : Bool → Fin 4 → FVec F S128x1024 .f32) (hp : r false = p) (hq : r true = q) :
    (if s.val < 6 then
      four fun k => both fun b => accB (F := F) b (sl (s.val + 1)) k (match b with | false => p k | true => q k)
    else
      four fun k => both fun b => accS b (sl (s.val + 1)) k (match b with | false => p k | true => q k)) = ending s r := by
  have e : (fun (b : Bool) (k : Fin 4) => (match b with | false => p k | true => q k)) = r := by
    funext b k; cases b
    · exact (congrFun hp k).symm
    · exact (congrFun hq k).symm
  unfold ending
  rw [← e]

theorem step1_eq (m0 : Memref sig .tc .vmem S4096x128 .fp8e4m3) (c : Dev nD) (w : FVec F S128x2048 .bf16) (s : Fin 7) :
    step1 m0 c w s = (if 3 ≤ s.val then both (fun b => wait1 (csem b)) else pure ⟨⟩) >>= fun _ => (both fun b => send1 c b s.val) >>= fun _ =>
      ldPs m0 c w false s >>= fun p => ldPs m0 c w true s >>= fun q => freed c s.val >>= fun _ =>
      (both fun b => waitD1 b true (sl (s.val + 1)) (sl s.val) (sl (s.val + 1))) >>= fun _ =>
      if s.val < 6 then
        four fun k => both fun b => accB b (sl (s.val + 1)) k (match b with | false => p k | true => q k)
      else
        four fun k => both fun b => accS b (sl (s.val + 1)) k (match b with | false => p k | true => q k) := by
  unfold step1
  by_cases h : 3 ≤ s.val
  · rw [if_pos h, if_pos h]; rfl
  · rw [if_neg h, if_neg h]; rfl

/-- What step `s` owes: its two arrivals and its two credits. -/
def stepOwe (c : Dev nD) (s : ℕ) (O : CellTallies nD τ sig ℕ) : CellTallies nD τ sig ℕ :=
  O + crdOwe c true s + crdOwe c false s + sendOwe false c true s + sendOwe false c false s

theorem wp_step_front (m0 : Memref sig .tc .vmem S4096x128 .fp8e4m3) (c : Dev nD) (q : PosShare TreeShare) (s : Fin 7)
    {O : CellTallies nD τ sig ℕ} (hO : Above (10 * s.val + 15) O) (Q : PUnit → sProp 𝕄) :
    iprop(recs X W K ∗ ow c (stepOwe c s.val O) ∗ owns (c : Thread nD τ) m0 q (X c)
        ∗ (sow c false (sl s.val) (pack (R X W false s.val c)) ∗ held c false s.val ∗ tok c false s.val)
        ∗ (sow c true (sl s.val) (pack (R X W true s.val c)) ∗ held c true s.val ∗ tok c true s.val))
      ⊢ iprop((ow c O ∗ owns (c : Thread nD τ) m0 q (X c) ∗ gone X W c false s.val ∗ gone X W c true s.val
            -∗ wpK (F := F) c (ending s fun b => pt X W b c s.val) Q)
          -∗ wpK c (step1 m0 c (W c) s) Q) := by
  obtain ⟨s, hs⟩ := s
  dsimp only at hO ⊢
  have h1 : Above (10 * s) (stepOwe c s O) :=
    ((((hO.mono (by omega)).add (above_crd c true s _ (by omega))).add (above_crd c false s _ (by omega))).add
      (above_send false c true s _ (by omega) (show 10 * s < 10 * s + 15 by omega))).add (above_send false c false s _ (by omega) (show 10 * s < 10 * s + 15 by omega))
  have ht (b : Bool) : tgts (F := F) c b s = iprop(tgt c b s ∗ more c b s) := by unfold tgts; rw [if_pos hs]
  have hp (b : Bool) : pend (F := F) c b (s + 1) = iprop(sp c b s ∗ sc c b s) := rfl
  rw [step1_eq]
  unfold held tok
  rw [ht, ht]
  iintro ⟨#HR, HO, Hx, ⟨Hs, ⟨⟨Htg, Hm⟩, Hpd, Hfr, ⟨P0, P1, P2⟩, ⟨#A0, #A1, #A2⟩, ⟨B0, B1, B2, B3⟩, ⟨#D1, #D2, #D3⟩, Hcp⟩, ⟨Hst, Hrc, Hct, Hcc⟩⟩,
    ⟨Js, ⟨⟨Jtg, Jm⟩, Jpd, Jfr, ⟨V0, V1, V2⟩, ⟨#E0, #E1, #E2⟩, ⟨C0, C1, C2, C3⟩, ⟨#G1, #G2, #G3⟩, Jcp⟩, ⟨Jst, Jrc, Jct, Jcc⟩⟩⟩ Hk
  iapply (wpK_seq c (wp_crds X W K c s hs h1)) $$ [HO Hcp Hcc Jcp Jcc]
  · isplitr; · iexact HR
    isplitl [HO]; · iexact HO
    isplitl [Hcp Hcc]
    · isplitl [Hcp]; · iexact Hcp
      iexact Hcc
    isplitl [Jcp]; · iexact Jcp
    iexact Jcc
  iintro %_ ⟨HO, Hcp, Jcp⟩
  ihave He := (extra_intro (F := F) c false s hs) $$ [Jfr]
  · isplitl [Jfr]; · iexact Jfr
    iexact G1
  icases He with ⟨He, Jl⟩
  ihave Je := (extra_intro (F := F) c true s hs) $$ [Hfr]
  · isplitl [Hfr]; · iexact Hfr
    iexact D1
  icases Je with ⟨Je, Hl⟩
  unfold stepOwe
  iapply (wpK_seq c (wp_sends X W K c s hs _)) $$ [HO Hs Htg Hst He Js Jtg Jst Je]
  · isplitr; · iexact HR
    isplitl [HO]; · iexact HO
    unfold toSend
    isplitl [Hs Htg Hst He]
    · isplitl [Hs]; · iexact Hs
      isplitl [Htg]; · iexact Htg
      isplitl [Hst]; · iexact Hst
      isplitr; · iexact A0
      iexact He
    isplitl [Js]; · iexact Js
    isplitl [Jtg]; · iexact Jtg
    isplitl [Jst]; · iexact Jst
    isplitr; · iexact E0
    iexact Je
  iintro %_ ⟨HO, Hsc, Jsc⟩
  iapply (wpK_seq c (wp_ldPs m0 c q (X c) (W c) false ⟨s, hs⟩)) $$ Hx
  iintro %p ⟨%hp', Hx⟩
  iapply (wpK_seq c (wp_ldPs m0 c q (X c) (W c) true ⟨s, hs⟩)) $$ Hx
  iintro %p' ⟨%hq', Hx⟩
  iapply (wpK_seq c (wp_freed X W K c s (by omega) (hO.mono (by omega)))) $$ [HO Hpd Hct Jpd Jct]
  · isplitr; · iexact HR
    isplitl [HO]; · iexact HO
    isplitl [Hpd Hct]
    · isplitl [Hpd]; · iexact Hpd
      iexact Hct
    isplitl [Jpd]; · iexact Jpd
    iexact Jct
  iintro %_ ⟨HO, Hf, Jf⟩
  iapply (wpK_seq c (wp_recvs X W K c s hs hO)) $$ [HO B0 Hrc C0 Jrc]
  · isplitr; · iexact HR
    isplitl [HO]; · iexact HO
    isplitl [B0 Hrc]
    · isplitl [B0]; · iexact B0
      iexact Hrc
    isplitl [C0]; · iexact C0
    iexact Jrc
  iintro %_ ⟨HO, Ha, Ja⟩
  unfold arrived freeAt
  icases Ha with ⟨Ha1, #Ha2, Ha3, Ha4⟩
  icases Ja with ⟨Ja1, #Ja2, Ja3, Ja4⟩
  icases Hf with ⟨Hf1, #Hf2, Hf3⟩
  icases Jf with ⟨Jf1, #Jf2, Jf3⟩
  ihave Htg := (tgts_next (F := F) c false s hs) $$ [Hm Ja4]
  · isplitl [Hm]; · iexact Hm
    iexact Ja4
  ihave Jtg := (tgts_next (F := F) c true s hs) $$ [Jm Ha4]
  · isplitl [Jm]; · iexact Jm
    iexact Ha4
  rw [ending_eq ⟨s, hs⟩ p p' (fun b => pt X W b c s) hp'.symm hq'.symm]
  iapply Hk
  isplitl [HO]; · iexact HO
  isplitl [Hx]; · iexact Hx
  unfold gone held
  rw [hp, hp]
  isplitl [Ha3 Htg P0 P1 P2 Hsc Hf1 Hf3 B1 B2 B3 Ha1 Hcp Hl]
  · isplitl [Ha3]; · iexact Ha3
    isplitr [Hl]
    · isplitl [Htg]; · iexact Htg
      isplitl [P0 Hsc]
      · isplitl [P0]; · iexact P0
        iexact Hsc
      isplitl [Hf3]; · iexact Hf3
      isplitl [P1 P2 Hf1]
      · isplitl [P1]; · iexact P1
        isplitl [P2]; · iexact P2
        iexact Hf1
      isplitr
      · isplitr; · iexact A1
        isplitr; · iexact A2
        iexact Hf2
      isplitl [B1 B2 B3 Ha1]
      · isplitl [B1]; · iexact B1
        isplitl [B2]; · iexact B2
        isplitl [B3]; · iexact B3
        iexact Ha1
      isplitr
      · isplitr; · iexact D2
        isplitr; · iexact D3
        iexact Ha2
      iexact Hcp
    iexact Hl
  · isplitl [Ja3]; · iexact Ja3
    isplitr [Jl]
    · isplitl [Jtg]; · iexact Jtg
      isplitl [V0 Jsc]
      · isplitl [V0]; · iexact V0
        iexact Jsc
      isplitl [Jf3]; · iexact Jf3
      isplitl [V1 V2 Jf1]
      · isplitl [V1]; · iexact V1
        isplitl [V2]; · iexact V2
        iexact Jf1
      isplitr
      · isplitr; · iexact E1
        isplitr; · iexact E2
        iexact Jf2
      isplitl [C1 C2 C3 Ja1]
      · isplitl [C1]; · iexact C1
        isplitl [C2]; · iexact C2
        isplitl [C3]; · iexact C3
        iexact Ja1
      isplitr
      · isplitr; · iexact G2
        isplitr; · iexact G3
        iexact Ja2
      iexact Jcp
    iexact Jl

/-- What is held of both directions between two steps. -/
def between (c : Dev nD) (s : ℕ) : sProp 𝕄 :=
  iprop((sow c false (sl s) (pack (R X W false s c)) ∗ held c false s) ∗ (sow c true (sl s) (pack (R X W true s c)) ∗ held c true s))

/-- A step that passes on what it summed. -/
theorem wp_step (m0 : Memref sig .tc .vmem S4096x128 .fp8e4m3) (c : Dev nD) (q : PosShare TreeShare) (s : Fin 7) (hs : s.val < 6)
    {O : CellTallies nD τ sig ℕ} (hO : Above (10 * s.val + 15) O) :
    iprop(recs X W K ∗ ow c (stepOwe c s.val O) ∗ owns (c : Thread nD τ) m0 q (X c) ∗ between X W c s.val ∗ (tok c false s.val ∗ tok c true s.val))
      ⊢ wpK c (step1 m0 c (W c) s) (fun _ => iprop(ow c O ∗ owns (c : Thread nD τ) m0 q (X c) ∗ between X W c (s.val + 1))) := by
  unfold between
  iintro ⟨#HR, HO, Hx, ⟨⟨H1, H2⟩, ⟨H3, H4⟩⟩, ⟨T1, T2⟩⟩
  iapply (wp_step_front X W K m0 c q s hO _) $$ [HO Hx H1 H2 H3 H4 T1 T2]
  · isplitr; · iexact HR
    isplitl [HO]; · iexact HO
    isplitl [Hx]; · iexact Hx
    isplitl [H1 H2 T1]
    · isplitl [H1]; · iexact H1
      isplitl [H2]; · iexact H2
      iexact T1
    isplitl [H3]; · iexact H3
    isplitl [H4]; · iexact H4
    iexact T2
  iintro ⟨HO, Hx, H1, H2⟩
  unfold gone ending
  rw [if_pos hs]
  icases H1 with ⟨H1, K1, -⟩
  icases H2 with ⟨H2, K2, -⟩
  iapply (wpK_step c (wp_accBs c (sl (s.val + 1)) (fun b => R X W b s.val (nbr false (!b) c)) (fun b => pt X W b c s.val))) $$ [H1 H2]
  · isplitl [H1]; · iexact H1
    iexact H2
  iintro %_ ⟨H1, H2⟩
  isplitl [HO]; · iexact HO
  isplitl [Hx]; · iexact Hx
  isplitl [H1 K1]
  · isplitl [H1]; · iexact H1
    iexact K1
  isplitl [H2]; · iexact H2
  iexact K2

/-- The last step, which keeps its sums. -/
theorem wp_step_last (m0 : Memref sig .tc .vmem S4096x128 .fp8e4m3) (c : Dev nD) (q : PosShare TreeShare)
    {O : CellTallies nD τ sig ℕ} (hO : Above 75 O) (u : Bool → Fin 4 → FVec F S128x1024 .f32) :
    iprop(recs X W K ∗ ow c (stepOwe c 6 O) ∗ owns (c : Thread nD τ) m0 q (X c) ∗ between X W c 6 ∗ (tok c false 6 ∗ tok c true 6)
        ∗ (bow c false (u false) ∗ bow c true (u true)))
      ⊢ wpK c (step1 m0 c (W c) 6) (fun _ => iprop(ow c O ∗ owns (c : Thread nD τ) m0 q (X c)
          ∗ (fr c false 7 ∗ held c false 7 ∗ fr c false 4 ∗ bow c false (Bn X W false c))
          ∗ (fr c true 7 ∗ held c true 7 ∗ fr c true 4 ∗ bow c true (Bn X W true c)))) := by
  have hl (b : Bool) : left (F := F) c b (6 : Fin 7).val = fr c b 4 := if_pos rfl
  unfold between
  iintro ⟨#HR, HO, Hx, ⟨⟨H1, H2⟩, ⟨H3, H4⟩⟩, ⟨T1, T2⟩, ⟨U1, U2⟩⟩
  iapply (wp_step_front X W K m0 c q 6 hO _) $$ [HO Hx H1 H2 H3 H4 T1 T2]
  · isplitr; · iexact HR
    isplitl [HO]; · iexact HO
    isplitl [Hx]; · iexact Hx
    isplitl [H1 H2 T1]
    · isplitl [H1]; · iexact H1
      isplitl [H2]; · iexact H2
      iexact T1
    isplitl [H3]; · iexact H3
    isplitl [H4]; · iexact H4
    iexact T2
  iintro ⟨HO, Hx, H1, H2⟩
  unfold gone ending
  rw [if_neg (by decide), hl, hl]
  icases H1 with ⟨H1, K1, L1⟩
  icases H2 with ⟨H2, K2, L2⟩
  iapply (wpK_step c (wp_accSs c (sl 7) (fun b => R X W b 6 (nbr false (!b) c)) u (fun b => pt X W b c 6))) $$ [H1 U1 H2 U2]
  · isplitl [H1 U1]
    · isplitl [H1]; · iexact H1
      iexact U1
    isplitl [H2]; · iexact H2
    iexact U2
  iintro %_ ⟨⟨H1, U1⟩, ⟨H2, U2⟩⟩
  isplitl [HO]; · iexact HO
  isplitl [Hx]; · iexact Hx
  unfold fr
  isplitl [H1 K1 L1 U1]
  · isplitl [H1]; · iexists _; iexact H1
    isplitl [K1]; · iexact K1
    isplitl [L1]; · iexact L1
    iexact U1
  isplitl [H2]; · iexists _; iexact H2
  isplitl [K2]; · iexact K2
  isplitl [L2]; · iexact L2
  iexact U2

end

end Cert.KernelIdeal.K

end
-- ==== Proof.K.Ends.lean ====
/- The two ends of the body: its operands and first blocks, and the sums of the second ring. -/
module

public import proofs.«01_k».proof.Proof.K.Block

@[expose] public section

set_option maxRecDepth 20000

noncomputable section

namespace Cert.KernelIdeal.K

open Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx

variable {F : FTy → Type} [FloatOps F]

local notation "𝕄" => MT nD τ sig ℕ (Elt F) ℕ UU ℕ

section
variable (X : Dev nD → Vec F S4096x128 .fp8e4m3) (W : Dev nD → FVec F S128x2048 .bf16) (K : Dev nD × CK → ℕ)

/-! ## The operands -/

/-- The second operand in the products' type. -/
def wq (v : Vec F S128x2048 .fp8e5m2) : FVec F S128x2048 .bf16 :=
  extf .bf16 (shapeCast S128x2048 v shapeCasts_S128x2048_S128x2048) bitsLt_fp8e5m2_bf16

theorem wp_ldW (m1 : Memref sig .tc .vmem S128x2048 .fp8e5m2) (c : Dev nD) (q : PosShare TreeShare) (v : Vec F S128x2048 .fp8e5m2) :
    (owns (c : Thread nD τ) m1 q v : sProp 𝕄) ⊢ wpK (F := F) c (ldW m1) (fun w => iprop(⌜w = wq v⌝ ∗ owns (c : Thread nD τ) m1 q v)) := by
  iintro H
  unfold ldW
  iapply (wpK_seq c (wp_load_owns c m1 q v (Rect.unit (s := S128x2048) ![0, 0] S128x2048.size inb_S128x2048_S128x2048_0_0))) $$ H
  iintro %x ⟨%hx, H⟩
  iapply (wpK_pure c)
  isplitr
  · ipureintro
    have e : x = v := by
      subst hx
      funext i
      refine congrArg v (funext fun d => Fin.ext ?_)
      match d with
      | ⟨0, _⟩ => show 0 + 1 * (i 0).val = (i 0).val; omega
      | ⟨1, _⟩ => show 0 + 1 * (i 1).val = (i 1).val; omega
    rw [e]; rfl
  · iexact H

/-- The one element of a scale. -/
abbrev z1 : S1.Idx := ix1 (0 : Fin 1)

theorem wp_ldScale (m : Memref sig .tc .smem S1 .f32) (c : Dev nD) (q : PosShare TreeShare) (v : Vec F S1 .f32) :
    (owns (c : Thread nD τ) m q v : sProp 𝕄) ⊢ wpK (F := F) c (ldScale m) (fun a => iprop(⌜a = v z1⌝ ∗ owns (c : Thread nD τ) m q v)) := by
  unfold owns
  iintro ⟨%f, %hf, H⟩
  subst hf
  unfold ldScale smemLoad
  iapply (wp_smemLoadElt 𝒱₀ (c : Thread nD τ) none Set.univ (m := m) (r := Rect.unit (s := S1) ![0] S1.size inb_S1_S1_0) (S := m.view.set) (View.set_slice_subset ..)) $$ H
  iintro H
  rw [wp_ret]; imodintro
  isplitr
  · ipureintro
    refine congrArg (m.view.read (Elt F) f) (funext fun d => ?_)
    match d with
    | ⟨0, _⟩ => exact Subsingleton.elim (α := Fin 1) _ _
  · iexists f; isplitr
    · ipureintro; rfl
    · iexact H

theorem wp_init1 (m0 : Memref sig .tc .vmem S4096x128 .fp8e4m3) (c : Dev nD) (q : PosShare TreeShare) :
    iprop(owns (c : Thread nD τ) m0 q (X c) ∗ (∃ V, sow c false 0 V) ∗ (∃ V, sow c true 0 V))
      ⊢ wpK (F := F) c (init1 m0 c (W c)) (fun _ => iprop(owns (c : Thread nD τ) m0 q (X c)
          ∗ sow c false 0 (pack (R X W false 0 c)) ∗ sow c true 0 (pack (R X W true 0 c)))) := by
  iintro ⟨Hx, H, H'⟩
  unfold init1
  iapply (wpK_seq c (wp_ldP0s m0 c q (X c) (W c) false)) $$ Hx; iintro %p ⟨%hp, Hx⟩
  iapply (wpK_seq c (wp_put0s c false p)) $$ H; iintro %_ H
  iapply (wpK_seq c (wp_ldP0s m0 c q (X c) (W c) true)) $$ Hx; iintro %p' ⟨%hp', Hx⟩
  iapply (wpK_step c (wp_put0s c true p')) $$ H'; iintro %_ H'
  subst hp hp'
  isplitl [Hx]; · iexact Hx
  isplitl [H]; · iexact H
  iexact H'

/-! ## The sums of the second ring -/

theorem wp_ldR0 (c : Dev nD) (b : Bool) (u : Fin 4 → FVec F S128x1024 .f32) :
    (bow c b u : sProp 𝕄) ⊢ wpK (F := F) c (ldR0 c b) (fun v => iprop(⌜v = u (r0 b c)⌝ ∗ bow c b u)) := by
  cases b
  · iintro H
    unfold ldR0
    iapply (wpK_seq c (wp_ldS c false _ _ (r0 false c) (off4_val c) u)) $$ H; iintro %v ⟨%hv, H⟩
    iapply (wpK_pure c)
    isplitr
    · ipureintro; exact hv
    · iexact H
  · iintro H
    unfold ldR0
    iapply (wpK_seq c (wp_ldS c true _ _ (r0 true c) (off5_val0 c) u)) $$ H; iintro %v ⟨%hv, H⟩
    iapply (wpK_pure c)
    isplitr
    · ipureintro; exact hv
    · iexact H

theorem wp_ldR (c : Dev nD) (b : Bool) (s : Fin 3) (u : Fin 4 → FVec F S128x1024 .f32) :
    (bow c b u : sProp 𝕄) ⊢ wpK (F := F) c (ldR c b s) (fun v => iprop(⌜v = u (rc b c s.val)⌝ ∗ bow c b u)) := by
  cases b
  · iintro H
    unfold ldR
    iapply (wpK_seq c (wp_ldS c false _ _ (rc false c s.val) (off5_val c s) u)) $$ H; iintro %v ⟨%hv, H⟩
    iapply (wpK_pure c)
    isplitr
    · ipureintro; exact hv
    · iexact H
  · iintro H
    unfold ldR
    iapply (wpK_seq c (wp_ldS c true _ _ (rc true c s.val) (off6_val c s) u)) $$ H; iintro %v ⟨%hv, H⟩
    iapply (wpK_pure c)
    isplitr
    · ipureintro; exact hv
    · iexact H

/-- A device's finished sums of one direction. -/
def fin1 (c : Dev nD) (b : Bool) : sProp 𝕄 := bow c b (Bn X W b c)

theorem wp_init2 (c : Dev nD) :
    iprop((fin1 X W c false ∗ ∃ V, sow2 c false 0 V) ∗ (fin1 X W c true ∗ ∃ V, sow2 c true 0 V))
      ⊢ wpK (F := F) c (init2 c) (fun _ => iprop((fin1 X W c false ∗ sow2 c false 0 (T X W false 0 c)) ∗ (fin1 X W c true ∗ sow2 c true 0 (T X W true 0 c)))) := by
  refine wp_both c _ (P := fun b => iprop(fin1 X W c b ∗ ∃ V, sow2 c b 0 V)) (Q := fun b => iprop(fin1 X W c b ∗ sow2 c b 0 (T X W b 0 c))) fun b => ?_
  unfold fin1
  iintro ⟨HB, %V, H⟩
  iapply (wpK_seq c (wp_ldR0 c b (Bn X W b c))) $$ HB; iintro %v ⟨%hv, HB⟩
  iapply (wpK_seq c (wp_ldC c b 0 V)) $$ H; iintro %_ ⟨-, H⟩
  iapply (wpK_step c (wp_stC c b 0 V (rnd v))) $$ H; iintro %_ H
  subst hv
  isplitl [HB]; · iexact HB
  iexact H

theorem wp_acc2 (c : Dev nD) (s : Fin 3) :
    iprop((fin1 X W c false ∗ sow2 c false (sl (s.val + 1)) (T X W false s.val (nbr true (!false) c))) ∗ (fin1 X W c true ∗ sow2 c true (sl (s.val + 1)) (T X W true s.val (nbr true (!true) c))))
      ⊢ wpK (F := F) c (both fun b => acc2 c s b) (fun _ => iprop((fin1 X W c false ∗ sow2 c false (sl (s.val + 1)) (T X W false (s.val + 1) c)) ∗ (fin1 X W c true ∗ sow2 c true (sl (s.val + 1)) (T X W true (s.val + 1) c)))) := by
  refine wp_both c _ (P := fun b => iprop(fin1 X W c b ∗ sow2 c b (sl (s.val + 1)) (T X W b s.val (nbr true (!b) c))))
    (Q := fun b => iprop(fin1 X W c b ∗ sow2 c b (sl (s.val + 1)) (T X W b (s.val + 1) c))) fun b => ?_
  unfold fin1 acc2
  iintro ⟨HB, H⟩
  iapply (wpK_seq c (wp_ldC c b (sl (s.val + 1)) _)) $$ H; iintro %v ⟨%hv, H⟩
  iapply (wpK_seq c (wp_ldR c b s (Bn X W b c))) $$ HB; iintro %r ⟨%hr, HB⟩
  iapply (wpK_seq c (wp_ldC c b (sl (s.val + 1)) _)) $$ H; iintro %_ ⟨-, H⟩
  rw [hv]
  subst hr
  iapply (wpK_step c (wp_stC c b (sl (s.val + 1)) _ _)) $$ H; iintro %_ H
  isplitl [HB]; · iexact HB
  iexact H

/-- One half of the output's columns replaced. -/
def setHalf (b : Bool) (w : FVec F S128x1024 .f32) (V : FVec F S128x2048 .f32) : FVec F S128x2048 .f32 := fun y =>
  if h : 1024 * b.toNat ≤ (y 1).val ∧ (y 1).val < 1024 * b.toNat + 1024 then w (ix2 (y 0) (⟨(y 1).val - 1024 * b.toNat, by omega⟩ : Fin 1024)) else V y

/-- A device's part of the result. -/
def outV (sx sw : Elt F .f32) (c : Dev nD) : FVec F S128x2048 .f32 := fun y =>
  if h : (y 1).val < 1024 then Fn X W sx sw false c (ix2 (y 0) (⟨(y 1).val, h⟩ : Fin 1024))
  else Fn X W sx sw true c (ix2 (y 0) (⟨(y 1).val - 1024, by have : (y 1).val < 2048 := (y 1).isLt; omega⟩ : Fin 1024))

theorem setHalf_both (sx sw : Elt F .f32) (c : Dev nD) (V : FVec F S128x2048 .f32) :
    setHalf true (Fn X W sx sw true c) (setHalf false (Fn X W sx sw false c) V) = outV X W sx sw c := by
  funext y
  have h2 : (y 1).val < 2048 := (y 1).isLt
  unfold setHalf outV
  simp only [Bool.toNat_true, Bool.toNat_false, Nat.mul_one, Nat.mul_zero, Nat.zero_le, Nat.zero_add, true_and, Nat.sub_zero]
  by_cases h : (y 1).val < 1024
  · rw [dif_neg (by omega), dif_pos h, dif_pos h]
  · rw [dif_pos (by omega), dif_neg h]

theorem wp_fin2 (m4 : Memref sig .tc .vmem S128x2048 .f32) (c : Dev nD) (sx sw : Elt F .f32) (b : Bool) (V : FVec F S128x2048 .f32) :
    iprop(owns (c : Thread nD τ) m4 fullShare V ∗ fin1 X W c b ∗ sow2 c b 3 (T X W b 2 (nbr true (!b) c)))
      ⊢ wpK (F := F) c (fin2 m4 c sx sw b) (fun _ => iprop(owns (c : Thread nD τ) m4 fullShare (setHalf b (Fn X W sx sw b c) V)
          ∗ fin1 X W c b ∗ sow2 c b 3 (T X W b 2 (nbr true (!b) c)))) := by
  unfold fin1 fin2
  iintro ⟨HV, HB, H⟩
  iapply (wpK_seq c (wp_ldC c b 3 _)) $$ H; iintro %v ⟨%hv, H⟩
  iapply (wpK_seq c (wp_ldR c b 2 (Bn X W b c))) $$ HB; iintro %r ⟨%hr, HB⟩
  iapply (wpK_seq c (wp_load_owns c m4 fullShare V (rOut b))) $$ HV; iintro %_ ⟨-, HV⟩
  rw [hv]
  subst hr
  have e1 (x : (rOut b).shape.Idx) : (((rOut b).emb x) 1).val = 1024 * b.toNat + (x 1).val := by
    show 1024 * b.toNat + 1 * (x 1).val = _; omega
  have e0 (x : (rOut b).shape.Idx) : (((rOut b).emb x) 0).val = (x 0).val := by
    show 0 + 1 * (x 0).val = _; omega
  iapply (wpK_step c (wp_store_owns c m4 V (setHalf b (Fn X W sx sw b c) V) (rOut b) _ (fun x => ?_) (fun y hy => ?_))) $$ HV
  · have hx : (x 1).val < 1024 := (x 1).isLt
    unfold setHalf
    rw [dif_pos (by rw [e1]; omega)]
    refine congrArg (Fn X W sx sw b c) ((funext fun d => Fin.ext ?_) : _ = x)
    match d with
    | ⟨0, _⟩ => exact e0 x
    | ⟨1, _⟩ => show (((rOut b).emb x) 1).val - 1024 * b.toNat = (x 1).val; rw [e1]; omega
  · unfold setHalf
    refine dif_neg fun h => hy (ix2 (y 0) (⟨(y 1).val - 1024 * b.toNat, by omega⟩ : Fin 1024)) (funext fun d => Fin.ext ?_)
    match d with
    | ⟨0, _⟩ => show 0 + 1 * (y 0).val = (y 0).val; omega
    | ⟨1, _⟩ => show 1024 * b.toNat + 1 * ((y 1).val - 1024 * b.toNat) = (y 1).val; omega
  iintro %_ HV
  isplitl [HV]; · iexact HV
  isplitl [HB]; · iexact HB
  iexact H

end

end Cert.KernelIdeal.K

end
-- ==== Proof.K.Phase2.lean ====
/- The second ring. -/
module

public import proofs.«01_k».proof.Proof.K.Ring
public import proofs.«01_k».proof.Proof.K.Ends

@[expose] public section

set_option maxRecDepth 20000

noncomputable section

namespace Cert.KernelIdeal.K

open Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx

variable {F : FTy → Type} [FloatOps F]

local notation "𝕄" => MT nD τ sig ℕ (Elt F) ℕ UU ℕ

section
variable (X : Dev nD → Vec F S4096x128 .fp8e4m3) (W : Dev nD → FVec F S128x2048 .bf16) (K : Dev nD × CK → ℕ)

/-! ## What a device holds for the second ring -/

/-- The positions of a step's receiving and sending cell, before and after its wait. -/
def rp2 (c : Dev nD) (b : Bool) (s : ℕ) : sProp 𝕄 := atPos ER (cell c (dmak true b true (sl (s + 1)))) (s / 4) ∅ 0
def rq2 (c : Dev nD) (b : Bool) (s : ℕ) : sProp 𝕄 := atPos ER (cell c (dmak true b true (sl (s + 1)))) (s / 4 + 1) ∅ 0
def sp2 (c : Dev nD) (b : Bool) (s : ℕ) : sProp 𝕄 := atPos ER (cell c (dmak true b false (sl s))) (s / 4) ∅ 0
def sq2 (c : Dev nD) (b : Bool) (s : ℕ) : sProp 𝕄 := atPos ER (cell c (dmak true b false (sl s))) (s / 4 + 1) ∅ 0
/-- The credit of a transfer on its way, its tokens, and the credit of its arrival. -/
def sc2 (c : Dev nD) (b : Bool) (s : ℕ) : sProp 𝕄 := cred (tallyAt (cell c (dmak true b false (sl s))) 0 (amt (dmak true b false (sl s))))
def stk2 (c : Dev nD) (b : Bool) (s : ℕ) : sProp 𝕄 :=
  iprop(dutyTok ER (cell c (dmak true b false (sl s))) (s / 4) (false, false)
    ∗ dutyTok ER (cell (nbr true b c) (dmak true b true (sl (s + 1)))) (s / 4) (false, false))
def rcr2 (c : Dev nD) (b : Bool) (s : ℕ) : sProp 𝕄 :=
  cred (tallyAt (cell c (dmak true b true (sl (s + 1)))) s (amt (dmak true b true (sl (s + 1)))))

/-- All that step `s` of one direction takes besides the slot it sends, and what it leaves. -/
def in2 (c : Dev nD) (b : Bool) (s : ℕ) : sProp 𝕄 := iprop(tgt2 c b s ∗ stk2 c b s ∗ rcr2 c b s ∗ rp2 c b s)
def out2 (c : Dev nD) (b : Bool) (s : ℕ) : sProp 𝕄 := iprop(sc2 c b s ∗ rq2 c b s)

/-- What step `s` owes: its two arrivals. -/
def stepOwe2 (c : Dev nD) (s : ℕ) (O : CellTallies nD τ sig ℕ) : CellTallies nD τ sig ℕ := O + sendOwe true c true s + sendOwe true c false s

theorem wp_comm2 (c : Dev nD) (s : ℕ) (hs : s < 3) {O : CellTallies nD τ sig ℕ} (hO : Above (1000 + s) O) :
    iprop(recs X W K ∗ ow c (stepOwe2 c s O) ∗ (sow2 c false (sl s) (T X W false s c) ∗ in2 c false s) ∗ (sow2 c true (sl s) (T X W true s c) ∗ in2 c true s))
      ⊢ wpK (F := F) c (comm2Step c s) (fun _ => iprop(ow c O
          ∗ (sow2 c false (sl (s + 1)) (T X W false s (nbr true (!false) c)) ∗ out2 c false s)
          ∗ (sow2 c true (sl (s + 1)) (T X W true s (nbr true (!true) c)) ∗ out2 c true s))) := by
  have hb (b : Bool) (O : CellTallies nD τ sig ℕ) :
      iprop((recs X W K ∗ ow c (O + sendOwe true c b s)) ∗ (sow2 c b (sl s) (T X W b s c) ∗ in2 c b s))
        ⊢ wpK (F := F) c (send2 c b s) (fun _ => iprop((recs X W K ∗ ow c O) ∗ (sc2 c b s ∗ rcr2 c b s ∗ rp2 c b s))) := by
    have hr := recs_reached X W K c (dmak true b false (sl s))
    have h0 : s / 4 = 0 := by omega
    unfold in2 stk2 sc2
    iintro ⟨⟨#HR, HO⟩, Hs, Ht, ⟨T1, T2⟩, Hc, Hp⟩
    iapply (wpK_step c (wp_send2 X W K c b s hs O)) $$ [HO Hs Ht T1 T2]
    · isplitr; · iexact HR
      isplitl [Hs]; · iexact Hs
      isplitl [Ht]; · iexact Ht
      isplitl [HO]; · iexact HO
      isplitl [T1]; · iexact T1
      isplitr
      · rw [h0]; iapply hr; iexact HR
      iexact T2
    iintro %_ ⟨HO, Hsc⟩
    isplitl [HO]
    · isplitr; · iexact HR
      iexact HO
    isplitl [Hsc]; · iexact Hsc
    isplitl [Hc]; · iexact Hc
    iexact Hp
  have hw (b : Bool) :
      iprop((recs X W K ∗ ow c O) ∗ (sc2 c b s ∗ rcr2 c b s ∗ rp2 c b s))
        ⊢ wpK (F := F) c (waitD2 b true (sl (s + 1)) (sl s) (sl (s + 1)))
          (fun _ => iprop((recs X W K ∗ ow c O) ∗ (sow2 c b (sl (s + 1)) (T X W b s (nbr true (!b) c)) ∗ out2 c b s))) := by
    unfold out2 rcr2 rp2 rq2
    iintro ⟨⟨#HR, HO⟩, Hsc, Hc, Hp⟩
    iapply (wpK_step c (wp_waitD2 X W K c b true (sl (s + 1)) (sl s) (sl (s + 1)) (s / 4) s (1000 + s) (by rw [stp_recv]; exact hs) (by omega) (Nat.le_refl _) hO)) $$ [HO Hc Hp]
    · isplitr; · iexact HR
      isplitl [Hc]; · iexact Hc
      isplitl [HO]; · iexact HO
      iexact Hp
    iintro %_ ⟨HO, Hp, -, Hs⟩
    ihave Hs := (Entails.of_eq (pay_recv2 X W c b s (false, false))) $$ Hs
    isplitl [HO]
    · isplitr; · iexact HR
      iexact HO
    isplitl [Hs]; · iexact Hs
    isplitl [Hsc]; · iexact Hsc
    iexact Hp
  unfold stepOwe2
  iintro ⟨#HR, HO, Hp⟩
  unfold comm2Step
  iapply (wpK_seq c (wp_both' c (fun b => send2 c b s) (P := fun b => iprop(sow2 c b (sl s) (T X W b s c) ∗ in2 c b s)) (Q := fun b => iprop(sc2 c b s ∗ rcr2 c b s ∗ rp2 c b s))
    (hb false (O + sendOwe true c true s)) (hb true O))) $$ [HO Hp]
  · isplitl [HO]
    · isplitr; · iexact HR
      iexact HO
    iexact Hp
  iintro %_ H
  iapply (wpK_step c (wp_both' c (fun b => waitD2 b true (sl (s + 1)) (sl s) (sl (s + 1))) (P := fun b => iprop(sc2 c b s ∗ rcr2 c b s ∗ rp2 c b s))
    (Q := fun b => iprop(sow2 c b (sl (s + 1)) (T X W b s (nbr true (!b) c)) ∗ out2 c b s)) (hw false) (hw true))) $$ H
  iintro %_ ⟨⟨-, HO⟩, Hp⟩
  isplitl [HO]; · iexact HO
  iexact Hp

/-- The waits for what was sent. -/
theorem wp_sent2 (c : Dev nD) (s : ℕ) (hs : s < 3) :
    iprop(recs X W K ∗ ow c 0 ∗ (sc2 c false s ∗ sp2 c false s) ∗ (sc2 c true s ∗ sp2 c true s))
      ⊢ wpK (F := F) c (both fun b => waitD2 b false (sl s) (sl (s + 1)) (sl s))
        (fun _ => iprop(ow c 0 ∗ (sq2 c false s ∗ ∃ V, sow2 c false (sl s) V) ∗ (sq2 c true s ∗ ∃ V, sow2 c true (sl s) V))) := by
  have hw (b : Bool) :
      iprop((recs X W K ∗ ow c 0) ∗ (sc2 c b s ∗ sp2 c b s))
        ⊢ wpK (F := F) c (waitD2 b false (sl s) (sl (s + 1)) (sl s)) (fun _ => iprop((recs X W K ∗ ow c 0) ∗ (sq2 c b s ∗ ∃ V, sow2 c b (sl s) V))) := by
    unfold sc2 sp2 sq2
    iintro ⟨⟨#HR, HO⟩, Hc, Hp⟩
    iapply (wpK_step c (wp_waitD2 X W K c b false (sl s) (sl (s + 1)) (sl s) (s / 4) 0 0 (by rw [stp_send]; exact hs) (by omega) (Nat.le_refl _) (Above.zero 0))) $$ [HO Hc Hp]
    · isplitr; · iexact HR
      isplitl [Hc]; · iexact Hc
      isplitl [HO]; · iexact HO
      iexact Hp
    iintro %_ ⟨HO, Hp, -, Hs⟩
    ihave Hs := (Entails.of_eq (pay_send2 X W c b s (false, false))) $$ Hs
    isplitl [HO]
    · isplitr; · iexact HR
      iexact HO
    isplitl [Hp]; · iexact Hp
    iexists _; iexact Hs
  iintro ⟨#HR, HO, Hp⟩
  iapply (wpK_step c (wp_both' c (fun b => waitD2 b false (sl s) (sl (s + 1)) (sl s)) (P := fun b => iprop(sc2 c b s ∗ sp2 c b s))
    (Q := fun b => iprop(sq2 c b s ∗ ∃ V, sow2 c b (sl s) V)) (hw false) (hw true))) $$ [HO Hp]
  · isplitl [HO]
    · isplitr; · iexact HR
      iexact HO
    iexact Hp
  iintro %_ ⟨⟨-, HO⟩, Hp⟩
  isplitl [HO]; · iexact HO
  iexact Hp

/-- Both halves of the output. -/
theorem wp_out2 (m4 : Memref sig .tc .vmem S128x2048 .f32) (c : Dev nD) (sx sw : Elt F .f32) (V : FVec F S128x2048 .f32) :
    iprop(owns (c : Thread nD τ) m4 fullShare V ∗ (fin1 X W c false ∗ sow2 c false 3 (T X W false 2 (nbr true (!false) c)))
        ∗ (fin1 X W c true ∗ sow2 c true 3 (T X W true 2 (nbr true (!true) c))))
      ⊢ wpK (F := F) c (both fun b => fin2 m4 c sx sw b) (fun _ => iprop(owns (c : Thread nD τ) m4 fullShare (outV X W sx sw c)
          ∗ (fin1 X W c false ∗ sow2 c false 3 (T X W false 2 (nbr true (!false) c)))
          ∗ (fin1 X W c true ∗ sow2 c true 3 (T X W true 2 (nbr true (!true) c))))) := by
  rw [← setHalf_both X W sx sw c V]
  exact wp_both' c (fun b => fin2 m4 c sx sw b) (P := fun b => iprop(fin1 X W c b ∗ sow2 c b 3 (T X W b 2 (nbr true (!b) c))))
    (Q := fun b => iprop(fin1 X W c b ∗ sow2 c b 3 (T X W b 2 (nbr true (!b) c))))
    (wp_fin2 X W m4 c sx sw false V) (wp_fin2 X W m4 c sx sw true _)

/-- All that the second ring takes of one direction, and all that it leaves. -/
def before2 (c : Dev nD) (b : Bool) : sProp 𝕄 :=
  iprop(fin1 X W c b ∗ (∃ V, sow2 c b 0 V) ∗ (in2 c b 0 ∗ in2 c b 1 ∗ in2 c b 2) ∗ (sp2 c b 0 ∗ sp2 c b 1 ∗ sp2 c b 2))
def after2 (c : Dev nD) (b : Bool) : sProp 𝕄 :=
  iprop(fin1 X W c b ∗ ((∃ V, sow2 c b 0 V) ∗ (∃ V, sow2 c b 1 V) ∗ (∃ V, sow2 c b 2 V) ∗ (∃ V, sow2 c b 3 V))
    ∗ (rq2 c b 0 ∗ rq2 c b 1 ∗ rq2 c b 2) ∗ (sq2 c b 0 ∗ sq2 c b 1 ∗ sq2 c b 2))

theorem wp_phase2 (m2 m3 : Memref sig .tc .smem S1 .f32) (m4 : Memref sig .tc .vmem S128x2048 .f32) (c : Dev nD) (q2 q3 : PosShare TreeShare)
    (sx sw : Vec F S1 .f32) (V : FVec F S128x2048 .f32) :
    iprop(recs X W K ∗ ow c (stepOwe2 c 0 (stepOwe2 c 1 (stepOwe2 c 2 0))) ∗ before2 X W c false ∗ before2 X W c true
        ∗ owns (c : Thread nD τ) m2 q2 sx ∗ owns (c : Thread nD τ) m3 q3 sw ∗ owns (c : Thread nD τ) m4 fullShare V)
      ⊢ wpK (F := F) c (phase2 m2 m3 m4 c) (fun _ => iprop(ow c 0 ∗ after2 X W c false ∗ after2 X W c true
          ∗ owns (c : Thread nD τ) m2 q2 sx ∗ owns (c : Thread nD τ) m3 q3 sw ∗ owns (c : Thread nD τ) m4 fullShare (outV X W (sx z1) (sw z1) c))) := by
  have hs (b : Bool) (s n : ℕ) (h : s < 8) (hn : n < 1000 + s) : Above n (sendOwe true c b s) := above_send true c b s n h hn
  have a2 : Above 1001 (stepOwe2 c 2 0) := ((Above.zero _).add (hs true 2 _ (by omega) (by omega))).add (hs false 2 _ (by omega) (by omega))
  have a1 : Above 1000 (stepOwe2 c 1 (stepOwe2 c 2 0)) := ((a2.mono (by omega)).add (hs true 1 _ (by omega) (by omega))).add (hs false 1 _ (by omega) (by omega))
  unfold before2 after2 phase2
  iintro ⟨#HR, HO, ⟨HB, H0, ⟨I0, I1, I2⟩, ⟨P0, P1, P2⟩⟩, ⟨JB, J0, ⟨L0, L1, L2⟩, ⟨N0, N1, N2⟩⟩, Hx, Hw, HV⟩
  iapply (wpK_seq c (wp_init2 X W c)) $$ [HB H0 JB J0]
  · isplitl [HB H0]
    · isplitl [HB]; · iexact HB
      iexact H0
    isplitl [JB]; · iexact JB
    iexact J0
  iintro %_ ⟨⟨HB, H0⟩, ⟨JB, J0⟩⟩
  iapply (wpK_seq c (wp_comm2 X W K c 0 (by omega) a1)) $$ [HO H0 I0 J0 L0]
  · isplitr; · iexact HR
    isplitl [HO]; · iexact HO
    isplitl [H0 I0]
    · isplitl [H0]; · iexact H0
      iexact I0
    isplitl [J0]; · iexact J0
    iexact L0
  iintro %_ ⟨HO, ⟨H1, I0⟩, ⟨J1, L0⟩⟩
  iapply (wpK_seq c (wp_acc2 X W c 0)) $$ [HB H1 JB J1]
  · isplitl [HB H1]
    · isplitl [HB]; · iexact HB
      iexact H1
    isplitl [JB]; · iexact JB
    iexact J1
  iintro %_ ⟨⟨HB, H1⟩, ⟨JB, J1⟩⟩
  iapply (wpK_seq c (wp_comm2 X W K c 1 (by omega) a2)) $$ [HO H1 I1 J1 L1]
  · isplitr; · iexact HR
    isplitl [HO]; · iexact HO
    isplitl [H1 I1]
    · isplitl [H1]; · iexact H1
      iexact I1
    isplitl [J1]; · iexact J1
    iexact L1
  iintro %_ ⟨HO, ⟨H2, I1⟩, ⟨J2, L1⟩⟩
  iapply (wpK_seq c (wp_acc2 X W c 1)) $$ [HB H2 JB J2]
  · isplitl [HB H2]
    · isplitl [HB]; · iexact HB
      iexact H2
    isplitl [JB]; · iexact JB
    iexact J2
  iintro %_ ⟨⟨HB, H2⟩, ⟨JB, J2⟩⟩
  iapply (wpK_seq c (wp_comm2 X W K c 2 (by omega) (Above.zero _))) $$ [HO H2 I2 J2 L2]
  · isplitr; · iexact HR
    isplitl [HO]; · iexact HO
    isplitl [H2 I2]
    · isplitl [H2]; · iexact H2
      iexact I2
    isplitl [J2]; · iexact J2
    iexact L2
  iintro %_ ⟨HO, ⟨H3, I2⟩, ⟨J3, L2⟩⟩
  iapply (wpK_seq c (wp_ldScale m2 c q2 sx)) $$ Hx
  iintro %ax ⟨%hax, Hx⟩
  iapply (wpK_seq c (wp_ldScale m3 c q3 sw)) $$ Hw
  iintro %aw ⟨%haw, Hw⟩
  subst hax haw
  iapply (wpK_seq c (wp_out2 X W m4 c (sx z1) (sw z1) V)) $$ [HV HB H3 JB J3]
  · isplitl [HV]; · iexact HV
    isplitl [HB H3]
    · isplitl [HB]; · iexact HB
      iexact H3
    isplitl [JB]; · iexact JB
    iexact J3
  iintro %_ ⟨HV, ⟨HB, H3⟩, ⟨JB, J3⟩⟩
  unfold out2
  icases I0 with ⟨I0, R0⟩
  icases I1 with ⟨I1, R1⟩
  icases I2 with ⟨I2, R2⟩
  icases L0 with ⟨L0, S0⟩
  icases L1 with ⟨L1, S1⟩
  icases L2 with ⟨L2, S2⟩
  iapply (wpK_seq c (wp_sent2 X W K c 0 (by omega))) $$ [HO I0 P0 L0 N0]
  · isplitr; · iexact HR
    isplitl [HO]; · iexact HO
    isplitl [I0 P0]
    · isplitl [I0]; · iexact I0
      iexact P0
    isplitl [L0]; · iexact L0
    iexact N0
  iintro %_ ⟨HO, ⟨P0, H0⟩, ⟨N0, J0⟩⟩
  iapply (wpK_seq c (wp_sent2 X W K c 1 (by omega))) $$ [HO I1 P1 L1 N1]
  · isplitr; · iexact HR
    isplitl [HO]; · iexact HO
    isplitl [I1 P1]
    · isplitl [I1]; · iexact I1
      iexact P1
    isplitl [L1]; · iexact L1
    iexact N1
  iintro %_ ⟨HO, ⟨P1, H1⟩, ⟨N1, J1⟩⟩
  iapply (wpK_step c (wp_sent2 X W K c 2 (by omega))) $$ [HO I2 P2 L2 N2]
  · isplitr; · iexact HR
    isplitl [HO]; · iexact HO
    isplitl [I2 P2]
    · isplitl [I2]; · iexact I2
      iexact P2
    isplitl [L2]; · iexact L2
    iexact N2
  iintro %_ ⟨HO, ⟨P2, H2⟩, ⟨N2, J2⟩⟩
  isplitl [HO]; · iexact HO
  isplitl [HB H0 H1 H2 H3 R0 R1 R2 P0 P1 P2]
  · isplitl [HB]; · iexact HB
    isplitl [H0 H1 H2 H3]
    · isplitl [H0]; · iexact H0
      isplitl [H1]; · iexact H1
      isplitl [H2]; · iexact H2
      iexists _; iexact H3
    isplitl [R0 R1 R2]
    · isplitl [R0]; · iexact R0
      isplitl [R1]; · iexact R1
      iexact R2
    isplitl [P0]; · iexact P0
    isplitl [P1]; · iexact P1
    iexact P2
  isplitl [JB J0 J1 J2 J3 S0 S1 S2 N0 N1 N2]
  · isplitl [JB]; · iexact JB
    isplitl [J0 J1 J2 J3]
    · isplitl [J0]; · iexact J0
      isplitl [J1]; · iexact J1
      isplitl [J2]; · iexact J2
      iexists _; iexact J3
    isplitl [S0 S1 S2]
    · isplitl [S0]; · iexact S0
      isplitl [S1]; · iexact S1
      iexact S2
    isplitl [N0]; · iexact N0
    isplitl [N1]; · iexact N1
    iexact N2
  isplitl [Hx]; · iexact Hx
  isplitl [Hw]; · iexact Hw
  iexact HV

end

end Cert.KernelIdeal.K

end
-- ==== Proof.K.Body.lean ====
/- The whole body, on any device. -/
module

public import proofs.«01_k».proof.Proof.K.Phase2

@[expose] public section

set_option maxRecDepth 20000

noncomputable section

namespace Cert.KernelIdeal.K

open Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx

variable {F : FTy → Type} [FloatOps F]

local notation "𝕄" => MT nD τ sig ℕ (Elt F) ℕ UU ℕ

section
variable (X : Dev nD → Vec F S4096x128 .fp8e4m3) (W : Dev nD → FVec F S128x2048 .bf16) (K : Dev nD × CK → ℕ)

/-! ## What is owed over the whole run -/

/-- What the second ring owes, and what the last `n` steps of the first ring owe with it. -/
def owe2 (c : Dev nD) : CellTallies nD τ sig ℕ := stepOwe2 c 0 (stepOwe2 c 1 (stepOwe2 c 2 0))
def owe1 (c : Dev nD) : ℕ → CellTallies nD τ sig ℕ
  | 0 => owe2 c
  | n + 1 => stepOwe c (6 - n) (owe1 c n)
/-- All of it, with the four signals of the meeting. -/
def owe0 (c : Dev nD) : CellTallies nD τ sig ℕ :=
  owe1 c 7 + barOwe c (true, true) + barOwe c (true, false) + barOwe c (false, false) + barOwe c (false, true)

theorem above_owe2 (c : Dev nD) (n : ℕ) (h : n < 1000) : Above n (owe2 c) := by
  have hs (b : Bool) (s : ℕ) (hs : s < 8) : Above n (sendOwe true c b s) := above_send true c b s n hs (show n < 1000 + s by omega)
  exact (((((((Above.zero n).add (hs true 2 (by omega))).add (hs false 2 (by omega))).add (hs true 1 (by omega))).add (hs false 1 (by omega))).add
    (hs true 0 (by omega))).add (hs false 0 (by omega)))

theorem above_owe1 (c : Dev nD) : ∀ (n : ℕ), n ≤ 7 → Above (10 * (7 - n) + 5) (owe1 c n)
  | 0, _ => above_owe2 c _ (by omega)
  | n + 1, h => by
    show Above _ (stepOwe c (6 - n) (owe1 c n))
    have hs (b : Bool) : Above (10 * (7 - (n + 1)) + 5) (sendOwe false c b (6 - n)) :=
      above_send false c b _ _ (by omega) (show 10 * (7 - (n + 1)) + 5 < 10 * (6 - n) + 15 by omega)
    have hc (b : Bool) : Above (10 * (7 - (n + 1)) + 5) (crdOwe c b (6 - n)) := above_crd c b _ _ (by omega)
    exact (((((above_owe1 c n (by omega)).mono (by omega)).add (hc true)).add (hc false)).add (hs true)).add (hs false)

/-! ## The first ring as a whole -/

/-- The tokens of the last `n` steps. -/
def tokF (c : Dev nD) (b : Bool) : ℕ → sProp 𝕄
  | 0 => iprop(emp)
  | n + 1 => iprop(tok c b (6 - n) ∗ tokF c b n)

/-- What is held as step `s` begins. -/
def ringAt (m0 : Memref sig .tc .vmem S4096x128 .fp8e4m3) (c : Dev nD) (q : PosShare TreeShare) (s : ℕ) : sProp 𝕄 :=
  iprop((recs X W K ∗ ow c (owe1 c (7 - s))) ∗ owns (c : Thread nD τ) m0 q (X c) ∗ between X W c s ∗ (tokF c false (7 - s) ∗ tokF c true (7 - s)))

theorem wp_ring_step (m0 : Memref sig .tc .vmem S4096x128 .fp8e4m3) (c : Dev nD) (q : PosShare TreeShare) (s : Fin 7) (hs : s.val < 6) :
    ringAt X W K m0 c q s.val ⊢ wpK c (step1 m0 c (W c) s) (fun _ => ringAt X W K m0 c q (s.val + 1)) := by
  have h1 : 7 - s.val = (6 - s.val) + 1 := by omega
  have h2 : 7 - (s.val + 1) = 6 - s.val := by omega
  have h3 : 6 - (6 - s.val) = s.val := by omega
  have hO : Above (10 * s.val + 15) (owe1 c (6 - s.val)) := (above_owe1 c (6 - s.val) (by omega)).mono (by omega)
  have e1 : owe1 c (6 - s.val + 1) = stepOwe c (6 - (6 - s.val)) (owe1 c (6 - s.val)) := rfl
  have e2 (b : Bool) : tokF (F := F) c b (6 - s.val + 1) = iprop(tok c b (6 - (6 - s.val)) ∗ tokF c b (6 - s.val)) := rfl
  unfold ringAt
  rw [h1, h2, e1, e2, e2, h3]
  iintro ⟨⟨#HR, HO⟩, Hx, Hb, ⟨T1, T1'⟩, ⟨T2, T2'⟩⟩
  iapply (wpK_step c (wp_step X W K m0 c q s hs hO)) $$ [HO Hx Hb T1 T2]
  · isplitr; · iexact HR
    isplitl [HO]; · iexact HO
    isplitl [Hx]; · iexact Hx
    isplitl [Hb]; · iexact Hb
    isplitl [T1]; · iexact T1
    iexact T2
  iintro %_ ⟨HO, Hx, Hb⟩
  isplitl [HO]
  · isplitr; · iexact HR
    iexact HO
  isplitl [Hx]; · iexact Hx
  isplitl [Hb]; · iexact Hb
  isplitl [T1']; · iexact T1'
  iexact T2'

theorem wp_ring_step_at (m0 : Memref sig .tc .vmem S4096x128 .fp8e4m3) (c : Dev nD) (q : PosShare TreeShare) (s : Fin 7) (n n' : ℕ)
    (hn : s.val = n) (hn' : s.val + 1 = n') (hs : s.val < 6) :
    ringAt X W K m0 c q n ⊢ wpK c (step1 m0 c (W c) s) (fun _ => ringAt X W K m0 c q n') := by
  subst hn hn'
  exact wp_ring_step X W K m0 c q s hs

/-- What one direction keeps after the first ring. -/
def kept (c : Dev nD) (b : Bool) : sProp 𝕄 :=
  iprop((fr c b 4 ∗ fr c b 5 ∗ fr c b 6 ∗ fr c b 7) ∗ (sp c b 7 ∗ sp c b 8 ∗ sp c b 9 ∗ sp c b 10)
    ∗ (rp c b 7 ∗ rp c b 8 ∗ rp c b 9 ∗ rp c b 10) ∗ cp c b 7)

theorem wp_ring_last (m0 : Memref sig .tc .vmem S4096x128 .fp8e4m3) (c : Dev nD) (q : PosShare TreeShare) {A : Type} (k : BProg F A) (Q : A → sProp 𝕄) :
    iprop(ringAt X W K m0 c q 6 ∗ (∃ u, bow c false u) ∗ (∃ u, bow c true u))
      ⊢ iprop((ow c (owe2 c) ∗ owns (c : Thread nD τ) m0 q (X c) ∗ (kept c false ∗ fin1 X W c false) ∗ (kept c true ∗ fin1 X W c true) -∗ wpK c k Q)
          -∗ wpK c (step1 m0 c (W c) 6 >>= fun _ => freed c 7 >>= fun _ => k) Q) := by
  have hO : Above 75 (owe2 c) := above_owe2 c _ (by omega)
  have e (b : Bool) : crdOwe c b 7 = 0 := rfl
  have ef : ow (F := F) c (owe2 c) = ow c (owe2 c + crdOwe c true 7 + crdOwe c false 7) := by rw [e, e, add_zero, add_zero]
  have hc (b : Bool) : (iprop(emp) : sProp 𝕄) ⊢ ctk c b 7 := Entails.refl _
  have eo : owe1 c (7 - 6) = stepOwe c 6 (owe2 c) := rfl
  have et (b : Bool) : tokF (F := F) c b (7 - 6) = iprop(tok c b 6 ∗ emp) := rfl
  have h5 (b : Bool) : frI (F := F) c b 7 = fr c b 5 := rfl
  have h6 (b : Bool) : freeAt (F := F) c b 7 = iprop(sp c b 10 ∗ rs c b 10 ∗ fr c b 6) := rfl
  unfold ringAt
  rw [eo, et, et]
  iintro ⟨⟨⟨#HR, HO⟩, Hx, Hb, ⟨T1, -⟩, ⟨T2, -⟩⟩, ⟨%u, U1⟩, ⟨%u', U2⟩⟩ Hk
  iapply (wpK_seq c (wp_step_last X W K m0 c q hO (fun b => match b with | false => u | true => u'))) $$ [HO Hx Hb T1 T2 U1 U2]
  · isplitr; · iexact HR
    isplitl [HO]; · iexact HO
    isplitl [Hx]; · iexact Hx
    isplitl [Hb]; · iexact Hb
    isplitl [T1 T2]
    · isplitl [T1]; · iexact T1
      iexact T2
    isplitl [U1]; · iexact U1
    iexact U2
  unfold held
  iintro %_ ⟨HO, Hx, ⟨F7, ⟨-, Hpd, F5, ⟨P7, P8, P9⟩, -, HB, -, Hcp⟩, F4, HU⟩, ⟨G7, ⟨-, Jpd, G5, ⟨Q7, Q8, Q9⟩, -, JB, -, Jcp⟩, G4, JU⟩⟩
  ihave HO := (Entails.of_eq ef) $$ HO
  iapply (wpK_seq c (wp_freed X W K c 7 (by omega) (hO.mono (by omega)))) $$ [HO Hpd Jpd]
  · isplitr; · iexact HR
    isplitl [HO]; · iexact HO
    isplitl [Hpd]
    · isplitl [Hpd]; · iexact Hpd
      iapply (hc false); iempintro
    isplitl [Jpd]; · iexact Jpd
    iapply (hc true); iempintro
  iintro %_ ⟨HO, H10, J10⟩
  ihave H10 := (Entails.of_eq (h6 false)) $$ H10
  ihave J10 := (Entails.of_eq (h6 true)) $$ J10
  ihave F5 := (Entails.of_eq (h5 false)) $$ F5
  ihave G5 := (Entails.of_eq (h5 true)) $$ G5
  icases H10 with ⟨P10, -, F6⟩
  icases J10 with ⟨Q10, -, G6⟩
  iapply Hk
  isplitl [HO]; · iexact HO
  isplitl [Hx]; · iexact Hx
  unfold kept fin1
  isplitl [F4 F5 F6 F7 P7 P8 P9 P10 HB Hcp HU]
  · isplitr [HU]
    · isplitl [F4 F5 F6 F7]
      · isplitl [F4]; · iexact F4
        isplitl [F5]; · iexact F5
        isplitl [F6]; · iexact F6
        iexact F7
      isplitl [P7 P8 P9 P10]
      · isplitl [P7]; · iexact P7
        isplitl [P8]; · iexact P8
        isplitl [P9]; · iexact P9
        iexact P10
      isplitl [HB]; · iexact HB
      iexact Hcp
    iexact HU
  · isplitr [JU]
    · isplitl [G4 G5 G6 G7]
      · isplitl [G4]; · iexact G4
        isplitl [G5]; · iexact G5
        isplitl [G6]; · iexact G6
        iexact G7
      isplitl [Q7 Q8 Q9 Q10]
      · isplitl [Q7]; · iexact Q7
        isplitl [Q8]; · iexact Q8
        isplitl [Q9]; · iexact Q9
        iexact Q10
      isplitl [JB]; · iexact JB
      iexact Jcp
    iexact JU

/-! ## The body -/

/-- The buffers of one direction as the body begins. -/
def mem0 (c : Dev nD) (b : Bool) : sProp 𝕄 :=
  iprop((∃ V, sow c b 0 V) ∗ own3 c false b ∗ (∃ u, bow c b u) ∗ (∃ V, sow2 c b 0 V) ∗ own3 c true b)
/-- Its positions. -/
def pos0 (c : Dev nD) (b : Bool) : sProp 𝕄 :=
  iprop((sp c b 0 ∗ sp c b 1 ∗ sp c b 2 ∗ sp c b 3) ∗ (rp c b 0 ∗ rp c b 1 ∗ rp c b 2 ∗ rp c b 3) ∗ cp c b 0
    ∗ (sp2 c b 0 ∗ sp2 c b 1 ∗ sp2 c b 2) ∗ (rp2 c b 0 ∗ rp2 c b 1 ∗ rp2 c b 2))
/-- Its tokens and credits of the second ring. -/
def tok2 (c : Dev nD) (b : Bool) (s : ℕ) : sProp 𝕄 := iprop(stk2 c b s ∗ rcr2 c b s)
def toks (c : Dev nD) (b : Bool) : sProp 𝕄 := iprop(tokF c b 7 ∗ tok2 c b 0 ∗ tok2 c b 1 ∗ tok2 c b 2)

/-- What the first ring starts from. -/
theorem between_intro (c : Dev nD) (b : Bool) :
    iprop(recs X W K ∗ handed false b c ∗ (sp c b 0 ∗ sp c b 1 ∗ sp c b 2 ∗ sp c b 3) ∗ (rp c b 0 ∗ rp c b 1 ∗ rp c b 2 ∗ rp c b 3) ∗ cp c b 0)
      ⊢ held (F := F) c b 0 := by
  have hrs (s : ℕ) (h : s / 4 = 0) : recs X W K ⊢ rs c b s := by unfold rs; rw [h]; exact recs_reached X W K c _
  have hrr (s : ℕ) (h : s / 4 = 0) : recs X W K ⊢ rr c b s := by unfold rr; rw [h]; exact recs_reached X W K c _
  have ht : tgts (F := F) c b 0 = iprop(tgt c b 0 ∗ tgt c b 1 ∗ tgt c b 2) := rfl
  have hp : pend (F := F) c b 0 = iprop(sp c b 3 ∗ rs c b 3) := rfl
  have hf : (iprop(emp) : sProp 𝕄) ⊢ frI c b 0 := Entails.refl _
  have hh : handed (F := F) false b c = iprop(tgt c b 0 ∗ tgt c b 1 ∗ tgt c b 2) := rfl
  unfold held
  rw [ht, hp, hh]
  iintro ⟨#HR, Ht, ⟨P0, P1, P2, P3⟩, HB, Hcp⟩
  isplitl [Ht]; · iexact Ht
  isplitl [P3]
  · isplitl [P3]; · iexact P3
    iapply (hrs 3 rfl); iexact HR
  isplitr; · iapply hf; iempintro
  isplitl [P0 P1 P2]
  · isplitl [P0]; · iexact P0
    isplitl [P1]; · iexact P1
    iexact P2
  isplitr
  · isplitr; · iapply (hrs 0 rfl); iexact HR
    isplitr; · iapply (hrs 1 rfl); iexact HR
    iapply (hrs 2 rfl); iexact HR
  isplitl [HB]; · iexact HB
  isplitr
  · isplitr; · iapply (hrr 1 rfl); iexact HR
    isplitr; · iapply (hrr 2 rfl); iexact HR
    iapply (hrr 3 rfl); iexact HR
  iexact Hcp

/-- What the second ring starts from. -/
theorem before2_intro (c : Dev nD) (b : Bool) :
    iprop(handed true b c ∗ fin1 X W c b ∗ (∃ V, sow2 c b 0 V) ∗ (sp2 c b 0 ∗ sp2 c b 1 ∗ sp2 c b 2) ∗ (rp2 c b 0 ∗ rp2 c b 1 ∗ rp2 c b 2)
        ∗ tok2 c b 0 ∗ tok2 c b 1 ∗ tok2 c b 2)
      ⊢ before2 X W c b := by
  have hh : handed (F := F) true b c = iprop(tgt2 c b 0 ∗ tgt2 c b 1 ∗ tgt2 c b 2) := rfl
  have hi (s : ℕ) : iprop(tgt2 c b s ∗ rp2 c b s ∗ tok2 c b s) ⊢ in2 (F := F) c b s := by
    unfold in2 tok2
    iintro ⟨H1, H2, H3, H4⟩
    isplitl [H1]; · iexact H1
    isplitl [H3]; · iexact H3
    isplitl [H4]; · iexact H4
    iexact H2
  unfold before2
  rw [hh]
  iintro ⟨⟨A0, A1, A2⟩, HB, HV, HP, ⟨R0, R1, R2⟩, T0, T1, T2⟩
  isplitl [HB]; · iexact HB
  isplitl [HV]; · iexact HV
  isplitr [HP]
  · isplitl [A0 R0 T0]
    · iapply (hi 0)
      isplitl [A0]; · iexact A0
      isplitl [R0]; · iexact R0
      iexact T0
    isplitl [A1 R1 T1]
    · iapply (hi 1)
      isplitl [A1]; · iexact A1
      isplitl [R1]; · iexact R1
      iexact T1
    iapply (hi 2)
    isplitl [A2]; · iexact A2
    isplitl [R2]; · iexact R2
    iexact T2
  iexact HP

/-- A device reads its own number. -/
theorem wp_dev (c : Dev nD) (P : sProp 𝕄) : P ⊢ wpK (F := F) c (Prog.lift .deviceId) (fun d => iprop(⌜c = d⌝ ∗ P)) := by
  unfold wpK
  simp only [wp_deviceId, Prog.lift, wp_ret]
  iintro H
  imodintro
  isplitr
  · ipureintro; trivial
  · iexact H

theorem wp_body (m0 : Memref sig .tc .vmem S4096x128 .fp8e4m3) (m1 : Memref sig .tc .vmem S128x2048 .fp8e5m2)
    (m2 m3 : Memref sig .tc .smem S1 .f32) (m4 : Memref sig .tc .vmem S128x2048 .f32) (c : Dev nD) (q0 q1 q2 q3 : PosShare TreeShare)
    (v : Vec F S128x2048 .fp8e5m2) (hv : W c = wq v) (sx sw : Vec F S1 .f32) (V : FVec F S128x2048 .f32) :
    iprop(recs X W K ∗ ow c (owe0 c)
        ∗ ((barTok c false true ∗ barTok c false false ∗ barTok c true false ∗ barTok c true true)
          ∗ cred (tallyAt (cell c bark) 0 4) ∗ atPos ER (cell c bark) 0 ∅ 0)
        ∗ (mem0 c false ∗ pos0 c false ∗ toks c false) ∗ (mem0 c true ∗ pos0 c true ∗ toks c true)
        ∗ owns (c : Thread nD τ) m0 q0 (X c) ∗ owns (c : Thread nD τ) m1 q1 v
        ∗ owns (c : Thread nD τ) m2 q2 sx ∗ owns (c : Thread nD τ) m3 q3 sw ∗ owns (c : Thread nD τ) m4 fullShare V)
      ⊢ wpK (F := F) c (body m0 m1 m2 m3 m4) (fun _ => iprop(ow c 0 ∗ atPos ER (cell c bark) 1 ∅ 0
          ∗ (kept c false ∗ after2 X W c false) ∗ (kept c true ∗ after2 X W c true)
          ∗ owns (c : Thread nD τ) m0 q0 (X c) ∗ owns (c : Thread nD τ) m1 q1 v
          ∗ owns (c : Thread nD τ) m2 q2 sx ∗ owns (c : Thread nD τ) m3 q3 sw
          ∗ owns (c : Thread nD τ) m4 fullShare (outV X W (sx z1) (sw z1) c))) := by
  have h1 : Above 1 (owe1 c 7) := (above_owe1 c 7 (by omega)).mono (by omega)
  unfold mem0 pos0 toks
  iintro ⟨#HR, HO, ⟨HT, Hbc, Hbp⟩, ⟨⟨M0, M1, M2, M3, M4⟩, ⟨P1, P2, P3, P4, P5⟩, ⟨T1, T2⟩⟩, ⟨⟨N0, N1, N2, N3, N4⟩, ⟨Q1, Q2, Q3, Q4, Q5⟩, ⟨U1, U2⟩⟩, Hx, Hw, Hsx, Hsw, HV⟩
  unfold body owe0
  iapply (wpK_seq c (wp_dev c _)) $$ HO; iintro %d ⟨%hd, HO⟩
  subst hd
  iapply (wpK_seq c (wp_meet X W K c h1)) $$ [HO HT M1 N1 M4 N4 Hbc Hbp]
  · isplitr; · iexact HR
    isplitl [HO]; · iexact HO
    isplitl [HT]; · iexact HT
    isplitl [M1 N1 M4 N4]
    · isplitl [M1]; · iexact M1
      isplitl [N1]; · iexact N1
      isplitl [M4]; · iexact M4
      iexact N4
    isplitl [Hbc]; · iexact Hbc
    iexact Hbp
  iintro %_ ⟨HO, Hbp, HA, JA, HC, JC⟩
  iapply (wpK_seq c (wp_ldW m1 c q1 v)) $$ Hw; iintro %w ⟨%hw, Hw⟩
  obtain rfl : w = W c := hw.trans hv.symm
  iapply (wpK_seq c (wp_init1 X W m0 c q0)) $$ [Hx M0 N0]
  · isplitl [Hx]; · iexact Hx
    isplitl [M0]; · iexact M0
    iexact N0
  iintro %_ ⟨Hx, M0, N0⟩
  ihave HA := (between_intro X W K c false) $$ [HA P1 P2 P3]
  · isplitr; · iexact HR
    isplitl [HA]; · iexact HA
    isplitl [P1]; · iexact P1
    isplitl [P2]; · iexact P2
    iexact P3
  ihave JA := (between_intro X W K c true) $$ [JA Q1 Q2 Q3]
  · isplitr; · iexact HR
    isplitl [JA]; · iexact JA
    isplitl [Q1]; · iexact Q1
    isplitl [Q2]; · iexact Q2
    iexact Q3
  have hr : iprop((recs X W K ∗ ow c (owe1 c 7)) ∗ owns (c : Thread nD τ) m0 q0 (X c)
      ∗ ((sow c false 0 (pack (R X W false 0 c)) ∗ held c false 0) ∗ (sow c true 0 (pack (R X W true 0 c)) ∗ held c true 0)) ∗ (tokF c false 7 ∗ tokF c true 7))
      ⊢ ringAt X W K m0 c q0 0 := Entails.refl _
  ihave H := hr $$ [HO Hx M0 N0 HA JA T1 U1]
  · isplitl [HO]
    · isplitr; · iexact HR
      iexact HO
    isplitl [Hx]; · iexact Hx
    isplitl [M0 N0 HA JA]
    · isplitl [M0 HA]
      · isplitl [M0]; · iexact M0
        iexact HA
      isplitl [N0]; · iexact N0
      iexact JA
    isplitl [T1]; · iexact T1
    iexact U1
  iapply (wpK_seq c (wp_ring_step_at X W K m0 c q0 0 0 1 rfl rfl (by decide))) $$ H; iintro %_ H
  iapply (wpK_seq c (wp_ring_step_at X W K m0 c q0 1 1 2 rfl rfl (by decide))) $$ H; iintro %_ H
  iapply (wpK_seq c (wp_ring_step_at X W K m0 c q0 2 2 3 rfl rfl (by decide))) $$ H; iintro %_ H
  iapply (wpK_seq c (wp_ring_step_at X W K m0 c q0 3 3 4 rfl rfl (by decide))) $$ H; iintro %_ H
  iapply (wpK_seq c (wp_ring_step_at X W K m0 c q0 4 4 5 rfl rfl (by decide))) $$ H; iintro %_ H
  iapply (wpK_seq c (wp_ring_step_at X W K m0 c q0 5 5 6 rfl rfl (by decide))) $$ H; iintro %_ H
  iapply (wp_ring_last X W K m0 c q0 (phase2 m2 m3 m4 c) _) $$ [H M2 N2]
  · isplitl [H]; · iexact H
    isplitl [M2]; · iexact M2
    iexact N2
  iintro ⟨HO, Hx, ⟨HK, HF⟩, ⟨JK, JF⟩⟩
  ihave HF := (before2_intro X W c false) $$ [HC HF M3 P4 P5 T2]
  · isplitl [HC]; · iexact HC
    isplitl [HF]; · iexact HF
    isplitl [M3]; · iexact M3
    isplitl [P4]; · iexact P4
    isplitl [P5]; · iexact P5
    iexact T2
  ihave JF := (before2_intro X W c true) $$ [JC JF N3 Q4 Q5 U2]
  · isplitl [JC]; · iexact JC
    isplitl [JF]; · iexact JF
    isplitl [N3]; · iexact N3
    isplitl [Q4]; · iexact Q4
    isplitl [Q5]; · iexact Q5
    iexact U2
  unfold owe2
  iapply (wpK_step c (wp_phase2 X W K m2 m3 m4 c q2 q3 sx sw V)) $$ [HO HF JF Hsx Hsw HV]
  · isplitr; · iexact HR
    isplitl [HO]; · iexact HO
    isplitl [HF]; · iexact HF
    isplitl [JF]; · iexact JF
    isplitl [Hsx]; · iexact Hsx
    isplitl [Hsw]; · iexact Hsw
    iexact HV
  iintro %_ ⟨HO, HF, JF, Hsx, Hsw, HV⟩
  isplitl [HO]; · iexact HO
  isplitl [Hbp]; · iexact Hbp
  isplitl [HK HF]
  · isplitl [HK]; · iexact HK
    iexact HF
  isplitl [JK JF]
  · isplitl [JK]; · iexact JK
    iexact JF
  isplitl [Hx]; · iexact Hx
  isplitl [Hw]; · iexact Hw
  isplitl [Hsx]; · iexact Hsx
  isplitl [Hsw]; · iexact Hsw
  iexact HV

end

end Cert.KernelIdeal.K

end
-- ==== Proof.K.Slots.lean ====
/- The scratch buffers as their slots, and back. -/
module

public import proofs.«01_k».proof.Proof.K.Body

@[expose] public section

set_option maxRecDepth 20000

noncomputable section

namespace Cert.KernelIdeal.K

open Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx

variable {F : FTy → Type} [FloatOps F]

local notation "𝕄" => MT nD τ sig ℕ (Elt F) ℕ UU ℕ

theorem bigSep_four (Φ : Fin 4 → sProp 𝕄) : bigSep Finset.univ Φ = iprop(Φ (sl 0) ∗ Φ (sl 1) ∗ Φ (sl 2) ∗ Φ (sl 3)) :=
  bigSep_univ_eq_bigSepL [sl 0, sl 1, sl 2, sl 3] (by decide) (by decide) Φ
theorem bigSep_two (Φ : Bool → sProp 𝕄) : bigSep Finset.univ Φ = iprop(Φ false ∗ Φ true) :=
  bigSep_univ_eq_bigSepL [false, true] (by decide) (by decide) Φ

section
variable {sp : CoreSpace} {s s' : Shape} {e : EltTy} (c : Dev nD) (m : Memref sig .tc sp s e)

theorem cut_of_slice (rs : Rect s) (hs : ∀ a, rs.stride a = 1) (hq : rs.shape.Squeezes s') (Y : rs.shape.Idx → Elt F e) :
    (owns (c : Thread nD τ) (m.slice rs hs) fullShare Y : sProp 𝕄)
      ⊢ owns (c : Thread nD τ) (cut m rs hs hq) fullShare (fun i => Y (Shape.reshapeEquiv hq.numel_eq i)) := by
  have hset : (cut m rs hs hq).view.set = (m.slice rs hs).view.set := View.set_reshape _ _
  unfold owns
  rw [hset]
  iintro ⟨%f, %hf, H⟩
  subst hf
  iexists f
  isplitr
  · ipureintro; rfl
  · iexact H

theorem slice_of_cut (rs : Rect s) (hs : ∀ a, rs.stride a = 1) (hq : rs.shape.Squeezes s') (V : s'.Idx → Elt F e) :
    (owns (c : Thread nD τ) (cut m rs hs hq) fullShare V : sProp 𝕄)
      ⊢ owns (c : Thread nD τ) (m.slice rs hs) fullShare (fun j => V ((Shape.reshapeEquiv hq.numel_eq).symm j)) := by
  have hset : (cut m rs hs hq).view.set = (m.slice rs hs).view.set := View.set_reshape _ _
  unfold owns
  rw [hset]
  iintro ⟨%f, %hf, H⟩
  subst hf
  iexists f
  isplitr
  · ipureintro
    funext j
    show m.view.read (Elt F) f (rs.emb j) = m.view.read (Elt F) f (rs.emb (Shape.reshapeEquiv hq.numel_eq ((Shape.reshapeEquiv hq.numel_eq).symm j)))
    rw [Equiv.apply_symm_apply]
  · iexact H

variable (r : Fin 4 → Rect s) (hr : ∀ t a, (r t).stride a = 1)
  (hd : ∀ t t', t ≠ t' → Disjoint (r t).set (r t').set)
  (hcov : (Finset.univ : Finset (Fin 4)).biUnion (fun t => (r t).set) = Finset.univ)
  (hq : ∀ t, (r t).shape.Squeezes s')
include hd hcov

theorem cuts_of_whole :
    (iprop(∃ V, owns (c : Thread nD τ) m fullShare V) : sProp 𝕄)
      ⊢ bigSep Finset.univ fun t : Fin 4 => iprop(∃ V, owns (c : Thread nD τ) (cut m (r t) (hr t) (hq t)) fullShare V) := by
  iintro ⟨%V, H⟩
  ihave H := (owns_rects (c : Thread nD τ) m fullShare r hr hd hcov V) $$ H
  have h1 (t : Fin 4) : (owns (c : Thread nD τ) (m.slice (r t) (hr t)) fullShare (fun j => V ((r t).emb j)) : sProp 𝕄)
      ⊢ iprop(∃ V, owns (c : Thread nD τ) (cut m (r t) (hr t) (hq t)) fullShare V) := by
    iintro H
    iexists _
    iapply (cut_of_slice c m (r t) (hr t) (hq t)); iexact H
  have h : (bigSep Finset.univ fun t : Fin 4 => (owns (c : Thread nD τ) (m.slice (r t) (hr t)) fullShare (fun j => V ((r t).emb j)) : sProp 𝕄))
      ⊢ bigSep Finset.univ fun t : Fin 4 => iprop(∃ V, owns (c : Thread nD τ) (cut m (r t) (hr t) (hq t)) fullShare V) :=
    bigSep_mono fun t _ => h1 t
  iapply h; iexact H

theorem whole_of_cuts :
    (bigSep Finset.univ fun t : Fin 4 => iprop(∃ V, owns (c : Thread nD τ) (cut m (r t) (hr t) (hq t)) fullShare V) : sProp 𝕄)
      ⊢ iprop(∃ V, owns (c : Thread nD τ) m fullShare V) := by
  classical
  iintro H
  ihave H := (BI.bigSep_exists_pi Finset.univ (fun (t : Fin 4) (V : s'.Idx → Elt F e) =>
    (owns (c : Thread nD τ) (cut m (r t) (hr t) (hq t)) fullShare V : sProp 𝕄))) $$ H
  icases H with ⟨%V, H⟩
  -- the contents of the whole, cut by cut
  obtain ⟨Y, hY⟩ : ∃ Y : s.Idx → Elt F e, ∀ t j, Y ((r t).emb j) = V t ((Shape.reshapeEquiv (hq t).numel_eq).symm j) := by
    refine ⟨fun i => if h : ∃ t, ∃ j, (r t).emb j = i then V h.choose ((Shape.reshapeEquiv (hq h.choose).numel_eq).symm h.choose_spec.choose)
      else (inferInstance : Nonempty (Elt F e)).some, fun t j => ?_⟩
    have h : ∃ t', ∃ j', (r t').emb j' = (r t).emb j := ⟨t, j, rfl⟩
    dsimp only
    rw [dif_pos h]
    have hm (t' : Fin 4) (j' : (r t').shape.Idx) : (r t').emb j' ∈ (r t').set := by
      rw [← Rect.map_emb_univ]; exact Finset.mem_map.mpr ⟨j', Finset.mem_univ _, rfl⟩
    have key : ∀ (t' : Fin 4) (j' : (r t').shape.Idx), (r t').emb j' = (r t).emb j →
        V t' ((Shape.reshapeEquiv (hq t').numel_eq).symm j') = V t ((Shape.reshapeEquiv (hq t).numel_eq).symm j) := by
      intro t' j' hj
      by_cases htt : t' = t
      · subst htt
        rw [(r t').emb.injective hj]
      · refine absurd ?_ (Finset.disjoint_left.mp (hd t' t htt) (hm t' j'))
        rw [hj]; exact hm t j
    exact key _ _ h.choose_spec.choose_spec
  iexists Y
  iapply (owns_of_rects (c : Thread nD τ) m fullShare r hr hd hcov Y)
  have h : (bigSep Finset.univ fun t : Fin 4 => (owns (c : Thread nD τ) (cut m (r t) (hr t) (hq t)) fullShare (V t) : sProp 𝕄))
      ⊢ bigSep Finset.univ fun t : Fin 4 => owns (c : Thread nD τ) (m.slice (r t) (hr t)) fullShare (fun j => Y ((r t).emb j)) :=
    bigSep_mono fun t _ => by
      rw [show (fun j => Y ((r t).emb j)) = fun j => V t ((Shape.reshapeEquiv (hq t).numel_eq).symm j) from funext (hY t)]
      exact slice_of_cut c m (r t) (hr t) (hq t) (V t)
  iapply h; iexact H

end

/-! ## The two kinds of buffer -/

theorem mem_rSlot (a : Fin 4) (i : S4x4x128x1024.Idx) : i ∈ (rSlot a).set ↔ i 0 = a := by
  rw [Rect.mem_set_unit]
  constructor
  · intro h
    have := h 0
    exact Fin.ext (by have h1 := this.1; have h2 := this.2; change a.val ≤ (i 0).val at h1; change (i 0).val < a.val + 1 at h2; omega)
  · rintro rfl d
    match d with
    | ⟨0, _⟩ => exact ⟨Nat.le_refl _, Nat.lt_succ_self _⟩
    | ⟨1, h⟩ => exact ⟨Nat.zero_le _, by show (i 1).val < 0 + 4; have := (i 1).isLt; change (i 1).val < 4 at this; omega⟩
    | ⟨2, h⟩ => exact ⟨Nat.zero_le _, by show (i 2).val < 0 + 128; have := (i 2).isLt; change (i 2).val < 128 at this; omega⟩
    | ⟨3, h⟩ => exact ⟨Nat.zero_le _, by show (i 3).val < 0 + 1024; have := (i 3).isLt; change (i 3).val < 1024 at this; omega⟩
theorem mem_rRow (a : Fin 4) (i : S4x128x1024.Idx) : i ∈ (rRow a).set ↔ i 0 = a := by
  rw [Rect.mem_set_unit]
  constructor
  · intro h
    have := h 0
    exact Fin.ext (by have h1 := this.1; have h2 := this.2; change a.val ≤ (i 0).val at h1; change (i 0).val < a.val + 1 at h2; omega)
  · rintro rfl d
    match d with
    | ⟨0, _⟩ => exact ⟨Nat.le_refl _, Nat.lt_succ_self _⟩
    | ⟨1, h⟩ => exact ⟨Nat.zero_le _, by show (i 1).val < 0 + 128; have := (i 1).isLt; change (i 1).val < 128 at this; omega⟩
    | ⟨2, h⟩ => exact ⟨Nat.zero_le _, by show (i 2).val < 0 + 1024; have := (i 2).isLt; change (i 2).val < 1024 at this; omega⟩

theorem slot_disj (t t' : Fin 4) (h : t ≠ t') : Disjoint (rSlot t).set (rSlot t').set :=
  Finset.disjoint_left.mpr fun i hi hi' => h (((mem_rSlot t i).mp hi).symm.trans ((mem_rSlot t' i).mp hi'))
theorem row_disj (t t' : Fin 4) (h : t ≠ t') : Disjoint (rRow t).set (rRow t').set :=
  Finset.disjoint_left.mpr fun i hi hi' => h (((mem_rRow t i).mp hi).symm.trans ((mem_rRow t' i).mp hi'))
theorem slot_cov : (Finset.univ : Finset (Fin 4)).biUnion (fun t => (rSlot t).set) = Finset.univ :=
  Finset.eq_univ_iff_forall.mpr fun i => Finset.mem_biUnion.mpr ⟨i 0, Finset.mem_univ _, (mem_rSlot (i 0) i).mpr rfl⟩
theorem row_cov : (Finset.univ : Finset (Fin 4)).biUnion (fun t => (rRow t).set) = Finset.univ :=
  Finset.eq_univ_iff_forall.mpr fun i => Finset.mem_biUnion.mpr ⟨i 0, Finset.mem_univ _, (mem_rRow (i 0) i).mpr rfl⟩

/-- The four slots of one buffer, each at some contents. -/
def slots1 (c : Dev nD) (b : Bool) : sProp 𝕄 :=
  iprop((∃ V, sow c b (sl 0) V) ∗ (∃ V, sow c b (sl 1) V) ∗ (∃ V, sow c b (sl 2) V) ∗ (∃ V, sow c b (sl 3) V))
def slots2 (c : Dev nD) (b : Bool) : sProp 𝕄 :=
  iprop((∃ V, sow2 c b (sl 0) V) ∗ (∃ V, sow2 c b (sl 1) V) ∗ (∃ V, sow2 c b (sl 2) V) ∗ (∃ V, sow2 c b (sl 3) V))

theorem slots1_of (c : Dev nD) (b : Bool) : (iprop(∃ V, owns (c : Thread nD τ) (comm b) fullShare V) : sProp 𝕄) ⊢ slots1 c b :=
  (cuts_of_whole c (comm b) rSlot (fun _ _ => rfl) slot_disj slot_cov (fun _ => squeezes_S1x4x128x1024_S4x128x1024)).trans
    (Entails.of_eq (bigSep_four _))
theorem slots1_to (c : Dev nD) (b : Bool) : slots1 c b ⊢ (iprop(∃ V, owns (c : Thread nD τ) (comm b) fullShare V) : sProp 𝕄) :=
  (Entails.of_eq (bigSep_four (fun t => iprop(∃ V, sow (F := F) c b t V))).symm).trans
    (whole_of_cuts c (comm b) rSlot (fun _ _ => rfl) slot_disj slot_cov (fun _ => squeezes_S1x4x128x1024_S4x128x1024))
theorem slots2_of (c : Dev nD) (b : Bool) : (iprop(∃ V, owns (c : Thread nD τ) (comm2 b) fullShare V) : sProp 𝕄) ⊢ slots2 c b :=
  (cuts_of_whole c (comm2 b) rRow (fun _ _ => rfl) row_disj row_cov (fun _ => squeezes_S1x128x1024_S128x1024)).trans
    (Entails.of_eq (bigSep_four _))
theorem slots2_to (c : Dev nD) (b : Bool) : slots2 c b ⊢ (iprop(∃ V, owns (c : Thread nD τ) (comm2 b) fullShare V) : sProp 𝕄) :=
  (Entails.of_eq (bigSep_four (fun t => iprop(∃ V, sow2 (F := F) c b t V))).symm).trans
    (whole_of_cuts c (comm2 b) rRow (fun _ _ => rfl) row_disj row_cov (fun _ => squeezes_S1x128x1024_S128x1024))

theorem owns_of_buf (c : Dev nD) (b : Ref sig .tc) :
    (iprop(∃ f : Buf (Elt F) ((c : Thread nD τ).loc b), ((c : Thread nD τ).loc b) ↦{fullShare} f) : sProp 𝕄)
      ⊢ iprop(∃ V, owns (c : Thread nD τ) (Memref.whole b) fullShare V) := by
  iintro ⟨%f, H⟩
  iexists f
  rw [owns_whole_eq]
  iexists f
  isplitr
  · ipureintro; rfl
  · iexact H
theorem buf_of_owns (c : Dev nD) (b : Ref sig .tc) :
    (iprop(∃ V, owns (c : Thread nD τ) (Memref.whole b) fullShare V) : sProp 𝕄)
      ⊢ iprop(∃ f : Buf (Elt F) ((c : Thread nD τ).loc b), ((c : Thread nD τ).loc b) ↦{fullShare} f) := by
  iintro ⟨%V, H⟩
  ihave H := (Entails.of_eq (owns_whole_eq (c : Thread nD τ) b fullShare V)) $$ H
  icases H with ⟨%f, -, H⟩
  iexists f; iexact H

/-- A direction's scratch memory. -/
def scr (c : Dev nD) (b : Bool) : sProp 𝕄 := iprop(slots1 c b ∗ (∃ u, bow c b u) ∗ slots2 c b)

theorem bow_of (c : Dev nD) (b : Bool) : (iprop(∃ V, owns (c : Thread nD τ) (bun b) fullShare V) : sProp 𝕄) ⊢ iprop(∃ u, bow c b u) := by
  iintro ⟨%V, H⟩
  obtain ⟨w, rfl⟩ := exists_pack V
  iexists w; unfold bow; iexact H
theorem bow_to (c : Dev nD) (b : Bool) : (iprop(∃ u, bow c b u) : sProp 𝕄) ⊢ iprop(∃ V, owns (c : Thread nD τ) (bun b) fullShare V) := by
  iintro ⟨%w, H⟩
  iexists (pack w); unfold bow; iexact H

theorem scr_of_rest (c : Dev nD) : (Pipeline.scopedRest cfg0.spec c : sProp 𝕄) ⊢ iprop(scr c false ∗ scr c true) := by
  rw [scopedRest0_eq]
  unfold scr
  iintro ⟨H0, H1, H2, H3, H4, H5⟩
  isplitl [H0 H2 H4]
  · isplitl [H0]; · iapply (slots1_of c false); iapply (owns_of_buf c cc0_scratch0); iexact H0
    isplitl [H2]; · iapply (bow_of c false); iapply (owns_of_buf c cc0_scratch2); iexact H2
    iapply (slots2_of c false); iapply (owns_of_buf c cc0_scratch4); iexact H4
  · isplitl [H1]; · iapply (slots1_of c true); iapply (owns_of_buf c cc0_scratch1); iexact H1
    isplitl [H3]; · iapply (bow_of c true); iapply (owns_of_buf c cc0_scratch3); iexact H3
    iapply (slots2_of c true); iapply (owns_of_buf c cc0_scratch5); iexact H5

theorem rest_of_scr (c : Dev nD) : iprop(scr c false ∗ scr c true) ⊢ (Pipeline.scopedRest cfg0.spec c : sProp 𝕄) := by
  rw [scopedRest0_eq]
  unfold scr
  iintro ⟨⟨H0, H2, H4⟩, H1, H3, H5⟩
  isplitl [H0]; · iapply (buf_of_owns c cc0_scratch0); iapply (slots1_to c false); iexact H0
  isplitl [H1]; · iapply (buf_of_owns c cc0_scratch1); iapply (slots1_to c true); iexact H1
  isplitl [H2]; · iapply (buf_of_owns c cc0_scratch2); iapply (bow_to c false); iexact H2
  isplitl [H3]; · iapply (buf_of_owns c cc0_scratch3); iapply (bow_to c true); iexact H3
  isplitl [H4]; · iapply (buf_of_owns c cc0_scratch4); iapply (slots2_to c false); iexact H4
  iapply (buf_of_owns c cc0_scratch5); iapply (slots2_to c true); iexact H5

theorem mem0_of_scr (c : Dev nD) (b : Bool) : scr c b ⊢ mem0 (F := F) c b := by
  unfold scr slots1 slots2 mem0 own3
  iintro ⟨⟨A0, A1, A2, A3⟩, HB, C0, C1, C2, C3⟩
  isplitl [A0]; · iexact A0
  isplitl [A1 A2 A3]
  · isplitl [A1]; · iexact A1
    isplitl [A2] <;> iassumption
  isplitl [HB]; · iexact HB
  isplitl [C0]; · iexact C0
  isplitl [C1]; · iexact C1
  isplitl [C2] <;> iassumption

section
variable (X : Dev nD → Vec F S4096x128 .fp8e4m3) (W : Dev nD → FVec F S128x2048 .bf16)

/-- The positions a direction ends at. -/
def posN (c : Dev nD) (b : Bool) : sProp 𝕄 :=
  iprop((sp c b 7 ∗ sp c b 8 ∗ sp c b 9 ∗ sp c b 10) ∗ (rp c b 7 ∗ rp c b 8 ∗ rp c b 9 ∗ rp c b 10) ∗ cp c b 7
    ∗ (rq2 c b 0 ∗ rq2 c b 1 ∗ rq2 c b 2) ∗ (sq2 c b 0 ∗ sq2 c b 1 ∗ sq2 c b 2))

theorem scr_of_end (c : Dev nD) (b : Bool) : iprop(kept c b ∗ after2 X W c b) ⊢ iprop(scr (F := F) c b ∗ posN c b) := by
  unfold kept after2 fin1 scr slots1 slots2 posN fr
  iintro ⟨⟨⟨A0, A1, A2, A3⟩, HS, HR, HC⟩, HB, ⟨C0, C1, C2, C3⟩, HR2, HS2⟩
  isplitl [A0 A1 A2 A3 HB C0 C1 C2 C3]
  · isplitl [A0 A1 A2 A3]
    · isplitl [A0]; · iexact A0
      isplitl [A1]; · iexact A1
      isplitl [A2]; · iexact A2
      iexact A3
    isplitl [HB]; · iexists _; iexact HB
    isplitl [C0]; · iexact C0
    isplitl [C1]; · iexact C1
    isplitl [C2]; · iexact C2
    iexact C3
  isplitl [HS]; · iexact HS
  isplitl [HR]; · iexact HR
  isplitl [HC]; · iexact HC
  isplitl [HR2] <;> iassumption

end

end Cert.KernelIdeal.K

end
-- ==== Proof.K.Deal.lean ====
/- Which tokens and credits each device starts with. -/
module

public import proofs.«01_k».proof.Proof.K.Slots

@[expose] public section

set_option maxRecDepth 20000

noncomputable section

namespace Cert.KernelIdeal.K

open Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx

variable {F : FTy → Type} [FloatOps F]

local notation "𝕄" => MT nD τ sig ℕ (Elt F) ℕ UU ℕ

/-! ## The tokens -/

/-- The duties a device pays, in one direction: its four credits, and the two ends of its transfers. -/
abbrev TB : Type := Fin 4 ⊕ (Fin 7 × Bool) ⊕ (Fin 3 × Bool)
/-- With the four signals of the meeting. -/
abbrev TK : Type := (Bool × Bool) ⊕ (Bool × TB)

instance decTB : DecidableEq TB := fun a b => @instDecidableEqSum _ _ _ (@instDecidableEqSum _ _ _ _) a b
instance decTK : DecidableEq TK := @instDecidableEqSum _ _ _ (@instDecidableEqProd _ _ _ decTB)

/-- The device whose cell the duty of `c` is at. -/
def who : TK → Dev nD ≃ Dev nD
  | .inl (p, b) => nbrE p b
  | .inr (b, .inl _) => nbrE false (!b)
  | .inr (b, .inr (.inl (_, e))) => if e then nbrE false b else Equiv.refl _
  | .inr (b, .inr (.inr (_, e))) => if e then nbrE true b else Equiv.refl _
/-- The cell, the round and the name of the duty. -/
def tkey : TK → CK × ℕ × Du
  | .inl (p, b) => (bark, 0, (p, !b))
  | .inr (b, .inl j) => (crdk b, 0, crdD j.val)
  | .inr (b, .inr (.inl (s, e))) => (dmak false b e (sl (s.val + e.toNat)), s.val / 4, (false, false))
  | .inr (b, .inr (.inr (s, e))) => (dmak true b e (sl (s.val + e.toNat)), s.val / 4, (false, false))

theorem tkey_inj : Function.Injective tkey := by decide +kernel

/-- The token of a duty at device `c`'s own cell. -/
def tokAt (c : Dev nD) (t : TK) : sProp 𝕄 := dutyTok ER (cell c (tkey t).1) (tkey t).2.1 (tkey t).2.2

def tokOf (i : Dev nD × TK) : GSem nD τ sig × ℕ × Du := (cell i.1 (tkey i.2).1, (tkey i.2).2.1, (tkey i.2).2.2)
theorem tokOf_inj : Function.Injective tokOf := by
  rintro ⟨c, t⟩ ⟨c', t'⟩ h
  have h1 := cell_inj (congrArg Prod.fst h)
  have h2 : tkey t = tkey t' := Prod.ext h1.2 (congrArg (fun x : GSem nD τ sig × ℕ × Du => x.2) h)
  exact Prod.ext h1.1 (tkey_inj h2)
def ringToks : Finset (GSem nD τ sig × ℕ × Du) := Finset.univ.map ⟨tokOf, tokOf_inj⟩

theorem cellOf_pair_inj : Function.Injective fun i : Dev nD × CK => cell i.1 i.2 := by
  rintro ⟨c, k⟩ ⟨c', k'⟩ h
  have h1 := cell_inj h
  exact Prod.ext h1.1 h1.2
def ringCells : Finset (GSem nD τ sig) := Finset.univ.map ⟨fun i : Dev nD × CK => cell i.1 i.2, cellOf_pair_inj⟩

theorem bigSep_ringToks : (bigSep ringToks fun x => (dutyTok ER x.1 x.2.1 x.2.2 : sProp 𝕄))
    = bigSep Finset.univ fun c : Dev nD => bigSep Finset.univ fun t : TK => tokAt c t := by
  unfold ringToks; rw [bigSep_map, bigSep_univ_prod]; rfl

theorem bigSep_swap {A B : Type} [Fintype A] [Fintype B] (Φ : A → B → sProp 𝕄) :
    (bigSep Finset.univ fun a => bigSep Finset.univ fun b => Φ a b) = bigSep Finset.univ fun b => bigSep Finset.univ fun a => Φ a b := by
  rw [← bigSep_univ_prod fun x : A × B => Φ x.1 x.2, ← bigSep_univ_prod fun x : B × A => Φ x.2 x.1,
    bigSep_univ_equiv (Equiv.prodComm B A) fun x : A × B => Φ x.1 x.2]
  rfl

/-- Every token goes to the device that pays the duty. -/
theorem toks_dealt : (bigSep Finset.univ fun c : Dev nD => bigSep Finset.univ fun t : TK => (tokAt c t : sProp 𝕄))
    = bigSep Finset.univ fun c : Dev nD => bigSep Finset.univ fun t : TK => tokAt (who t c) t := by
  rw [bigSep_swap, bigSep_swap fun (c : Dev nD) (t : TK) => (tokAt (who t c) t : sProp 𝕄)]
  exact bigSep_congr fun t _ => bigSep_univ_equiv (who t) fun c => (tokAt c t : sProp 𝕄)

/-- What one direction pays with. -/
def dtok (c : Dev nD) (b : Bool) : sProp 𝕄 :=
  iprop((ctk c b 1 ∗ ctk c b 2 ∗ ctk c b 3 ∗ ctk c b 4)
    ∗ (stk c b 0 ∗ stk c b 1 ∗ stk c b 2 ∗ stk c b 3 ∗ stk c b 4 ∗ stk c b 5 ∗ stk c b 6) ∗ (stk2 c b 0 ∗ stk2 c b 1 ∗ stk2 c b 2))
def btok (c : Dev nD) : sProp 𝕄 := iprop((barTok c false false ∗ barTok c false true) ∗ barTok c true false ∗ barTok c true true)

theorem bigSep_seven (Φ : Fin 7 → sProp 𝕄) : bigSep Finset.univ Φ = iprop(Φ 0 ∗ Φ 1 ∗ Φ 2 ∗ Φ 3 ∗ Φ 4 ∗ Φ 5 ∗ Φ 6) :=
  bigSep_univ_eq_bigSepL [0, 1, 2, 3, 4, 5, 6] (by decide) (by decide) Φ
theorem bigSep_three (Φ : Fin 3 → sProp 𝕄) : bigSep Finset.univ Φ = iprop(Φ 0 ∗ Φ 1 ∗ Φ 2) :=
  bigSep_univ_eq_bigSepL [0, 1, 2] (by decide) (by decide) Φ

theorem dtok_of (c : Dev nD) (b : Bool) :
    (bigSep Finset.univ fun t : TB => (tokAt (who (.inr (b, t)) c) (.inr (b, t)) : sProp 𝕄)) ⊢ dtok c b := by
  have h1 : ∀ j : Fin 4, (tokAt (who (.inr (b, .inl j)) c) (.inr (b, .inl j)) : sProp 𝕄) = ctk c b (j.val + 1) := fun j => by
    have := j.isLt
    unfold ctk; rw [if_pos (by omega)]; rfl
  have h2 : ∀ s : Fin 7, (bigSep Finset.univ fun e : Bool => (tokAt (who (.inr (b, .inr (.inl (s, e)))) c) (.inr (b, .inr (.inl (s, e)))) : sProp 𝕄))
      = stk c b s.val := fun s => by rw [bigSep_two]; rfl
  have h3 : ∀ s : Fin 3, (bigSep Finset.univ fun e : Bool => (tokAt (who (.inr (b, .inr (.inr (s, e)))) c) (.inr (b, .inr (.inr (s, e)))) : sProp 𝕄))
      = stk2 c b s.val := fun s => by rw [bigSep_two]; rfl
  rw [bigSep_univ_sum, bigSep_univ_sum, bigSep_univ_prod, bigSep_univ_prod, bigSep_congr fun j _ => h1 j, bigSep_congr fun s _ => h2 s,
    bigSep_congr fun s _ => h3 s, bigSep_four, bigSep_seven, bigSep_three]
  exact Entails.refl _

theorem toks_of (c : Dev nD) :
    (bigSep Finset.univ fun t : TK => (tokAt (who t c) t : sProp 𝕄)) ⊢ iprop(btok c ∗ dtok c false ∗ dtok c true) := by
  rw [bigSep_univ_sum, bigSep_univ_prod, bigSep_univ_prod, bigSep_two, bigSep_two, bigSep_two, bigSep_two]
  exact BI.sep_mono (Entails.refl _) (BI.sep_mono (dtok_of c false) (dtok_of c true))

/-! ## The credits -/

/-- What a device owes in one direction: its four credits, and its transfers' arrivals. -/
abbrev OB : Type := Fin 4 ⊕ Fin 7 ⊕ Fin 3
abbrev OT : Type := (Bool × Bool) ⊕ (Bool × OB)

/-- The phase and the direction of the neighbour it is owed to. -/
def odir : OT → Bool × Bool
  | .inl (p, b) => (p, b)
  | .inr (b, .inl _) => (false, !b)
  | .inr (b, .inr (.inl _)) => (false, b)
  | .inr (b, .inr (.inr _)) => (true, b)
/-- The cell, the step, and how much. -/
def okey : OT → CK × ℕ × ℕ
  | .inl _ => (bark, 0, 1)
  | .inr (b, .inl j) => (crdk b, j.val, 1)
  | .inr (b, .inr (.inl s)) => (dmak false b true (sl (s.val + 1)), s.val, amt (dmak false b true (sl (s.val + 1))))
  | .inr (b, .inr (.inr s)) => (dmak true b true (sl (s.val + 1)), s.val, amt (dmak true b true (sl (s.val + 1))))

def oweAt (t : OT) (d : Dev nD) : CellTallies nD τ sig ℕ := tallyAt (cell d (okey t).1) (okey t).2.1 (okey t).2.2
def oweTo (t : OT) (c : Dev nD) : CellTallies nD τ sig ℕ := oweAt t (nbr (odir t).1 (odir t).2 c)

theorem crdOwe_zero (c : Dev nD) (b : Bool) (s : ℕ) (h : ¬ (1 ≤ s ∧ s ≤ 4)) : crdOwe c b s = 0 := if_neg h
theorem crdOwe_of (c : Dev nD) (b : Bool) (j : Fin 4) : oweTo (.inr (b, .inl j)) c = crdOwe c b (j.val + 1) := by
  have := j.isLt
  unfold crdOwe; rw [if_pos (by omega)]; rfl

theorem owe1_eq (c : Dev nD) : owe1 c 7 = stepOwe c 0 (stepOwe c 1 (stepOwe c 2 (stepOwe c 3 (stepOwe c 4 (stepOwe c 5 (stepOwe c 6 (owe2 c))))))) := rfl

theorem owe0_sum (c : Dev nD) : owe0 c = ∑ t : OT, oweTo t c := by
  have h1 : ∀ (b : Bool) (s : Fin 7), oweTo (.inr (b, .inr (.inl s))) c = sendOwe false c b s.val := fun _ _ => rfl
  have h2 : ∀ (b : Bool) (s : Fin 3), oweTo (.inr (b, .inr (.inr s))) c = sendOwe true c b s.val := fun _ _ => rfl
  have h3 : ∀ (p b : Bool), oweTo (.inl (p, b)) c = barOwe c (p, b) := fun _ _ => rfl
  simp only [Fintype.sum_sum_type, Fintype.sum_prod_type, Fintype.sum_bool, h1, h2, h3, crdOwe_of, Fin.sum_univ_four, Fin.sum_univ_seven, Fin.sum_univ_three]
  unfold owe0
  rw [owe1_eq]
  unfold owe2 stepOwe2 stepOwe
  simp only [crdOwe_zero c _ 0 (by omega), crdOwe_zero c _ 5 (by omega), crdOwe_zero c _ 6 (by omega)]
  generalize sendOwe false c = A
  generalize sendOwe true c = B
  generalize crdOwe c = C
  generalize barOwe c = D
  show _ = D (true, true) + D (true, false) + (D (false, true) + D (false, false)) + (C true 1 + C true 2 + C true 3 + C true 4
    + (A true 0 + A true 1 + A true 2 + A true 3 + A true 4 + A true 5 + A true 6 + (B true 0 + B true 1 + B true 2))
    + (C false 1 + C false 2 + C false 3 + C false 4
    + (A false 0 + A false 1 + A false 2 + A false 3 + A false 4 + A false 5 + A false 6 + (B false 0 + B false 1 + B false 2))))
  simp only [zero_add, add_zero]
  ac_rfl

/-- What is owed to device `c` at its own cells. -/
theorem creds_all (c : Dev nD) : (Pipeline.launchCred owe0 c : sProp 𝕄) ⊢ bigSep Finset.univ fun t : OT => cred (oweAt t c) := by
  rw [show owe0 = fun d => ∑ t ∈ Finset.univ, oweTo t d from funext owe0_sum, Pipeline.launchCred_sum]
  refine bigSep_mono fun t _ => ?_
  exact Pipeline.launchCred_tallyAt (csl (okey t).1) (nbr (odir t).1 (odir t).2) (nbr (odir t).1 (!(odir t).2))
    (nbr_nbr_not _ _) (nbr_not_nbr _ _) (okey t).2.1 (okey t).2.2 c

/-- What one direction is owed. -/
def dcred (c : Dev nD) (b : Bool) : sProp 𝕄 :=
  iprop((ccr c b 3 ∗ ccr c b 4 ∗ ccr c b 5 ∗ ccr c b 6)
    ∗ (rcr c b 0 ∗ rcr c b 1 ∗ rcr c b 2 ∗ rcr c b 3 ∗ rcr c b 4 ∗ rcr c b 5 ∗ rcr c b 6) ∗ (rcr2 c b 0 ∗ rcr2 c b 1 ∗ rcr2 c b 2))

theorem dcred_of (c : Dev nD) (b : Bool) : (bigSep Finset.univ fun t : OB => (cred (oweAt (.inr (b, t)) c) : sProp 𝕄)) ⊢ dcred c b := by
  have h1 : ∀ j : Fin 4, (cred (oweAt (.inr (b, .inl j)) c) : sProp 𝕄) = ccr c b (j.val + 3) := fun j => by
    unfold ccr; rw [if_pos (by omega)]; rfl
  have h2 : ∀ s : Fin 7, (cred (oweAt (.inr (b, .inr (.inl s))) c) : sProp 𝕄) = rcr c b s.val := fun s => rfl
  have h3 : ∀ s : Fin 3, (cred (oweAt (.inr (b, .inr (.inr s))) c) : sProp 𝕄) = rcr2 c b s.val := fun s => rfl
  rw [bigSep_univ_sum, bigSep_univ_sum, bigSep_congr fun j _ => h1 j, bigSep_congr fun s _ => h2 s,
    bigSep_congr fun s _ => h3 s, bigSep_four, bigSep_seven, bigSep_three]
  exact Entails.refl _

theorem bcred_of (c : Dev nD) :
    (bigSep Finset.univ fun t : Bool × Bool => (cred (oweAt (.inl t) c) : sProp 𝕄)) ⊢ cred (tallyAt (cell c bark) 0 4) := by
  rw [← Pipeline.cred_finsetSum]
  refine Entails.of_eq (congrArg _ ?_)
  show ∑ _t : Bool × Bool, tallyAt (cell c bark) 0 1 = _
  simp only [Fintype.sum_prod_type, Fintype.sum_bool, tallyAt_add]

theorem creds_of (c : Dev nD) : (Pipeline.launchCred owe0 c : sProp 𝕄) ⊢ iprop(cred (tallyAt (cell c bark) 0 4) ∗ dcred c false ∗ dcred c true) := by
  refine (creds_all c).trans ?_
  rw [bigSep_univ_sum, bigSep_univ_prod (fun t : Bool × OB => (cred (oweAt (.inr t) c) : sProp 𝕄)), bigSep_two]
  exact BI.sep_mono (bcred_of c) (BI.sep_mono (dcred_of c false) (dcred_of c true))

/-- Tokens and credits as the body takes them. -/
theorem toks_intro (c : Dev nD) (b : Bool) : iprop(dtok c b ∗ dcred c b) ⊢ toks (F := F) c b := by
  have hc (s : ℕ) (h : ¬ (1 ≤ s ∧ s ≤ 4)) : iprop(emp) ⊢ ctk (F := F) c b s := by unfold ctk; rw [if_neg h]
  have hr (s : ℕ) (h : ¬ 3 ≤ s) : iprop(emp) ⊢ ccr (F := F) c b s := by unfold ccr; rw [if_neg h]
  have ht : tokF (F := F) c b 7 = iprop(tok c b 0 ∗ tok c b 1 ∗ tok c b 2 ∗ tok c b 3 ∗ tok c b 4 ∗ tok c b 5 ∗ tok c b 6 ∗ emp) := rfl
  unfold dtok dcred toks tok2
  rw [ht]
  unfold tok
  iintro ⟨⟨⟨C1, C2, C3, C4⟩, ⟨S0, S1, S2, S3, S4, S5, S6⟩, T0, T1, T2⟩, ⟨D3, D4, D5, D6⟩, ⟨R0, R1, R2, R3, R4, R5, R6⟩, Q0, Q1, Q2⟩
  isplitr [T0 T1 T2 Q0 Q1 Q2]
  · isplitl [S0 R0]
    · isplitl [S0]; · iexact S0
      isplitl [R0]; · iexact R0
      isplitr
      · iapply (hc 0 (by omega)); iempintro
      · iapply (hr 0 (by omega)); iempintro
    isplitl [S1 R1 C1]
    · isplitl [S1]; · iexact S1
      isplitl [R1]; · iexact R1
      isplitl [C1]; · iexact C1
      iapply (hr 1 (by omega)); iempintro
    isplitl [S2 R2 C2]
    · isplitl [S2]; · iexact S2
      isplitl [R2]; · iexact R2
      isplitl [C2]; · iexact C2
      iapply (hr 2 (by omega)); iempintro
    isplitl [S3 R3 C3 D3]
    · isplitl [S3]; · iexact S3
      isplitl [R3]; · iexact R3
      isplitl [C3]; · iexact C3
      iexact D3
    isplitl [S4 R4 C4 D4]
    · isplitl [S4]; · iexact S4
      isplitl [R4]; · iexact R4
      isplitl [C4]; · iexact C4
      iexact D4
    isplitl [S5 R5 D5]
    · isplitl [S5]; · iexact S5
      isplitl [R5]; · iexact R5
      isplitr
      · iapply (hc 5 (by omega)); iempintro
      · iexact D5
    isplitl [S6 R6 D6]
    · isplitl [S6]; · iexact S6
      isplitl [R6]; · iexact R6
      isplitr
      · iapply (hc 6 (by omega)); iempintro
      · iexact D6
    iempintro
  · isplitl [T0 Q0]
    · isplitl [T0]; · iexact T0
      iexact Q0
    isplitl [T1 Q1]
    · isplitl [T1]; · iexact T1
      iexact Q1
    isplitl [T2]; · iexact T2
    iexact Q2

end Cert.KernelIdeal.K

end
-- ==== Proof.K.Ghost.lean ====
/- The cells at the start and at the end, and the set-up of the launch. -/
module

public import proofs.«01_k».proof.Proof.K.Deal

@[expose] public section

set_option maxRecDepth 20000

noncomputable section

namespace Cert.KernelIdeal.K

open Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx

variable {F : FTy → Type} [FloatOps F]

local notation "𝕄" => MT nD τ sig ℕ (Elt F) ℕ UU ℕ

section
variable (X : Dev nD → Vec F S4096x128 .fp8e4m3) (W : Dev nD → FVec F S128x2048 .bf16)

/-! ## The cells of a device, one by one -/

/-- Four slots of one side. -/
def quad (Φ : CK → sProp 𝕄) (p b e : Bool) : sProp 𝕄 :=
  iprop(Φ (dmak p b e (sl 0)) ∗ Φ (dmak p b e (sl 1)) ∗ Φ (dmak p b e (sl 2)) ∗ Φ (dmak p b e (sl 3)))
/-- All cells of one direction. -/
def dirC (Φ : CK → sProp 𝕄) (b : Bool) : sProp 𝕄 :=
  iprop(Φ (crdk b) ∗ (quad Φ false b false ∗ quad Φ false b true) ∗ (quad Φ true b false ∗ quad Φ true b true))

theorem bigSep_SK (Φ : CK → sProp 𝕄) : (bigSep Finset.univ fun k : SK => Φ (some k))
    = iprop((Φ (crdk false) ∗ Φ (crdk true))
      ∗ (((quad Φ false false false ∗ quad Φ false false true) ∗ (quad Φ false true false ∗ quad Φ false true true))
        ∗ ((quad Φ true false false ∗ quad Φ true false true) ∗ (quad Φ true true false ∗ quad Φ true true true)))) := by
  have h (p b e : Bool) : (bigSep Finset.univ fun a : Fin 4 => Φ (dmak p b e a)) = quad Φ p b e := by rw [bigSep_four]; rfl
  have h1 (p b : Bool) : (bigSep Finset.univ fun x : Bool × Fin 4 => Φ (dmak p b x.1 x.2)) = iprop(quad Φ p b false ∗ quad Φ p b true) := by
    rw [bigSep_univ_prod, bigSep_two, h, h]
  have h2 (p : Bool) : (bigSep Finset.univ fun x : Bool × Bool × Fin 4 => Φ (dmak p x.1 x.2.1 x.2.2))
      = iprop((quad Φ p false false ∗ quad Φ p false true) ∗ (quad Φ p true false ∗ quad Φ p true true)) := by
    rw [bigSep_univ_prod, bigSep_two, h1, h1]
  have h3 : (bigSep Finset.univ fun x : Bool × Bool × Bool × Fin 4 => Φ (dmak x.1 x.2.1 x.2.2.1 x.2.2.2))
      = iprop(((quad Φ false false false ∗ quad Φ false false true) ∗ (quad Φ false true false ∗ quad Φ false true true))
        ∗ ((quad Φ true false false ∗ quad Φ true false true) ∗ (quad Φ true true false ∗ quad Φ true true true))) := by
    rw [bigSep_univ_prod, bigSep_two, h2, h2]
  rw [bigSep_univ_sum, bigSep_two, ← h3]
  rfl

theorem bigSep_CK (Φ : CK → sProp 𝕄) : bigSep Finset.univ Φ = iprop((bigSep Finset.univ fun k : SK => Φ (some k)) ∗ Φ bark) := by
  rw [bigSep_univ_equiv (Equiv.optionEquivSumPUnit.{0, 0} SK).symm Φ, bigSep_univ_sum]
  refine congrArg (fun P : sProp 𝕄 => iprop((bigSep Finset.univ fun k : SK => Φ (some k)) ∗ P)) ?_
  exact BI.bigSep_univ_of_subsingleton PUnit.unit

theorem cells_split (Φ : CK → sProp 𝕄) : bigSep Finset.univ Φ ⊢ iprop(Φ bark ∗ dirC Φ false ∗ dirC Φ true) := by
  rw [bigSep_CK, bigSep_SK]
  unfold dirC
  iintro ⟨⟨⟨C0, C1⟩, ⟨A0, A1⟩, B0, B1⟩, HB⟩
  isplitl [HB]; · iexact HB
  isplitl [C0 A0 B0]
  · isplitl [C0]; · iexact C0
    isplitl [A0] <;> iassumption
  · isplitl [C1]; · iexact C1
    isplitl [A1] <;> iassumption
theorem cells_join (Φ : CK → sProp 𝕄) : iprop(Φ bark ∗ dirC Φ false ∗ dirC Φ true) ⊢ bigSep Finset.univ Φ := by
  rw [bigSep_CK, bigSep_SK]
  unfold dirC
  iintro ⟨HB, ⟨C0, A0, B0⟩, ⟨C1, A1, B1⟩⟩
  isplitr [HB]
  · isplitl [C0 C1]
    · isplitl [C0] <;> iassumption
    isplitl [A0 A1]
    · isplitl [A0] <;> iassumption
    isplitl [B0] <;> iassumption
  · iexact HB

/-! ## The positions -/

/-- Two semaphores of the second ring that are never used. -/
def idle (c : Dev nD) (b : Bool) : sProp 𝕄 :=
  iprop(atPos ER (cell c (dmak true b false (sl 3))) 0 ∅ 0 ∗ atPos ER (cell c (dmak true b true (sl 0))) 0 ∅ 0)

theorem pos_start (c : Dev nD) (b : Bool) : dirC (fun k => atPos ER (cell c k) 0 ∅ 0) b ⊢ iprop(pos0 (F := F) c b ∗ idle c b) := by
  have hcp : (atPos ER (cell c (crdk b)) 0 ∅ 0 : sProp 𝕄) ⊢ cp c b 0 := by
    unfold cp; rw [if_pos (by omega)]
    iintro H; iexists (∅ : Finset Du); iexact H
  unfold dirC quad pos0 idle sp rp sp2 rp2
  iintro ⟨HC, ⟨⟨S0, S1, S2, S3⟩, R0, R1, R2, R3⟩, ⟨T0, T1, T2, T3⟩, Q0, Q1, Q2, Q3⟩
  isplitr [T3 Q0]
  · isplitl [S0 S1 S2 S3]
    · isplitl [S0]; · iexact S0
      isplitl [S1]; · iexact S1
      isplitl [S2]; · iexact S2
      iexact S3
    isplitl [R0 R1 R2 R3]
    · isplitl [R1]; · iexact R1
      isplitl [R2]; · iexact R2
      isplitl [R3]; · iexact R3
      iexact R0
    isplitl [HC]; · iapply hcp; iexact HC
    isplitl [T0 T1 T2]
    · isplitl [T0]; · iexact T0
      isplitl [T1]; · iexact T1
      iexact T2
    isplitl [Q1]; · iexact Q1
    isplitl [Q2]; · iexact Q2
    iexact Q3
  · isplitl [T3]; · iexact T3
    iexact Q0

/-- The round each cell has reached at the end. -/
def endR : CK → ℕ
  | some (.inr (p, _, e, a)) => (if p then 1 else 2) - (if stp e a = 3 then 1 else 0)
  | _ => 1

theorem dut_end (k : CK) (r : ℕ) (h : endR k ≤ r) : dut k r = ∅ := by
  rcases k with _ | b | ⟨p, b, e, a⟩
  · exact if_neg (by change 1 ≤ r at h; omega)
  · exact if_neg (by change 1 ≤ r at h; omega)
  · refine if_neg ?_
    change (if p then 1 else 2) - (if stp e a = 3 then 1 else 0) ≤ r at h
    have hs : stp e a < 4 := by
      have := a.isLt
      unfold stp; split <;> omega
    cases p
    · change 2 - (if stp e a = 3 then 1 else 0) ≤ r at h
      change ¬ stp e a + 4 * r < 7
      split at h <;> omega
    · change 1 - (if stp e a = 3 then 1 else 0) ≤ r at h
      change ¬ stp e a + 4 * r < 3
      split at h <;> omega

theorem pos_end (c : Dev nD) (b : Bool) : iprop(posN c b ∗ idle c b) ⊢ dirC (F := F) (fun k => atPos ER (cell c k) (endR k) ∅ 0) b := by
  have hcp : cp c b 7 ⊢ (atPos ER (cell c (crdk b)) 1 ∅ 0 : sProp 𝕄) := by
    unfold cp; rw [if_neg (by omega)]
  unfold dirC quad posN idle sp rp sq2 rq2
  iintro ⟨⟨⟨S3, S0, S1, S2⟩, ⟨R0, R1, R2, R3⟩, HC, ⟨Q1, Q2, Q3⟩, T0, T1, T2⟩, T3, Q0⟩
  isplitl [HC]; · iapply hcp; iexact HC
  isplitl [S0 S1 S2 S3 R0 R1 R2 R3]
  · isplitl [S0 S1 S2 S3]
    · isplitl [S0]; · iexact S0
      isplitl [S1]; · iexact S1
      isplitl [S2]; · iexact S2
      iexact S3
    · isplitl [R0]; · iexact R0
      isplitl [R1]; · iexact R1
      isplitl [R2]; · iexact R2
      iexact R3
  · isplitl [T0 T1 T2 T3]
    · isplitl [T0]; · iexact T0
      isplitl [T1]; · iexact T1
      isplitl [T2]; · iexact T2
      iexact T3
    · isplitl [Q0]; · iexact Q0
      isplitl [Q1]; · iexact Q1
      isplitl [Q2]; · iexact Q2
      iexact Q3

/-! ## Beginning and end -/

/-- The device's semaphores at zero. -/
def sems0 (c : Dev nD) : sProp 𝕄 := bigSep Finset.univ fun k : CK => semVal (cell c k) 0

theorem unscopedSems0_eq (c : Dev nD) : (unscopedSems0 c : sProp 𝕄) = semVal (cell c bark) 0 := by
  unfold unscopedSems0; rw [bigSep_eq_bigSepL_of_eq [SemLoc.reg barrier0] (by decide) (by decide)]; rfl

theorem sems0_eq (c : Dev nD) : (sems0 c : sProp 𝕄)
    = iprop(Pipeline.ownSems0 (Ix := ℕ) (Name := ℕ) (U := UU) (Lvl := ℕ) (Val := Elt F) (τ := τ) osem c ∗ unscopedSems0 c) := by
  unfold sems0; rw [bigSep_CK, unscopedSems0_eq]; rfl

theorem close_one (K : Dev nD × CK → ℕ) (c : Dev nD) (k : CK) :
    iprop(recs X W K ∗ atPos ER (cell c k) (endR k) ∅ 0) ⊢ (|={Set.univ}=> semVal (cell c k) 0 : sProp 𝕄) := by
  have hR : ∀ r, endR k ≤ r → (rd X W).duties (cell c k) r = ∅ := fun r h => (duties_cell X W c k r).trans (dut_end k r h)
  iintro ⟨#HR, Hat⟩
  iapply (Rounds.cell_close ER (rd X W) (Set.mem_univ (K (c, k))) (fun h => h) (R := endR k) hR)
  isplitr
  · iapply (recs_inv X W K c k); iexact HR
  · iexact Hat

theorem bigSep_with_persistent {I : Type} [DecidableEq I] {S : Finset I} {R : sProp 𝕄} [BI.Persistent R] {Φ Ψ : I → sProp 𝕄}
    (h : ∀ i ∈ S, iprop(R ∗ Φ i) ⊢ Ψ i) : iprop(R ∗ bigSep S Φ) ⊢ bigSep S Ψ :=
  (BI.sep_mono (BI.bigSep_of_persistent S R) (Entails.refl _)).trans ((Entails.of_eq (bigSep_sep' S (fun _ => R) Φ).symm).trans (bigSep_mono h))

/-- All cells of a device close. -/
theorem close_all (K : Dev nD × CK → ℕ) (c : Dev nD) :
    iprop(recs X W K ∗ atPos ER (cell c bark) 1 ∅ 0 ∗ (posN c false ∗ idle c false) ∗ (posN c true ∗ idle c true))
      ⊢ (|={Set.univ}=> sems0 c : sProp 𝕄) := by
  have h : iprop(recs X W K ∗ bigSep Finset.univ fun k : CK => (atPos ER (cell c k) (endR k) ∅ 0 : sProp 𝕄)) ⊢ (|={Set.univ}=> sems0 c : sProp 𝕄) :=
    (bigSep_with_persistent fun k _ => close_one X W K c k).trans (bigSep_fupd _ _)
  iintro ⟨#HR, HB, H0, H1⟩
  iapply h
  isplitr; · iexact HR
  iapply (cells_join fun k => (atPos ER (cell c k) (endR k) ∅ 0 : sProp 𝕄))
  isplitl [HB]; · iexact HB
  isplitl [H0]
  · iapply (pos_end c false); iexact H0
  · iapply (pos_end c true); iexact H1

/-! ## The set-up -/

/-- What the launch deals a device. -/
def G (c : Dev nD) : sProp 𝕄 :=
  iprop((bigSep Finset.univ fun k : CK => roundState ER (rd X W) (cell c k) 0)
    ∗ ((bigSep Finset.univ fun k : CK => atPos ER (cell c k) 0 ∅ 0) ∗ (bigSep Finset.univ fun k : CK => reached ER (cell c k) 0))
    ∗ bigSep Finset.univ fun t : TK => tokAt c t)

theorem fund_ring : BI.own (ER (initOf ringCells ringToks)) ⊢ (|==> bigSep Finset.univ (G X W) : sProp 𝕄) := by
  have hX (Φ : GSem nD τ sig → sProp 𝕄) : bigSep ringCells Φ = bigSep Finset.univ fun c : Dev nD => bigSep Finset.univ fun k : CK => Φ (cell c k) := by
    unfold ringCells; rw [bigSep_map, bigSep_univ_prod]; rfl
  iintro HX
  imod (Rounds.fund ER (rd X W) ringCells ringToks) $$ HX with ⟨Hst, Hr, Hat, Htok⟩
  imodintro
  ihave Hst := (Entails.of_eq (hX fun g => roundState ER (rd X W) g 0)) $$ Hst
  ihave Hat := (Entails.of_eq (hX fun g => atPos ER g 0 ∅ 0)) $$ Hat
  ihave Hr := (Entails.of_eq (hX fun g => reached ER g 0)) $$ Hr
  ihave Htok := (Entails.of_eq bigSep_ringToks) $$ Htok
  unfold G; simp only [bigSep_sep']
  isplitl [Hst]; · iexact Hst
  isplitl [Hat Hr]
  · isplitl [Hat] <;> iassumption
  iexact Htok

theorem core_alloc (c : Dev nD) :
    iprop(Pipeline.ownSems0 (Ix := ℕ) (Name := ℕ) (U := UU) (Lvl := ℕ) (Val := Elt F) (τ := τ) osem c ∗ unscopedSems0 c ∗ G X W c)
      ⊢ |={Set.univ}=> iprop((bigSep Finset.univ fun k : CK => iprop(∃ κ : ℕ, cellInv ER (rd X W) κ (cell c k)))
          ∗ ((bigSep Finset.univ fun k : CK => atPos ER (cell c k) 0 ∅ 0) ∗ (bigSep Finset.univ fun k : CK => reached ER (cell c k) 0))
          ∗ bigSep Finset.univ fun t : TK => tokAt c t) := by
  have ha : iprop((bigSep Finset.univ fun k : CK => semVal (cell c k) 0) ∗ bigSep Finset.univ fun k : CK => roundState ER (rd X W) (cell c k) 0)
      ⊢ (|={Set.univ}=> bigSep Finset.univ fun k => iprop(∃ κ : ℕ, cellInv ER (rd X W) κ (cell c k)) : sProp 𝕄) := by
    rw [← bigSep_sep']
    exact (bigSep_mono fun k _ => (Rounds.body_intro ER (rd X W) (cell c k)).trans inv_alloc).trans (bigSep_fupd _ _)
  unfold G
  iintro ⟨Hos, Hus, Hst, Hat, Htok⟩
  ihave Hv := (Entails.of_eq (sems0_eq (F := F) c).symm) $$ [Hos Hus]
  · isplitl [Hos] <;> iassumption
  imod ha $$ [Hv Hst] with Hinv
  · isplitl [Hv]
    · unfold sems0; iexact Hv
    · iexact Hst
  imodintro
  isplitl [Hinv]; · iexact Hinv
  isplitl [Hat]; · iexact Hat
  iexact Htok

/-- The records but the levels. -/
def recs' (K : Dev nD × CK → ℕ) : sProp 𝕄 :=
  iprop((bigSep Finset.univ fun i : Dev nD × CK => cellInv ER (rd X W) (K i) (cell i.1 i.2))
    ∗ bigSep Finset.univ fun i : Dev nD × CK => reached ER (cell i.1 i.2) 0)
instance recs'_persistent (K : Dev nD × CK → ℕ) : BI.Persistent (recs' X W K) := by unfold recs'; infer_instance

/-- What a device has of its own, at the start. -/
def mine (c : Dev nD) : sProp 𝕄 :=
  iprop((bigSep Finset.univ fun k : CK => atPos ER (cell c k) 0 ∅ 0) ∗ bigSep Finset.univ fun t : TK => tokAt (who t c) t)
def G' (c : Dev nD) : sProp 𝕄 := iprop(∃ K, recs' X W K ∗ mine c)

theorem regroup :
    (bigSep Finset.univ fun c : Dev nD => iprop((bigSep Finset.univ fun k : CK => iprop(∃ κ : ℕ, cellInv ER (rd X W) κ (cell c k)))
          ∗ ((bigSep Finset.univ fun k : CK => atPos ER (cell c k) 0 ∅ 0) ∗ (bigSep Finset.univ fun k : CK => reached ER (cell c k) 0))
          ∗ bigSep Finset.univ fun t : TK => tokAt c t) : sProp 𝕄)
      ⊢ bigSep Finset.univ (G' X W) := by
  have hg (K : Dev nD × CK → ℕ) (c : Dev nD) : iprop(recs' X W K ∗ mine c) ⊢ G' X W c := by
    unfold G'
    iintro H; iexists K; iexact H
  have hm : iprop((bigSep Finset.univ fun c : Dev nD => bigSep Finset.univ fun k : CK => (atPos ER (cell c k) 0 ∅ 0 : sProp 𝕄))
      ∗ bigSep Finset.univ fun c : Dev nD => bigSep Finset.univ fun t : TK => (tokAt (who t c) t : sProp 𝕄)) = bigSep Finset.univ fun c : Dev nD => mine c := by
    rw [← bigSep_sep']; rfl
  rw [bigSep_sep', bigSep_sep', bigSep_sep', ← bigSep_univ_prod (fun i : Dev nD × CK => iprop(∃ κ : ℕ, cellInv ER (rd X W) κ (cell i.1 i.2))),
    ← bigSep_univ_prod (fun i : Dev nD × CK => (reached ER (cell i.1 i.2) 0 : sProp 𝕄)), toks_dealt]
  iintro ⟨HI, ⟨Hat, #HR⟩, Htok⟩
  ihave HK := (BI.bigSep_exists_pi Finset.univ (fun (i : Dev nD × CK) (κ : ℕ) => (cellInv ER (rd X W) κ (cell i.1 i.2) : sProp 𝕄))) $$ HI
  icases HK with ⟨%K, #HI⟩
  iapply (bigSep_with_persistent (R := recs' X W K) fun c _ => hg K c)
  isplitr
  · unfold recs'; isplitl; · iexact HI
    iexact HR
  · iapply (Entails.of_eq hm)
    isplitl [Hat]; · iexact Hat
    iexact Htok

/-- The set-up of all devices at once. -/
theorem glob : (bigSep Finset.univ fun c => iprop(Pipeline.ownSems0 (Ix := ℕ) (Name := ℕ) (U := UU) (Lvl := ℕ) (Val := Elt F) (τ := τ) osem c ∗ unscopedSems0 c ∗ G X W c) : sProp 𝕄)
    ⊢ |={Set.univ}=> bigSep Finset.univ (G' X W) :=
  ((bigSep_mono fun c _ => core_alloc X W c).trans (bigSep_fupd _ _)).trans (BI.fupd_mono (regroup X W))

/-- What a device's body starts from, but its memory. -/
def start (c : Dev nD) : sProp 𝕄 :=
  iprop(∃ K, recs X W K
    ∗ ((barTok c false true ∗ barTok c false false ∗ barTok c true false ∗ barTok c true true) ∗ cred (tallyAt (cell c bark) 0 4) ∗ atPos ER (cell c bark) 0 ∅ 0)
    ∗ (pos0 c false ∗ idle c false ∗ toks c false) ∗ (pos0 c true ∗ idle c true ∗ toks c true))

theorem start_intro (c : Dev nD) : iprop(levAts L lv ∗ Pipeline.launchCred owe0 c ∗ G' X W c) ⊢ start X W c := by
  unfold G' mine recs' start
  iintro ⟨#Hlev, Hcr, %K, ⟨#HI, #HR⟩, Hat, Htok⟩
  ihave Hc := (creds_of (F := F) c) $$ Hcr
  icases Hc with ⟨Hcb, Hc0, Hc1⟩
  ihave Ht := (toks_of (F := F) c) $$ Htok
  unfold btok
  icases Ht with ⟨⟨⟨Hb0, Hb1⟩, Hb2, Hb3⟩, Ht0, Ht1⟩
  ihave Ha := (cells_split fun k => (atPos ER (cell c k) 0 ∅ 0 : sProp 𝕄)) $$ Hat
  icases Ha with ⟨Hab, Ha0, Ha1⟩
  ihave Ha0 := (pos_start (F := F) c false) $$ Ha0
  icases Ha0 with ⟨Ha0, Hi0⟩
  ihave Ha1 := (pos_start (F := F) c true) $$ Ha1
  icases Ha1 with ⟨Ha1, Hi1⟩
  iexists K
  isplitr
  · unfold recs
    isplitr; · iexact HI
    isplitr; · iexact HR
    iexact Hlev
  isplitl [Hb0 Hb1 Hb2 Hb3 Hcb Hab]
  · isplitl [Hb0 Hb1 Hb2 Hb3]
    · isplitl [Hb1]; · iexact Hb1
      isplitl [Hb0]; · iexact Hb0
      isplitl [Hb2] <;> iassumption
    isplitl [Hcb] <;> iassumption
  isplitl [Ha0 Hi0 Ht0 Hc0]
  · isplitl [Ha0]; · iexact Ha0
    isplitl [Hi0]; · iexact Hi0
    iapply (toks_intro c false)
    isplitl [Ht0] <;> iassumption
  · isplitl [Ha1]; · iexact Ha1
    isplitl [Hi1]; · iexact Hi1
    iapply (toks_intro c true)
    isplitl [Ht1] <;> iassumption

end

end Cert.KernelIdeal.K

end
-- ==== Proof.K.ProgEq.lean ====
/- The printed body is the structured program: both unfold to the same tree of operations. -/
module

public import proofs.«01_k».proof.Proof.K.Prog
public import Idealize.ShloMosaic.Lib.Pipeline.Regions

@[expose] public section

noncomputable section

namespace Cert.KernelIdeal.K

open Idealize.ShloMosaic Idealize.ShloMosaic.TcCoe Idealize.SL.Sem
open Cert.KernelIdeal.Gen

variable {F : FTy → Type} [FloatOps F]

/-- The body of the one grid point, as the structured program. -/
theorem bodyAt_eq (t : Fin cfg0.N) : bodyAt0 (F := F) t
    = body (F := F) (win0_0.stage (cfg0.slots t 0)) (win0_1.stage (cfg0.slots t 1)) (win0_2.stage (cfg0.slots t 2))
        (win0_3.stage (cfg0.slots t 3)) (win0_4.stage (cfg0.slots t 4)) := by
  chain_rfl

end Cert.KernelIdeal.K

end
-- ==== Proof.K.Launch.lean ====
/- The launch: what the windows bring, the body at the one grid point, and the set-up. -/
module

public import proofs.«01_k».proof.Proof.K.Ghost
public import proofs.«01_k».proof.Proof.K.ProgEq
public import proofs.«01_k».proof.Proof.Gen.KernelIdeal.Points
public import Idealize.ShloMosaic.Lib.Pipeline.CollectiveSegs

@[expose] public section

set_option maxRecDepth 20000

noncomputable section

namespace Cert.KernelIdeal.K

open Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx

variable {F : FTy → Type} [FloatOps F]

local notation "𝕄" => MT nD τ sig ℕ (Elt F) ℕ UU ℕ

open Idealize.ShloMosaic.Pipeline (Dat Cfg Window BodyObligation cellOf)

section
variable (m : (ℓ : Loc nD τ sig) → Buf (Elt F) ℓ) (ρ : Dev nD → PrngReg)

/-! ## What the windows bring -/

def s₀ : MemSt nD τ sig (Elt F) := ⟨m, fun _ => 0, ρ⟩
/-- The device's columns of the first operand. -/
def xAt (c : Dev nD) : Vec F S4096x128 .fp8e4m3 := (win0_0.blk (0 : Fin 1)).view.read (Elt F) ((s₀ m ρ).mem ((c : Thread nD τ).loc main_arg0))
/-- The device's rows of the second. -/
def wAt (c : Dev nD) : Vec F S128x2048 .fp8e5m2 := (win0_1.blk (0 : Fin 1)).view.read (Elt F) ((s₀ m ρ).mem ((c : Thread nD τ).loc main_arg1))
/-- The two scales. -/
def sxAt (c : Dev nD) : Vec F S1 .f32 := (win0_2.blk (0 : Fin 1)).view.read (Elt F) ((s₀ m ρ).mem ((c : Thread nD τ).loc main_arg2))
def swAt (c : Dev nD) : Vec F S1 .f32 := (win0_3.blk (0 : Fin 1)).view.read (Elt F) ((s₀ m ρ).mem ((c : Thread nD τ).loc main_arg3))
/-- The second operand as it is multiplied. -/
def wbAt (c : Dev nD) : FVec F S128x2048 .bf16 := wq (wAt m ρ c)
/-- The device's rows of the result. -/
def outAt (c : Dev nD) : FVec F S128x2048 .f32 := outV (xAt m ρ) (wbAt m ρ) (sxAt m ρ c z1) (swAt m ρ c z1) c

/-! ## The data of the one grid point -/

def Φ₀ (c : Dev nD) : sProp 𝕄 := iprop(start (xAt m ρ) (wbAt m ρ) c ∗ scr c false ∗ scr c true)
def Φ₁ (c : Dev nD) : sProp 𝕄 := iprop((scr c false ∗ scr c true) ∗ sems0 c)

def dats (_ : Fin 1) (c : Dev nD) : Dat τ (Elt F) ℕ ℕ UU ℕ cfg0 c where
  A w := (s₀ m ρ).mem ((cfg0.win w).arr.view.loc (c : Thread nD τ))
  after w _ := match w with
    | ⟨0, _⟩ => xAt m ρ c
    | ⟨1, _⟩ => wAt m ρ c
    | ⟨2, _⟩ => sxAt m ρ c
    | ⟨3, _⟩ => swAt m ρ c
    | ⟨4, _⟩ => outAt m ρ c
  Φ t := match t with
    | ⟨0, _⟩ => Φ₀ m ρ c
    | ⟨_ + 1, _⟩ => Φ₁ c
  q _ := fullShare
  owed t := match t with
    | ⟨0, _⟩ => owe0 c
    | ⟨_ + 1, _⟩ => 0

theorem bigSep_W (Φ : Fin cfg0.W → sProp 𝕄) : bigSep Finset.univ Φ
    = iprop(Φ (0 : Fin 5) ∗ Φ (1 : Fin 5) ∗ Φ (2 : Fin 5) ∗ Φ (3 : Fin 5) ∗ Φ (4 : Fin 5)) := bigSep_W0 Φ

theorem before_0 (c : Dev nD) (t : Fin cfg0.N) (d) : (dats m ρ 0 c).before (0 : Fin 5) t d = xAt m ρ c := by
  rw [fin_N0 t]; unfold Dat.before; rw [if_pos (fetch0_0 t0_0)]; rfl
theorem before_1 (c : Dev nD) (t : Fin cfg0.N) (d) : (dats m ρ 0 c).before (1 : Fin 5) t d = wAt m ρ c := by
  rw [fin_N0 t]; unfold Dat.before; rw [if_pos (fetch0_1 t0_0)]; rfl
theorem before_2 (c : Dev nD) (t : Fin cfg0.N) (d) : (dats m ρ 0 c).before (2 : Fin 5) t d = sxAt m ρ c := by
  rw [fin_N0 t]; unfold Dat.before; rw [if_pos (fetch0_2 t0_0)]; rfl
theorem before_3 (c : Dev nD) (t : Fin cfg0.N) (d) : (dats m ρ 0 c).before (3 : Fin 5) t d = swAt m ρ c := by
  rw [fin_N0 t]; unfold Dat.before; rw [if_pos (fetch0_3 t0_0)]; rfl

/-! ## The body at the grid point -/

/-- The body between what it starts from and what it leaves. -/
theorem body_run (m0 : Memref sig .tc .vmem S4096x128 .fp8e4m3) (m1 : Memref sig .tc .vmem S128x2048 .fp8e5m2)
    (m2 m3 : Memref sig .tc .smem S1 .f32) (m4 : Memref sig .tc .vmem S128x2048 .f32) (c : Dev nD) (V : FVec F S128x2048 .f32) :
    iprop(Φ₀ m ρ c ∗ ow c (owe0 c)
        ∗ owns (c : Thread nD τ) m0 fullShare (xAt m ρ c) ∗ owns (c : Thread nD τ) m1 fullShare (wAt m ρ c)
        ∗ owns (c : Thread nD τ) m2 fullShare (sxAt m ρ c) ∗ owns (c : Thread nD τ) m3 fullShare (swAt m ρ c) ∗ owns (c : Thread nD τ) m4 fullShare V)
      ⊢ wpK (F := F) c (body m0 m1 m2 m3 m4) (fun _ => iprop(Φ₁ c ∗ ow c 0
        ∗ owns (c : Thread nD τ) m0 fullShare (xAt m ρ c) ∗ owns (c : Thread nD τ) m1 fullShare (wAt m ρ c)
        ∗ owns (c : Thread nD τ) m2 fullShare (sxAt m ρ c) ∗ owns (c : Thread nD τ) m3 fullShare (swAt m ρ c)
        ∗ owns (c : Thread nD τ) m4 fullShare (outAt m ρ c))) := by
  refine BIBase.Entails.trans ?_ (wp_fupd frame (wpE (defs₀ (F := F)) 𝒱₀ (c : Thread nD τ) none) Set.univ _ _)
  unfold Φ₀ Φ₁ start
  iintro ⟨⟨⟨%K, #HR, Hbar, ⟨Hp0, Hi0, Ht0⟩, Hp1, Hi1, Ht1⟩, Hs0, Hs1⟩, Ho, H0, H1, H2, H3, H4⟩
  ihave Hm0 := (mem0_of_scr (F := F) c false) $$ Hs0
  ihave Hm1 := (mem0_of_scr (F := F) c true) $$ Hs1
  ihave Hwp := (wpK_step c (wp_body (xAt m ρ) (wbAt m ρ) K m0 m1 m2 m3 m4 c fullShare fullShare fullShare fullShare (wAt m ρ c) rfl (sxAt m ρ c) (swAt m ρ c) V)) $$ [Ho Hbar Hp0 Ht0 Hm0 Hp1 Ht1 Hm1 H0 H1 H2 H3 H4]
  · isplitr; · iexact HR
    isplitl [Ho]; · iexact Ho
    isplitl [Hbar]; · iexact Hbar
    isplitl [Hp0 Ht0 Hm0]
    · isplitl [Hm0]; · iexact Hm0
      isplitl [Hp0] <;> iassumption
    isplitl [Hp1 Ht1 Hm1]
    · isplitl [Hm1]; · iexact Hm1
      isplitl [Hp1] <;> iassumption
    isplitl [H0]; · iexact H0
    isplitl [H1]; · iexact H1
    isplitl [H2]; · iexact H2
    isplitl [H3]; · iexact H3
    iexact H4
  iapply Hwp
  iintro %_ ⟨Ho, Hb, Hk0, Hk1, H0, H1, H2, H3, H4⟩
  ihave He0 := (scr_of_end (xAt m ρ) (wbAt m ρ) c false) $$ Hk0
  icases He0 with ⟨Hs0, Hp0⟩
  ihave He1 := (scr_of_end (xAt m ρ) (wbAt m ρ) c true) $$ Hk1
  icases He1 with ⟨Hs1, Hp1⟩
  imod (close_all (xAt m ρ) (wbAt m ρ) K c) $$ [Hb Hp0 Hp1 Hi0 Hi1] with Hz
  · isplitr; · iexact HR
    isplitl [Hb]; · iexact Hb
    isplitl [Hp0 Hi0]
    · isplitl [Hp0] <;> iassumption
    · isplitl [Hp1] <;> iassumption
  imodintro
  isplitl [Hs0 Hs1 Hz]
  · isplitl [Hs0 Hs1]
    · isplitl [Hs0] <;> iassumption
    iexact Hz
  isplitl [Ho]; · iexact Ho
  isplitl [H0]; · iexact H0
  isplitl [H1]; · iexact H1
  isplitl [H2]; · iexact H2
  isplitl [H3]; · iexact H3
  iexact H4

theorem body_obligation (c : Dev nD) : BodyObligation (dats m ρ 0 c) (defs₀ (F := F)) 𝒱₀ 0 Set.univ := fun t => by
  have hrun := body_run m ρ (win0_0.stage (cfg0.slots t 0)) (win0_1.stage (cfg0.slots t 1)) (win0_2.stage (cfg0.slots t 2))
    (win0_3.stage (cfg0.slots t 3)) (win0_4.stage (cfg0.slots t 4)) c
  rw [← bodyAt_eq t] at hrun
  rw [bigSep_W, bigSep_W]
  simp only [before_0, before_1, before_2, before_3]
  rw [fin_N0 t] at hrun ⊢
  have h : iprop(Φ₀ m ρ c ∗ (dats m ρ 0 c).owesAt 0 t0_0.castSucc
      ∗ (∃ d : Vec F S4096x128 .fp8e4m3, owns (c : Thread nD τ) (win0_0.stage (cfg0.slots t0_0 0)) fullShare (xAt m ρ c))
      ∗ (∃ d : Vec F S128x2048 .fp8e5m2, owns (c : Thread nD τ) (win0_1.stage (cfg0.slots t0_0 1)) fullShare (wAt m ρ c))
      ∗ (∃ d : Vec F S1 .f32, owns (c : Thread nD τ) (win0_2.stage (cfg0.slots t0_0 2)) fullShare (sxAt m ρ c))
      ∗ (∃ d : Vec F S1 .f32, owns (c : Thread nD τ) (win0_3.stage (cfg0.slots t0_0 3)) fullShare (swAt m ρ c))
      ∗ (∃ d : Vec F S128x2048 .f32, owns (c : Thread nD τ) (win0_4.stage (cfg0.slots t0_0 4)) fullShare ((dats m ρ 0 c).before (4 : Fin 5) t0_0 d)))
    ⊢ wpK (F := F) c (bodyAt0 t0_0) (fun _ => iprop(Φ₁ c ∗ (dats m ρ 0 c).owesAt 0 t0_0.succ
        ∗ owns (c : Thread nD τ) (win0_0.stage (cfg0.slots t0_0 0)) fullShare (xAt m ρ c)
        ∗ owns (c : Thread nD τ) (win0_1.stage (cfg0.slots t0_0 1)) fullShare (wAt m ρ c)
        ∗ owns (c : Thread nD τ) (win0_2.stage (cfg0.slots t0_0 2)) fullShare (sxAt m ρ c)
        ∗ owns (c : Thread nD τ) (win0_3.stage (cfg0.slots t0_0 3)) fullShare (swAt m ρ c)
        ∗ owns (c : Thread nD τ) (win0_4.stage (cfg0.slots t0_0 4)) fullShare (outAt m ρ c))) := by
    unfold Dat.owesAt Pipeline.owesWithin
    iintro ⟨HΦ, ⟨%Wt, %hW, Ho⟩, ⟨%d0, H0⟩, ⟨%d1, H1⟩, ⟨%d2, H2⟩, ⟨%d3, H3⟩, %d4, H4⟩
    ihave Hwp := (wpK_step c (hrun ((dats m ρ 0 c).before (4 : Fin 5) t0_0 d4))) $$ [HΦ Ho H0 H1 H2 H3 H4]
    · isplitl [HΦ]; · iexact HΦ
      isplitl [Ho]
      · unfold ow; iexists Wt; iexact Ho
      isplitl [H0]; · iexact H0
      isplitl [H1]; · iexact H1
      isplitl [H2]; · iexact H2
      isplitl [H3]; · iexact H3
      iexact H4
    iapply Hwp
    unfold ow
    iintro %_ ⟨HΦ, ⟨%Wt', Ho⟩, Hw⟩
    isplitl [HΦ]; · iexact HΦ
    isplitl [Ho]
    · iexists Wt'
      isplitr
      · ipureintro; exact fun _ _ => Or.inl trivial
      · iexact Ho
    · iexact Hw
  exact h

/-! ## The launch -/

theorem ownSemFacts : Pipeline.OwnSemFacts cfg0.spec osem := by decide

theorem share_eq (c : Dev nD) (w : Fin cfg0.W) : (dats m ρ 0 c).share w = fullShare := by unfold Dat.share; split <;> rfl

def u₀ : UU :=
  (initOf (Pipeline.cells cfgs cellOf_inj) (Pipeline.launchToks cfgs cellOf_inj), initOf ringCells ringToks)

theorem launch_start (c : Dev nD) :
    iprop(Pipeline.unscopedRestP Pipeline.Prefetch.none cfg0.spec c (fun b => m ((c : Thread nD τ).loc b)) ∗ levAts L lv
        ∗ Pipeline.launchCred owe0 c ∗ prngReg c (ρ c) ∗ G' (xAt m ρ) (wbAt m ρ) c)
      ⊢ |={Set.univ}=> iprop(start (xAt m ρ) (wbAt m ρ) c ∗ emp) := by
  iintro ⟨-, Hlev, Hcr, -, HG⟩
  ihave Hs := (start_intro (xAt m ρ) (wbAt m ρ) c) $$ [Hlev Hcr HG]
  · isplitl [Hlev]; · iexact Hlev
    isplitl [Hcr] <;> iassumption
  imodintro
  isplitl [Hs]; · iexact Hs
  iempintro

theorem phi0_intro (c : Dev nD) :
    iprop(start (xAt m ρ) (wbAt m ρ) c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = Φ₀ m ρ c from rfl]
  unfold Φ₀
  iintro ⟨Hs, -, Hr⟩
  isplitl [Hs]; · iexact Hs
  iapply (scr_of_rest (F := F) c); iexact Hr

theorem phi1_exit (c : Dev nD) :
    (dats m ρ 0 c).Φ (Fin.last cfg0.N) ⊢ iprop(unscopedSems0 c ∗ Pipeline.ownSems0 osem c ∗ Pipeline.scopedRest cfg0.spec c) := by
  rw [show (dats m ρ 0 c).Φ (Fin.last cfg0.N) = (Φ₁ c : sProp 𝕄) from rfl]
  unfold Φ₁
  rw [sems0_eq]
  iintro ⟨Hr, Ho, Hu⟩
  isplitl [Hu]; · iexact Hu
  isplitl [Ho]; · iexact Ho
  iapply (rest_of_scr (F := F) c); iexact Hr

theorem above_owe0 (c : Dev nD) : Above 0 (owe0 c) := by
  have hb (p b : Bool) : Above 0 (barOwe c (p, b)) := Above.tally (nbr p b c) bark 0 1 (by omega) (by decide)
  unfold owe0
  exact (((((above_owe1 c 7 (by omega)).mono (by omega)).add (hb true true)).add (hb true false)).add (hb false false)).add (hb false true)

theorem csl_ne_stage (w : Fin cfg0.W) (s : Fin (cfg0.win w).nbuf) (k : CK) : csl k ≠ SemLoc.dma ((cfg0.win w).sem s) := by
  have h : ∀ k : CK, ∀ i : Fin 5, csl k ≠ SemLoc.dma ⟨i.val, lt_of_lt_of_le i.isLt (by decide)⟩ := by decide
  fin_cases w <;> fin_cases s
  · exact h k 0
  · exact h k 1
  · exact h k 2
  · exact h k 3
  · exact h k 4

theorem lv_stage (c : Dev nD) (w : Fin cfg0.W) (s : Fin (cfg0.win w).nbuf) : lv ((c : Thread nD τ), SemLoc.dma ((cfg0.win w).sem s)) 0 = 0 := by
  have h : dec (SemLoc.dma ((cfg0.win w).sem s)) = none := by
    unfold dec; exact dif_neg fun ⟨k, hk⟩ => csl_ne_stage w s k hk
  unfold lv; rw [h]

theorem waits (c : Dev nD) : (levAts L lv : sProp 𝕄) ⊢ Pipeline.cellsWaits cfgs (dats m ρ) 0 0 c :=
  Pipeline.cellsWaits_intro cfgs (dats m ρ) 0 0 c fun w s t => by
    have h : Above 0 ((dats m ρ 0 c).owed t) := by
      rcases t with ⟨_ | _, ht⟩
      · exact above_owe0 c
      · exact Above.zero 0
    exact mayOwe c _ 0 0 (by omega) (le_of_eq (lv_stage c w s)) h

/-! ## The run -/

def finalA (c : Dev nD) (w : Fin cfg0.W) : Buf (Elt F) ((cfg0.win w).arr.view.loc (c : Thread nD τ)) := (dats m ρ 0 c).arrAt w cfg0.N

/-- Every window's array is left at its final contents. -/
def QC : PUnit × MemSt nD τ sig (Elt F) → Prop := fun r =>
  ∀ c : Dev nD, ∀ w : Fin cfg0.W, r.2.mem ((cfg0.win w).arr.view.loc (c : Thread nD τ)) = finalA m ρ c w

/-- Every fair execution on the mesh ends, with the final contents in the arrays and all counters at zero. -/
theorem run_main : θ_run defs (onTc (τ := τ) (main (F := F))) (s₀ m ρ) (fun r => QC m ρ r ∧ r.2.sem = fun _ => 0) :=
  Pipeline.θ_run_region_owing_glob_pf (fun p => (cfgs p).toPCfg) (fun p => (cfgs p).toPCfg_adm) (dats m ρ) 0 cellOf_inj (0 : Fin 1)
    winFacts0.to₀ ownSemFacts (Pipeline.PreFacts.none _) EP defs₀ 𝒱₀ m ρ main
    (hmain := fun _ => rfl)
    (hbody := body_obligation m ρ) (hne := fun w => by fin_cases w <;> exact Nat.succ_pos _) (harr := arr_whole0) (hstage := stage_whole0) (hshare := share_eq m ρ)
    (hdistinct := winFacts0.arr_inj)
    (O₀ := owe0) (howed₀ := fun _ => rfl) (howedN := fun _ => rfl)
    (L := L) (lv := lv) (hL := L_of_ne) (hwaits := waits m ρ)
    (G := G (xAt m ρ) (wbAt m ρ)) (G' := G' (xAt m ρ) (wbAt m ρ)) (u₀ := u₀)
    (hu₀ := by
      unfold u₀
      iintro Hu
      ihave H := (ownU_pair _ _) $$ Hu
      icases H with ⟨HP, HX⟩
      imod (fund_ring (xAt m ρ) (wbAt m ρ)) $$ HX with HG
      imodintro
      isplitl [HP] <;> iassumption)
    (hglob := glob (xAt m ρ) (wbAt m ρ))
    (hA := fun _ _ => rfl) (hpf := fun _ k => k.elim0)
    (X := start (xAt m ρ) (wbAt m ρ)) (Y := fun c => unscopedSems0 c) (Z := fun _ => iprop(emp))
    (hX := launch_start m ρ) (hin := phi0_intro m ρ) (hout := phi1_exit m ρ)
    (QY := fun c s => ∀ sm : SemLoc sig, sm.isScoped .tc = false → s.sem ((c.tc : Thread nD τ), sm) = 0)
    (hY := fun c s' => by
      iintro ⟨Hu, -, HSI⟩
      iapply (Pipeline.unscopedSems0_read (X := unscopedSems0 c) (c := c) fupd_intro s')
      isplitl [Hu] <;> iassumption)
    (hQ := fun _ h hs => ⟨fun c w => (h c).1 w, sem_eq_zero hs fun c => (h c).2.2⟩)

/-! ## What the arrays hold -/

theorem finalA_in (c : Dev nD) (w : Fin 5) (h : w ≠ 4) : finalA m ρ c w = m ((cfg0.win w).arr.view.loc (c : Thread nD τ)) := by
  refine (dats (F := F) m ρ 0 c).arrAt_in w ?_ _
  fin_cases w
  · rfl
  · rfl
  · rfl
  · rfl
  · exact absurd rfl h

end

end Cert.KernelIdeal.K

end
-- ==== Proof.K.Frames.lean ====
/- The frames of the two programs, from the one run: their text is the same. -/
module

public import proofs.«01_k».proof.Defs
public import proofs.«01_k».proof.Proof.K.Launch
public import proofs.«01_k».proof.Proof.Gen.Kernel

@[expose] public section

set_option maxRecDepth 20000

noncomputable section

namespace Cert.KernelIdeal.K

open Idealize.ShloMosaic Idealize.ShloMosaic.TcCoe Idealize.SL.Sem
open Cert.KernelIdeal.Gen

variable {F : FTy → Type} [FloatOps F]

/-- The arguments end as they began, over any float values. -/
theorem args_kept (m : (ℓ : Loc nD τ sig) → Buf (Elt F) ℓ) (ρ : Dev nD → PrngReg) {r : PUnit × MemSt nD τ sig (Elt F)} (h : QC m ρ r) (c : Dev nD) :
    r.2.mem ((c.tc : Thread nD τ).loc main_arg0) = m ((c.tc : Thread nD τ).loc main_arg0)
    ∧ r.2.mem ((c.tc : Thread nD τ).loc main_arg1) = m ((c.tc : Thread nD τ).loc main_arg1)
    ∧ r.2.mem ((c.tc : Thread nD τ).loc main_arg2) = m ((c.tc : Thread nD τ).loc main_arg2)
    ∧ r.2.mem ((c.tc : Thread nD τ).loc main_arg3) = m ((c.tc : Thread nD τ).loc main_arg3) :=
  ⟨(h c (0 : Fin 5)).trans (finalA_in m ρ c 0 (by decide)), (h c (1 : Fin 5)).trans (finalA_in m ρ c 1 (by decide)),
    (h c (2 : Fin 5)).trans (finalA_in m ρ c 2 (by decide)), (h c (3 : Fin 5)).trans (finalA_in m ρ c 3 (by decide))⟩

/-- The frame, over any float values, with no condition on the arguments. -/
def Frame (F : FTy → Type) [FloatOps F] : Prop :=
  ∀ (m : (ℓ : Loc nD τ sig) → Buf (Elt F) ℓ) (ρ : Dev nD → PrngReg), True →
    θ_run (defs (F := F)) (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0)

theorem frame : Frame F := fun m ρ _ =>
  (θ_run defs _ _).mono (fun _ h => ⟨fun c => args_kept m ρ h.1 c, h.2⟩) (run_main m ρ)

theorem frame_ideal : Cert.quiescent_KernelIdeal := frame

theorem frame_same : Cert.quiescent_Kernel = Frame Bits := by chain_rfl

theorem frame_kernel : Cert.quiescent_Kernel := frame_same.mpr frame

end Cert.KernelIdeal.K

end
-- ==== Proof.K.Value.lean ====
/- What the two rings compute, read over the reals: the whole sum over the devices. -/
module

public import proofs.«01_k».proof.Proof.K.Ends
public import Idealize.ShloMosaic.Lib.MatmulPlain
public import Idealize.ShloMosaic.Lib.ValueIdx

@[expose] public section

set_option maxRecDepth 20000

noncomputable section

namespace Cert.KernelIdeal.K

open Cert.KernelIdeal.Gen
open Idealize.ShloMosaic Idealize.ShloMosaic.TcCoe Idealize.ShloMosaic.ValueIdx

/-! ## One product -/

/-- The column of one half. -/
abbrev colOf (b : Bool) (l : Fin 1024) : Fin 2048 := ⟨1024 * b.toNat + l.val, by cases b <;> simp <;> omega⟩

theorem half_at (b : Bool) (w : FVec Ideal S128x2048 .bf16) (k : Fin 128) (l : Fin 1024) : half b w (ix2 k l) = w (ix2 k (colOf b l)) := by
  cases b
  · unfold half
    refine congrArg w (funext fun d => Fin.ext ?_)
    match d with
    | ⟨0, _⟩ => show 0 + k.val = k.val; omega
    | ⟨1, _⟩ => show 0 + l.val = 1024 * 0 + l.val; omega
  · unfold half
    refine congrArg w (funext fun d => Fin.ext ?_)
    match d with
    | ⟨0, _⟩ => show 0 + k.val = k.val; omega
    | ⟨1, _⟩ => show 1024 + l.val = 1024 * 1 + l.val; omega

theorem cast_self (x : Vec Ideal S128x128 .fp8e4m3) : shapeCast S128x128 x shapeCasts_S128x128_S128x128 = x := shapeCast_self x _

theorem dotv_at (b : Bool) (w : FVec Ideal S128x2048 .bf16) (x : Vec Ideal S128x128 .fp8e4m3) (r : Fin 128) (l : Fin 1024) :
    dotv b w x (ix2 r l) = ∑ k : Fin 128, x (ix2 r k) * w (ix2 k (colOf b l)) := by
  unfold dotv
  rw [cast_self]
  refine (Ideal.matmul_plain_apply (M := 128) (K := 128) (N := 1024) none _ _ _ r l).trans ?_
  rw [constant_apply, Ideal.ofBits_zero_f32, zero_add]
  exact Finset.sum_congr rfl fun k _ => by rw [half_at]; rfl

/-! ## The sums along the rings -/

section
variable (X : Dev nD → Vec Ideal S4096x128 .fp8e4m3) (W : Dev nD → FVec Ideal S128x2048 .bf16)

/-- What one device adds to one element of the whole product. -/
def D (d : Dev nD) (i : Fin 4096) (j : Fin 2048) : EReal := ∑ k : Fin 128, X d (ix2 i k) * W d (ix2 k j)

/-- The row of the whole product that a row of a block is. -/
abbrev rowOf (q : Fin 8) (k : Fin 4) (r : Fin 128) : Fin 4096 := ⟨128 * q.val + 1024 * k.val + r.val, by omega⟩

theorem dot_block (b : Bool) (d : Dev nD) (q : Fin 8) (k : Fin 4) (r : Fin 128) (l : Fin 1024) :
    dotv b (W d) (xb (X d) q k) (ix2 r l) = D X W d (rowOf q k r) (colOf b l) := by
  rw [dotv_at]
  refine Finset.sum_congr rfl fun e _ => congrArg (· * _) (congrArg (X d) (funext fun a => Fin.ext ?_))
  match a with
  | ⟨0, _⟩ => show 128 * q.val + 1024 * k.val + 1 * r.val = 128 * q.val + 1024 * k.val + r.val; omega
  | ⟨1, _⟩ => show 0 + 1 * e.val = e.val; omega

/-- The chunk of rows the sum at step `s` belongs to, in each ring. -/
def ch (b : Bool) (c : Dev nD) : Nat → Fin 8
  | 0 => q0 b c
  | s + 1 => qc b c s
def ch2 (b : Bool) (c : Dev nD) : Nat → Fin 4
  | 0 => r0 b c
  | s + 1 => rc b c s

theorem ch_back : ∀ (b : Bool) (c : Dev nD) (s : Fin 7), ch b (nbr false (!b) c) s.val = qc b c s.val := by decide +kernel
theorem ch2_back : ∀ (b : Bool) (c : Dev nD) (s : Fin 3), ch2 b (nbr true (!b) c) s.val = rc b c s.val := by decide +kernel
theorem qc_back : ∀ (b : Bool) (c : Dev nD), qc b (nbr true (!b) c) 6 = qc b c 6 := by decide +kernel

theorem acc_at (v : FVec Ideal S128x1024 .bf16) (p : FVec Ideal S128x1024 .f32) (i : S128x1024.Idx) : accv v p i = (v i + p i : EReal) := rfl
theorem rnd_at (v : FVec Ideal S128x1024 .f32) (i : S128x1024.Idx) : rnd v i = v i := rfl

/-- A travelling partial sum of the first ring is the sum over the devices behind. -/
theorem R_at (b : Bool) (k : Fin 4) (r : Fin 128) (l : Fin 1024) : ∀ (s : Nat) (hs : s < 7) (c : Dev nD),
    R X W b s c k (ix2 r l) = ∑ t ∈ Finset.range (s + 1), D X W ((nbr false (!b))^[t] c) (rowOf (ch b c s) k r) (colOf b l)
  | 0, _, c => by
    rw [Finset.sum_range_one]
    exact dot_block X W b c (q0 b c) k r l
  | s + 1, hs, c => by
    rw [Finset.sum_range_succ']
    have h := R_at b k r l s (by omega) (nbr false (!b) c)
    rw [ch_back b c ⟨s, by omega⟩] at h
    have h' := dot_block X W b c (qc b c s) k r l
    exact congrArg₂ (fun x y : EReal => x + y) h h'

/-- A finished sum of the first ring is the sum over the device's row of the mesh. -/
theorem Bn_at (b : Bool) (k : Fin 4) (r : Fin 128) (l : Fin 1024) (c : Dev nD) :
    Bn X W b c k (ix2 r l) = ∑ t ∈ Finset.range 8, D X W ((nbr false (!b))^[t] c) (rowOf (qc b c 6) k r) (colOf b l) := by
  rw [Finset.sum_range_succ']
  have h := R_at X W b k r l 6 (by omega) (nbr false (!b) c)
  rw [ch_back b c ⟨6, by omega⟩] at h
  exact congrArg₂ (fun x y : EReal => x + y) h (dot_block X W b c (qc b c 6) k r l)

theorem T_at (b : Bool) (r : Fin 128) (l : Fin 1024) : ∀ (s : Nat) (hs : s < 3) (c : Dev nD),
    T X W b s c (ix2 r l) = ∑ u ∈ Finset.range (s + 1), ∑ t ∈ Finset.range 8,
      D X W ((nbr false (!b))^[t] ((nbr true (!b))^[u] c)) (rowOf (qc b c 6) (ch2 b c s) r) (colOf b l)
  | 0, _, c => by
    rw [Finset.sum_range_one]
    exact Bn_at X W b (r0 b c) r l c
  | s + 1, hs, c => by
    rw [Finset.sum_range_succ']
    have h := T_at b r l s (by omega) (nbr true (!b) c)
    rw [ch2_back b c ⟨s, by omega⟩, qc_back] at h
    exact congrArg₂ (fun x y : EReal => x + y) h (Bn_at X W b (rc b c s) r l c)

/-- The device a number of steps back along each ring. -/
def bk (b : Bool) (c : Dev nD) (p : Fin 4 × Fin 8) : Dev nD := (nbr false (!b))^[p.2.val] ((nbr true (!b))^[p.1.val] c)

theorem bk_onto : ∀ (b : Bool) (c d : Dev nD), bk b c (match b with
    | false => (⟨(c.val / 8 + (4 - d.val / 8)) % 4, Nat.mod_lt _ (by decide)⟩, ⟨(c.val % 8 + (8 - d.val % 8)) % 8, Nat.mod_lt _ (by decide)⟩)
    | true => (⟨(d.val / 8 + (4 - c.val / 8)) % 4, Nat.mod_lt _ (by decide)⟩, ⟨(d.val % 8 + (8 - c.val % 8)) % 8, Nat.mod_lt _ (by decide)⟩)) = d := by
  decide +kernel

theorem bk_bij (b : Bool) (c : Dev nD) : Function.Bijective (bk b c) :=
  (Fintype.bijective_iff_surjective_and_card _).mpr ⟨fun d => ⟨_, bk_onto b c d⟩, rfl⟩

theorem own_row : ∀ (b : Bool) (c : Dev nD), 128 * (qc b c 6).val + 1024 * (rc b c 2).val = 128 * c.val := by decide +kernel

/-- A device's row of the whole product. -/
abbrev devRow (c : Dev nD) (r : Fin 128) : Fin 4096 := ⟨128 * c.val + r.val, by have := c.isLt; unfold nD at *; omega⟩

/-- The finished sum of both rings is the sum over all devices. -/
theorem total_at (b : Bool) (c : Dev nD) (r : Fin 128) (l : Fin 1024) :
    accv (T X W b 2 (nbr true (!b) c)) (Bn X W b c (rc b c 2)) (ix2 r l) = ∑ d : Dev nD, D X W d (devRow c r) (colOf b l) := by
  have h := T_at X W b r l 2 (by omega) (nbr true (!b) c)
  rw [ch2_back b c ⟨2, by omega⟩, qc_back] at h
  have hrow : rowOf (qc b c 6) (rc b c 2) r = devRow c r := Fin.ext (congrArg (· + r.val) (own_row b c))
  have h4 : accv (T X W b 2 (nbr true (!b) c)) (Bn X W b c (rc b c 2)) (ix2 r l) = ∑ u ∈ Finset.range 4, ∑ t ∈ Finset.range 8,
      D X W ((nbr false (!b))^[t] ((nbr true (!b))^[u] c)) (rowOf (qc b c 6) (rc b c 2) r) (colOf b l) := by
    rw [Finset.sum_range_succ']
    exact congrArg₂ (fun x y : EReal => x + y) h (Bn_at X W b (rc b c 2) r l c)
  rw [h4, hrow, Finset.sum_range]
  simp only [Finset.sum_range]
  rw [← Fintype.sum_prod_type' (f := fun (u : Fin 4) (t : Fin 8) => D X W ((nbr false (!b))^[t.val] ((nbr true (!b))^[u.val] c)) (devRow c r) (colOf b l))]
  exact (bk_bij b c).sum_comp (fun d => D X W d (devRow c r) (colOf b l))

/-- Every element of a device's rows of the result. -/
theorem out_at (sx sw : EReal) (c : Dev nD) (r : Fin 128) (j : Fin 2048) :
    outV X W sx sw c (ix2 r j) = max ((∑ d : Dev nD, D X W d (devRow c r) j) * (sx * sw)) 0 := by
  have hF (b : Bool) (l : Fin 1024) : Fn X W sx sw b c (ix2 r l) = max ((∑ d : Dev nD, D X W d (devRow c r) (colOf b l)) * (sx * sw)) 0 := by
    rw [← total_at X W b c r l, ← Ideal.ofBits_zero_f32]; rfl
  unfold outV
  by_cases h : j.val < 1024
  · rw [dif_pos h, hF false ⟨j.val, h⟩]
    have e : colOf false ⟨j.val, h⟩ = j := Fin.ext (by show 1024 * 0 + j.val = j.val; omega)
    rw [e]
  · rw [dif_neg h, hF true ⟨j.val - 1024, by omega⟩]
    have e : colOf true ⟨j.val - 1024, by omega⟩ = j := Fin.ext (by show 1024 * 1 + (j.val - 1024) = j.val; omega)
    rw [e]

end

end Cert.KernelIdeal.K

end
-- ==== Proof.K.RefValue.lean ====
/- What the reference leaves: the whole product, scaled, and no less than zero. -/
module

public import proofs.«01_k».proof.Proof.Gen.ReferenceIdeal.Value
public import Idealize.ShloMosaic.Lib.Pipeline.ValueKit
public import Idealize.ShloMosaic.Lib.Pipeline.ReadBack
public import Idealize.ShloMosaic.Lib.MatmulPlain
public import Idealize.ShloMosaic.Lib.ValueIdx

@[expose] public section

set_option maxRecDepth 20000

noncomputable section

namespace Cert.ReferenceIdeal.K

open Cert.ReferenceIdeal.Gen
open Idealize.ShloMosaic Idealize.ShloMosaic.TcCoe Idealize.SL.Sem

section
variable {F : FTy → Type} [FloatOps F] (m : (ℓ : Loc nD τ sig) → Buf (Elt F) ℓ) (c : Dev nD)

/-- The result as the reference's own expression of its arguments. -/
def resV : Vec F S4096x2048 .f32 :=
  k0_pay1 (m ((c : Thread nD τ).loc main_arg0)) (m ((c : Thread nD τ).loc main_arg1))
    (m ((c : Thread nD τ).loc main_arg2) (ValueIdx.ix1 0)) (m ((c : Thread nD τ).loc main_arg3) (ValueIdx.ix1 0))

/-! ## Each window is its whole array -/

theorem z0 : ∀ (t : Fin cfg0.N) (a : Fin 2), win0_0.index t a = 0 := by decide +kernel
theorem emb0 (t : Fin cfg0.N) (y : S4096x4096.Idx) : ((View.whole main_arg0).slice (win0_0.rect t)).emb y = y :=
  funext fun a => Fin.ext (win0_0.rect_emb_val_of_index_zero t a (z0 t a) y)
theorem iblk0 (t : Fin cfg0.N) : iblk m c 0 t = m ((c : Thread nD τ).loc main_arg0) := by
  funext y
  unfold iblk
  rw [View.read_apply]
  blk_simp
  have e : (win0_0.blk t).view.emb y = y := emb0 t y
  exact congrArg (m ((c : Thread nD τ).loc main_arg0)) e

theorem z1 : ∀ (t : Fin cfg0.N) (a : Fin 2), win0_1.index t a = 0 := by decide +kernel
theorem emb1 (t : Fin cfg0.N) (y : S4096x2048.Idx) : ((View.whole main_arg1).slice (win0_1.rect t)).emb y = y :=
  funext fun a => Fin.ext (win0_1.rect_emb_val_of_index_zero t a (z1 t a) y)
theorem iblk1 (t : Fin cfg0.N) : iblk m c 1 t = m ((c : Thread nD τ).loc main_arg1) := by
  funext y
  unfold iblk
  rw [View.read_apply]
  blk_simp
  have e : (win0_1.blk t).view.emb y = y := emb1 t y
  exact congrArg (m ((c : Thread nD τ).loc main_arg1)) e

theorem z2 : ∀ (t : Fin cfg0.N) (a : Fin 1), win0_2.index t a = 0 := by decide +kernel
theorem emb2 (t : Fin cfg0.N) (y : S1.Idx) : ((View.whole main_arg2).slice (win0_2.rect t)).emb y = y :=
  funext fun a => Fin.ext (win0_2.rect_emb_val_of_index_zero t a (z2 t a) y)
theorem iblk2 (t : Fin cfg0.N) : iblk m c 2 t = m ((c : Thread nD τ).loc main_arg2) := by
  funext y
  unfold iblk
  rw [View.read_apply]
  blk_simp
  have e : (win0_2.blk t).view.emb y = y := emb2 t y
  exact congrArg (m ((c : Thread nD τ).loc main_arg2)) e

theorem z3 : ∀ (t : Fin cfg0.N) (a : Fin 1), win0_3.index t a = 0 := by decide +kernel
theorem emb3 (t : Fin cfg0.N) (y : S1.Idx) : ((View.whole main_arg3).slice (win0_3.rect t)).emb y = y :=
  funext fun a => Fin.ext (win0_3.rect_emb_val_of_index_zero t a (z3 t a) y)
theorem iblk3 (t : Fin cfg0.N) : iblk m c 3 t = m ((c : Thread nD τ).loc main_arg3) := by
  funext y
  unfold iblk
  rw [View.read_apply]
  blk_simp
  have e : (win0_3.blk t).view.emb y = y := emb3 t y
  exact congrArg (m ((c : Thread nD τ).loc main_arg3)) e

theorem z4 : ∀ (t : Fin cfg0.N) (a : Fin 2), win0_4.index t a = 0 := by decide +kernel
theorem emb4 (t : Fin cfg0.N) (y : S4096x2048.Idx) : ((View.whole main_v0).slice (win0_4.rect t)).emb y = y :=
  funext fun a => Fin.ext (win0_4.rect_emb_val_of_index_zero t a (z4 t a) y)

theorem arr_eq : (dats m 0 c).arrAt 4 cfg0.N = resV m c := by
  refine (dats m 0 c).arrAt_eq_of_covers 4 _ (by decide +kernel) fun t hf y => ?_
  blk_simp
  rw [after0_4]
  unfold outsAt0
  frame_out
  simp only [read_unread_whole]
  have e1 (x y : S1.Idx) : x = y := funext fun a => match a with | ⟨0, _⟩ => Subsingleton.elim (α := Fin 1) _ _
  rw [iblk0, iblk1, iblk2, iblk3]
  refine Eq.trans ?_ (congrArg (resV m c) (emb4 t y)).symm
  unfold resV
  rw [e1 (Shape.Idx.first _) (ValueIdx.ix1 0)]

end

/-- An element of the result over the reals. -/
theorem pay_at (x : Vec Ideal S4096x4096 .fp8e4m3) (w : Vec Ideal S4096x2048 .fp8e5m2) (sx sw : EReal) (i : Fin 4096) (j : Fin 2048) :
    k0_pay1 x w sx sw (ValueIdx.ix2 i j) = max ((∑ k : Fin 4096, x (ValueIdx.ix2 i k) * w (ValueIdx.ix2 k j)) * (sx * sw)) 0 := by
  unfold k0_pay1
  rw [ValueIdx.maximumf_apply]
  refine congrArg₂ (fun x y : EReal => max x y) (congrArg (fun x : EReal => x * _) ?_) Ideal.ofBits_zero_f32
  refine (Ideal.matmul_plain_apply (M := 4096) (K := 4096) (N := 2048) none _ _ _ i j).trans ?_
  rw [ValueIdx.constant_apply, Ideal.ofBits_zero_f32, zero_add]
  rfl

end Cert.ReferenceIdeal.K

end
-- ==== Proof.K.Algebraic.lean ====
/- The kernel's result is the device's rows of the reference's. -/
module

public import proofs.«01_k».proof.Proof.K.Frames
public import proofs.«01_k».proof.Proof.K.Value
public import proofs.«01_k».proof.Proof.K.RefValue

@[expose] public section

set_option maxRecDepth 20000

noncomputable section

namespace Cert.KernelIdeal.K

open Cert.KernelIdeal.Gen
open Idealize.ShloMosaic Idealize.ShloMosaic.TcCoe Idealize.SL.Sem

section
variable {F : FTy → Type} [FloatOps F] (m : (ℓ : Loc nD τ sig) → Buf (Elt F) ℓ) (ρ : Dev nD → PrngReg) (c : Dev nD)

/-! ## Each window is its whole array -/

theorem first0 : ∀ (t : Fin cfg0.N) (a : Fin 2), win0_0.index t a = 0 := by decide +kernel
theorem emb0 (t : Fin cfg0.N) (y : S4096x128.Idx) : ((View.whole main_arg0).slice (win0_0.rect t)).emb y = y :=
  funext fun a => Fin.ext (win0_0.rect_emb_val_of_index_zero t a (first0 t a) y)
theorem xAt_eq : xAt m ρ c = m ((c : Thread nD τ).loc main_arg0) := by
  funext y
  unfold xAt
  rw [View.read_apply]
  have e : (win0_0.blk (0 : Fin 1)).view.emb y = y := emb0 (0 : Fin 1) y
  exact congrArg (m ((c : Thread nD τ).loc main_arg0)) e

theorem first1 : ∀ (t : Fin cfg0.N) (a : Fin 2), win0_1.index t a = 0 := by decide +kernel
theorem emb1 (t : Fin cfg0.N) (y : S128x2048.Idx) : ((View.whole main_arg1).slice (win0_1.rect t)).emb y = y :=
  funext fun a => Fin.ext (win0_1.rect_emb_val_of_index_zero t a (first1 t a) y)
theorem wAt_eq : wAt m ρ c = m ((c : Thread nD τ).loc main_arg1) := by
  funext y
  unfold wAt
  rw [View.read_apply]
  have e : (win0_1.blk (0 : Fin 1)).view.emb y = y := emb1 (0 : Fin 1) y
  exact congrArg (m ((c : Thread nD τ).loc main_arg1)) e

theorem first2 : ∀ (t : Fin cfg0.N) (a : Fin 1), win0_2.index t a = 0 := by decide +kernel
theorem emb2 (t : Fin cfg0.N) (y : S1.Idx) : ((View.whole main_arg2).slice (win0_2.rect t)).emb y = y :=
  funext fun a => Fin.ext (win0_2.rect_emb_val_of_index_zero t a (first2 t a) y)
theorem sxAt_eq : sxAt m ρ c = m ((c : Thread nD τ).loc main_arg2) := by
  funext y
  unfold sxAt
  rw [View.read_apply]
  have e : (win0_2.blk (0 : Fin 1)).view.emb y = y := emb2 (0 : Fin 1) y
  exact congrArg (m ((c : Thread nD τ).loc main_arg2)) e

theorem first3 : ∀ (t : Fin cfg0.N) (a : Fin 1), win0_3.index t a = 0 := by decide +kernel
theorem emb3 (t : Fin cfg0.N) (y : S1.Idx) : ((View.whole main_arg3).slice (win0_3.rect t)).emb y = y :=
  funext fun a => Fin.ext (win0_3.rect_emb_val_of_index_zero t a (first3 t a) y)
theorem swAt_eq : swAt m ρ c = m ((c : Thread nD τ).loc main_arg3) := by
  funext y
  unfold swAt
  rw [View.read_apply]
  have e : (win0_3.blk (0 : Fin 1)).view.emb y = y := emb3 (0 : Fin 1) y
  exact congrArg (m ((c : Thread nD τ).loc main_arg3)) e

theorem first4 : ∀ (t : Fin cfg0.N) (a : Fin 2), win0_4.index t a = 0 := by decide +kernel
theorem emb4 (t : Fin cfg0.N) (y : S128x2048.Idx) : ((View.whole main_v1).slice (win0_4.rect t)).emb y = y :=
  funext fun a => Fin.ext (win0_4.rect_emb_val_of_index_zero t a (first4 t a) y)

/-- The result's array is what the body left. -/
theorem out_arr : finalA m ρ c 4 = outAt m ρ c := by
  unfold finalA
  refine (dats m ρ 0 c).arrAt_eq_of_covers 4 _ (by decide +kernel) fun t hf y => ?_
  blk_simp
  exact congrArg (outAt m ρ c) (emb4 t y).symm

end

/-! ## The whole sum -/

/-- A sum over all 4096 columns, device by device. -/
theorem sum_devs (f : Fin 4096 → EReal) : (∑ d : Dev nD, ∑ k : Fin 128, f (devRow d k)) = ∑ q : Fin 4096, f q := by
  rw [← Fintype.sum_prod_type' (f := fun (d : Dev nD) (k : Fin 128) => f (devRow d k)), ← (finProdFinEquiv (m := 32) (n := 128)).sum_comp f]
  refine Finset.sum_congr rfl fun p _ => congrArg f (Fin.ext ?_)
  show 128 * p.1.val + p.2.val = p.2.val + 128 * p.1.val
  omega

theorem wq_self (v : Vec Ideal S128x2048 .fp8e5m2) : wq v = v := shapeCast_self v _

section
variable (m : (ℓ : Loc nD τ sig) → Buf (Elt Ideal) ℓ) (ρ : Dev nD → PrngReg) (c : Dev nD)
  (x : Vec Ideal ⟨2, ![4096, 4096]⟩ .fp8e4m3) (w : Vec Ideal ⟨2, ![4096, 2048]⟩ .fp8e5m2) (sx sw : Vec Ideal S1 .f32)

/-- The device's rows of the result are its rows of the whole product, scaled, and no less than zero. -/
theorem out_block (hx : ∀ c : Dev nD, m ((c : Thread nD τ).loc main_arg0) = Layout.block ⟨2, ![4096, 128]⟩ ⟨2, ![4096, 4096]⟩ 1 32 c x)
    (hw : ∀ c : Dev nD, m ((c : Thread nD τ).loc main_arg1) = Layout.block ⟨2, ![128, 2048]⟩ ⟨2, ![4096, 2048]⟩ 0 32 c w)
    (hsx : ∀ c : Dev nD, m ((c : Thread nD τ).loc main_arg2) = sx) (hsw : ∀ c : Dev nD, m ((c : Thread nD τ).loc main_arg3) = sw) :
    outAt m ρ c = Layout.block ⟨2, ![128, 2048]⟩ ⟨2, ![4096, 2048]⟩ 0 32 c (Cert.ReferenceIdeal.Gen.k0_pay1 x w (sx (ValueIdx.ix1 0)) (sw (ValueIdx.ix1 0))) := by
  have hsx' : sxAt m ρ c = sx := (sxAt_eq m ρ c).trans (hsx c)
  have hsw' : swAt m ρ c = sw := (swAt_eq m ρ c).trans (hsw c)
  have hx' (d : Dev nD) (i : Fin 4096) (k : Fin 128) : xAt m ρ d (ValueIdx.ix2 i k) = x (ValueIdx.ix2 i (devRow d k)) := by
    rw [xAt_eq, hx]
    refine congrArg x (funext fun a => Fin.ext ?_)
    match a with
    | ⟨0, _⟩ => rfl
    | ⟨1, _⟩ => show d.val * 128 + k.val = 128 * d.val + k.val; omega
  have hw' (d : Dev nD) (k : Fin 128) (j : Fin 2048) : wbAt m ρ d (ValueIdx.ix2 k j) = w (ValueIdx.ix2 (devRow d k) j) := by
    unfold wbAt
    rw [wq_self, wAt_eq, hw]
    refine congrArg w (funext fun a => Fin.ext ?_)
    match a with
    | ⟨0, _⟩ => show d.val * 128 + k.val = 128 * d.val + k.val; omega
    | ⟨1, _⟩ => rfl
  have hD (i : Fin 4096) (j : Fin 2048) : (∑ d : Dev nD, D (xAt m ρ) (wbAt m ρ) d i j) = ∑ q : Fin 4096, x (ValueIdx.ix2 i q) * w (ValueIdx.ix2 q j) := by
    refine Eq.trans (Finset.sum_congr rfl fun d _ => ?_) (sum_devs fun q => x (ValueIdx.ix2 i q) * w (ValueIdx.ix2 q j))
    exact Finset.sum_congr rfl fun k _ => congrArg₂ (fun a b : EReal => a * b) (hx' d i k) (hw' d k j)
  funext y
  obtain ⟨r, j, rfl⟩ : ∃ (r : Fin 128) (j : Fin 2048), y = ValueIdx.ix2 r j := ⟨y 0, y 1, funext fun a => match a with | ⟨0, _⟩ => rfl | ⟨1, _⟩ => rfl⟩
  unfold outAt
  rw [hsx', hsw', out_at, hD, Layout.block_apply]
  refine (Cert.ReferenceIdeal.K.pay_at x w (sx z1) (sw z1) (devRow c r) j).symm.trans (congrArg _ (funext fun a => Fin.ext ?_))
  match a with
  | ⟨0, _⟩ => show 128 * c.val + r.val = c.val * 128 + r.val; omega
  | ⟨1, _⟩ => rfl

end

/-- The kernel and the reference leave the same result over the reals. -/
theorem algebraic : Cert.algebraic_KernelIdeal_ReferenceIdeal (hReferenceIdeal := Cert.ReferenceIdeal.Gen.facts) := fun m g m' g' _ h =>
  ⟨Cert.ReferenceIdeal.K.resV m' 0,
    (θ_run defs _ _).mono (fun r hr c => ⟨((hr.1 c (4 : Fin 5)).trans (out_arr m g c)).trans
        (out_block m g c _ _ _ _ (fun c => (h c).1) (fun c => (h c).2.1) (fun c => (h c).2.2.1) (fun c => (h c).2.2.2)),
      args_kept m g hr.1 c⟩) (run_main m g),
    (θ_run Cert.ReferenceIdeal.defs _ _).mono (fun r hr => ⟨(hr 0).1.trans (Cert.ReferenceIdeal.K.arr_eq m' 0), (hr 0).2⟩)
      (Cert.ReferenceIdeal.Value.run_blocks m' g')⟩

end Cert.KernelIdeal.K

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Skeleton
public import proofs.«01_k».proof.Proof.Gen.ReferenceIdeal.Launch
public import proofs.«01_k».proof.Proof.Gen.ReferenceIdeal.Points
public import proofs.«01_k».proof.Proof.Gen.ReferenceIdeal.Frame
public import proofs.«01_k».proof.Proof.Gen.ReferenceIdeal.Value
public import proofs.«01_k».proof.Proof.K.Frames
public import proofs.«01_k».proof.Proof.K.Algebraic
public import Idealize.ShloMosaic.Adequacy
public import Idealize.ShloMosaic.Init

@[expose] public section

noncomputable section

namespace Cert.Proof

open Idealize.ShloMosaic Idealize.SL.Sem Cert.Kernel

theorem claim : Cert.Claim := ⟨Cert.Kernel.Gen.facts, Cert.KernelIdeal.Gen.facts, Cert.ReferenceIdeal.Gen.facts,
  Cert.KernelIdeal.K.frame_kernel, Cert.KernelIdeal.K.frame_ideal, fun m ρ _ => Cert.ReferenceIdeal.Gen.frame m ρ, trivial,
  Cert.KernelIdeal.K.algebraic⟩

end Cert.Proof

end
